-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_ffn [hPre_finite_ffn : Cert.Pre_finite_ffn.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_ffn [hPre_finite_ffn : Cert.Pre_finite_ffn.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_ffn [hKernel4Ideal : Cert.Kernel4Ideal.Facts] [hPre_finite_ffn : Cert.Pre_finite_ffn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_ffn m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_ffn [hReference4Ideal : Cert.Reference4Ideal.Facts] [hPre_finite_ffn : Cert.Pre_finite_ffn.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_ffn m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_grad_cubic" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_v42) = v3 c
          ∧ r.2.mem ((c.tc : Thread Cert.Reference3Ideal.nD Cert.Reference3Ideal.τ).loc Cert.Reference3Ideal.main_v43) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_ffn [hKernel4Ideal : Cert.Kernel4Ideal.Facts] [hReference4Ideal : Cert.Reference4Ideal.Facts] [hPre_finite_ffn : Cert.Pre_finite_ffn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_ffn m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v48_0)) (v1 : (c : Dev Cert.Kernel4Ideal.nD) → Buf (Elt Ideal) ((c.tc : Thread Cert.Kernel4Ideal.nD Cert.Kernel4Ideal.τ).loc Cert.Kernel4Ideal.main_v48_1)) (v2 : (c : Dev Cert.Kernel4Ideal.nD) → Buf (Elt Ideal) ((c.tc : Thread Cert.Kernel4Ideal.nD Cert.Kernel4Ideal.τ).loc Cert.Kernel4Ideal.main_v48_2)) (v3 : (c : Dev Cert.Kernel4Ideal.nD) → Buf (Elt Ideal) ((c.tc : Thread Cert.Kernel4Ideal.nD Cert.Kernel4Ideal.τ).loc Cert.Kernel4Ideal.main_v48_3)) (v4 : (c : Dev Cert.Kernel4Ideal.nD) → Buf (Elt Ideal) ((c.tc : Thread Cert.Kernel4Ideal.nD Cert.Kernel4Ideal.τ).loc Cert.Kernel4Ideal.main_v48_4)) (v5 : (c : Dev Cert.Kernel4Ideal.nD) → Buf (Elt Ideal) ((c.tc : Thread Cert.Kernel4Ideal.nD Cert.Kernel4Ideal.τ).loc Cert.Kernel4Ideal.main_v48_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v48_0) = v0 c
          ∧ r.2.mem ((c.tc : Thread Cert.Kernel4Ideal.nD Cert.Kernel4Ideal.τ).loc Cert.Kernel4Ideal.main_v48_1) = v1 c
          ∧ r.2.mem ((c.tc : Thread Cert.Kernel4Ideal.nD Cert.Kernel4Ideal.τ).loc Cert.Kernel4Ideal.main_v48_2) = v2 c
          ∧ r.2.mem ((c.tc : Thread Cert.Kernel4Ideal.nD Cert.Kernel4Ideal.τ).loc Cert.Kernel4Ideal.main_v48_3) = v3 c
          ∧ r.2.mem ((c.tc : Thread Cert.Kernel4Ideal.nD Cert.Kernel4Ideal.τ).loc Cert.Kernel4Ideal.main_v48_4) = v4 c
          ∧ r.2.mem ((c.tc : Thread Cert.Kernel4Ideal.nD Cert.Kernel4Ideal.τ).loc Cert.Kernel4Ideal.main_v48_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_v144) = v1 c
          ∧ r.2.mem ((c.tc : Thread Cert.Reference4Ideal.nD Cert.Reference4Ideal.τ).loc Cert.Reference4Ideal.main_v145) = v2 c
          ∧ r.2.mem ((c.tc : Thread Cert.Reference4Ideal.nD Cert.Reference4Ideal.τ).loc Cert.Reference4Ideal.main_v146) = v3 c
          ∧ r.2.mem ((c.tc : Thread Cert.Reference4Ideal.nD Cert.Reference4Ideal.τ).loc Cert.Reference4Ideal.main_v147) = v4 c
          ∧ r.2.mem ((c.tc : Thread Cert.Reference4Ideal.nD Cert.Reference4Ideal.τ).loc Cert.Reference4Ideal.main_v143) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_v22) = v1 c
          ∧ r.2.mem ((c.tc : Thread Cert.Reference10Ideal.nD Cert.Reference10Ideal.τ).loc Cert.Reference10Ideal.main_v23) = v2 c
          ∧ r.2.mem ((c.tc : Thread Cert.Reference10Ideal.nD Cert.Reference10Ideal.τ).loc Cert.Reference10Ideal.main_v20) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_ffn (hKernel4Ideal := hKernel4Ideal) (hPre_finite_ffn := hPre_finite_ffn)
    ∧ quiescent_Reference4Ideal (hReference4Ideal := hReference4Ideal)
    ∧ quiescent_Reference4Ideal_pre_finite_ffn (hReference4Ideal := hReference4Ideal) (hPre_finite_ffn := hPre_finite_ffn)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_ffn (hKernel4Ideal := hKernel4Ideal) (hReference4Ideal := hReference4Ideal) (hPre_finite_ffn := hPre_finite_ffn)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x512 : Shape := ⟨2, ![4096, 512]⟩
abbrev S4x128 : Shape := ⟨2, ![4, 128]⟩
abbrev S4x128x128 : Shape := ⟨3, ![4, 128, 128]⟩
abbrev S_ : Shape := ⟨0, ![]⟩

class Facts : Prop where
  bcast_S_S4096x512 : S_.BroadcastsInDim S4096x512 (![] : Fin 0 → Fin S4096x512.rank)
  bcast_S_S4x128 : S_.BroadcastsInDim S4x128 (![] : Fin 0 → Fin S4x128.rank)
  bcast_S_S4x128x128 : S_.BroadcastsInDim S4x128x128 (![] : Fin 0 → Fin S4x128x128.rank)

variable [Facts]

def fn_part1 {F : FTy → Type} [FloatOps F] (main_arg6 : FVec F S4x128 .f32) (main_v2 : IVec S4096x512 1) (main_v5 : IVec S4096x512 1) (main_v8 : IVec S4096x512 1) (main_v11 : IVec S4x128 1) (main_v14 : IVec S4x128 1) (main_v17 : IVec S4x128x128 1) : IVec S4096x512 1 × IVec S4096x512 1 × IVec S4096x512 1 × IVec S4x128 1 × IVec S4x128 1 × IVec S4x128x128 1 × IVec S4x128 1 :=
  let main_v18 : FVec F S4x128 .f32 := Host.absf main_arg6
  let main_cst_5 : FVec F S_ .f32 := constant S_ .f32 0x7F800000#32
  let main_v19 : FVec F S4x128 .f32 := broadcastInDim S4x128 ![] bcast_S_S4x128 main_cst_5
  let main_v20 : IVec S4x128 1 := cmpf .olt main_v18 main_v19
  (main_v2, main_v5, main_v8, main_v11, main_v14, main_v17, main_v20)

def fn {F : FTy → Type} [FloatOps F] (main_arg0 : FVec F S4096x512 .f32) (main_arg1 : FVec F S4096x512 .f32) (main_arg2 : FVec F S4096x512 .f32) (main_arg3 : FVec F S4x128 .f32) (main_arg4 : FVec F S4x128 .f32) (main_arg5 : FVec F S4x128x128 .f32) (main_arg6 : FVec F S4x128 .f32) : IVec S4096x512 1 × IVec S4096x512 1 × IVec S4096x512 1 × IVec S4x128 1 × IVec S4x128 1 × IVec S4x128x128 1 × IVec S4x128 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S4x128x128 .f32 := Host.absf main_arg5
  let main_cst_4 : FVec F S_ .f32 := constant S_ .f32 0x7F800000#32
  let main_v16 : FVec F S4x128x128 .f32 := broadcastInDim S4x128x128 ![] bcast_S_S4x128x128 main_cst_4
  let main_v17 : IVec S4x128x128 1 := cmpf .olt main_v15 main_v16
  fn_part1 (F := F) main_arg6 main_v2 main_v5 main_v8 main_v11 main_v14 main_v17
-- ==== Pre_finite_ffn.lean ====
abbrev S4096x1024 : Shape := ⟨2, ![4096, 1024]⟩
abbrev S3x1024 : Shape := ⟨2, ![3, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S3x1024 : S_.BroadcastsInDim S3x1024 (![] : Fin 0 → Fin S3x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S4096x1024 .f32) (main_v2 : IVec S4096x1024 1) (main_v5 : IVec S3x1024 1) (main_v8 : IVec S1024 1) (main_v11 : IVec S1024x2816 1) (main_v14 : IVec S1024x2816 1) (main_v17 : IVec S2816x1024 1) : IVec S4096x1024 1 × IVec S3x1024 1 × IVec S1024 1 × IVec S1024x2816 1 × IVec S1024x2816 1 × IVec S2816x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S3x1024 .f32) (main_arg2 : FVec F S1024 .f32) (main_arg3 : FVec F S1024x2816 .f32) (main_arg4 : FVec F S1024x2816 .f32) (main_arg5 : FVec F S2816x1024 .f32) (main_arg6 : FVec F S4096x1024 .f32) : IVec S4096x1024 1 × IVec S3x1024 1 × IVec S1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S3x1024 .f32 := Host.absf main_arg1
  let main_cst_0 : FVec F S_ .f32 := constant S_ .f32 0x7F800000#32
  let main_v4 : FVec F S3x1024 .f32 := broadcastInDim S3x1024 ![] bcast_S_S3x1024 main_cst_0
  let main_v5 : IVec S3x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Kernel.lean ====
abbrev S4096x512 : Shape := ⟨2, ![4096, 512]⟩
abbrev S4x128 : Shape := ⟨2, ![4, 128]⟩
abbrev S4x128x128 : Shape := ⟨3, ![4, 128, 128]⟩
abbrev S1x512 : Shape := ⟨2, ![1, 512]⟩
abbrev S_ : Shape := ⟨0, ![]⟩
abbrev S128x128 : Shape := ⟨2, ![128, 128]⟩
abbrev S128x4 : Shape := ⟨2, ![128, 4]⟩
abbrev S4096x1024 : Shape := ⟨2, ![4096, 1024]⟩
abbrev S8x512 : Shape := ⟨2, ![8, 512]⟩
abbrev S512x512 : Shape := ⟨2, ![512, 512]⟩
abbrev S512x1024 : Shape := ⟨2, ![512, 1024]⟩
abbrev S1x128x128 : Shape := ⟨3, ![1, 128, 128]⟩
abbrev S1x128 : Shape := ⟨2, ![1, 128]⟩
abbrev S128 : Shape := ⟨1, ![128]⟩
abbrev S128x1 : Shape := ⟨2, ![128, 1]⟩
abbrev S512 : Shape := ⟨1, ![512]⟩

abbrev nBuf : Space → Nat
  | .hbm => 39
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4x128, .f32⟩
  | .hbm, ⟨4, _⟩ => ⟨S4x128, .f32⟩
  | .hbm, ⟨5, _⟩ => ⟨S4x128x128, .f32⟩
  | .hbm, ⟨6, _⟩ => ⟨S4x128, .f32⟩
  | .hbm, ⟨7, _⟩ => ⟨S1x512, .f32⟩
  | .hbm, ⟨8, _⟩ => ⟨S1x512, .f32⟩
  | .hbm, ⟨9, _⟩ => ⟨S_, .i1⟩
  | .hbm, ⟨10, _⟩ => ⟨S128x128, .i1⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .i1⟩
  | .hbm, ⟨18, _⟩ => ⟨S128x128, .i1⟩
  | .hbm, ⟨19, _⟩ => ⟨S128x128, .i1⟩
  | .hbm, ⟨20, _⟩ => ⟨S128x4, .f32⟩
  | .hbm, ⟨21, _⟩ => ⟨S4096x1024, .bf16⟩
  | .hbm, ⟨22, _⟩ => ⟨S8x512, .f32⟩
  | .hbm, ⟨23, _⟩ => ⟨S4x128x128, .f32⟩
  | .hbm, ⟨24, _⟩ => ⟨S4x128x128, .f32⟩
  | .hbm, ⟨25, _⟩ => ⟨S1x512, .f32⟩
  | .hbm, ⟨26, _⟩ => ⟨S512, .f32⟩
  | .hbm, ⟨27, _⟩ => ⟨S4x128, .f32⟩
  | .hbm, ⟨28, _⟩ => ⟨S1x512, .f32⟩
  | .hbm, ⟨29, _⟩ => ⟨S512, .f32⟩
  | .hbm, ⟨30, _⟩ => ⟨S4x128, .f32⟩
  | .hbm, ⟨31, _⟩ => ⟨S1x128x128, .i1⟩
  | .hbm, ⟨32, _⟩ => ⟨S_, .f32⟩
  | .hbm, ⟨33, _⟩ => ⟨S_, .f32⟩
  | .hbm, ⟨34, _⟩ => ⟨S4x128x128, .i1⟩
  | .hbm, ⟨35, _⟩ => ⟨S4x128x128, .f32⟩
  | .hbm, ⟨36, _⟩ => ⟨S4x128x128, .f32⟩
  | .hbm, ⟨37, _⟩ => ⟨S_, .f32⟩
  | .hbm, ⟨38, _⟩ => ⟨S4x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S128x4, .f32⟩
  | .local _ .vmem, ⟨10, _⟩ => ⟨S512x1024, .bf16⟩
  | .local _ .vmem, ⟨11, _⟩ => ⟨S512x1024, .bf16⟩
  | .local _ .vmem, ⟨12, _⟩ => ⟨S8x512, .f32⟩
  | .local _ .vmem, ⟨13, _⟩ => ⟨S4x128x128, .f32⟩
  | .local _ .vmem, ⟨14, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_cubic" => some ((8943 / 200000 : ℝ) : EReal)
  | "gelu_grad_cubic" => some ((26829 / 200000 : ℝ) : EReal)
  | _ => none
-- ==== ReferenceIdeal.lean ====
abbrev S4096x512 : Shape := ⟨2, ![4096, 512]⟩
abbrev S4x128 : Shape := ⟨2, ![4, 128]⟩
abbrev S4x128x128 : Shape := ⟨3, ![4, 128, 128]⟩
abbrev S1x4096x4x128 : Shape := ⟨4, ![1, 4096, 4, 128]⟩
abbrev S_ : Shape := ⟨0, ![]⟩
abbrev S1x4096x4 : Shape := ⟨3, ![1, 4096, 4]⟩
abbrev S1x4096x4x1 : Shape := ⟨4, ![1, 4096, 4, 1]⟩
abbrev S1x1x4x128 : Shape := ⟨4, ![1, 1, 4, 128]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S1x4x128 : Shape := ⟨3, ![1, 4, 128]⟩
abbrev S4096x4 : Shape := ⟨2, ![4096, 4]⟩
abbrev S4096x1024 : Shape := ⟨2, ![4096, 1024]⟩

abbrev nBuf : Space → Nat
  | .hbm => 239
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4x128, .f32⟩
  | 4 => ⟨S4x128, .f32⟩
  | 5 => ⟨S4x128x128, .f32⟩
  | 6 => ⟨S4x128, .f32⟩
  | 7 => ⟨S1x4096x4x128, .f32⟩
  | 8 => ⟨S1x4096x4x128, .f32⟩
  | 9 => ⟨S1x4096x4x128, .f32⟩
  | 10 => ⟨S1x4096x4x128, .f32⟩
  | 11 => ⟨S1x4096x4x128, .f32⟩
  | 12 => ⟨S_, .f32⟩
  | 13 => ⟨S1x4096x4x128, .f32⟩
  | 14 => ⟨S1x4096x4x128, .f32⟩
  | 15 => ⟨S_, .f32⟩
  | 16 => ⟨S1x4096x4x128, .f32⟩
  | 17 => ⟨S1x4096x4x128, .f32⟩
  | 18 => ⟨S_, .f32⟩
  | 19 => ⟨S1x4096x4x128, .f32⟩
  | 20 => ⟨S1x4096x4x128, .f32⟩
  | 21 => ⟨S1x4096x4x128, .f32⟩
  | 22 => ⟨S_, .f32⟩
  | 23 => ⟨S1x4096x4x128, .f32⟩
  | 24 => ⟨S1x4096x4x128, .f32⟩
  | 25 => ⟨S1x4096x4x128, .f32⟩
  | 26 => ⟨S_, .f32⟩
  | 27 => ⟨S1x4096x4x128, .f32⟩
  | 28 => ⟨S1x4096x4x128, .f32⟩
  | 29 => ⟨S_, .f32⟩
  | 30 => ⟨S1x4096x4x128, .f32⟩
  | 31 => ⟨S1x4096x4x128, .f32⟩
  | 32 => ⟨S1x4096x4x128, .f32⟩
  | 33 => ⟨S_, .f32⟩
  | 34 => ⟨S1x4096x4x128, .f32⟩
  | 35 => ⟨S1x4096x4x128, .f32⟩
  | 36 => ⟨S_, .f32⟩
  | 37 => ⟨S1x4096x4x128, .f32⟩
  | 38 => ⟨S1x4096x4x128, .f32⟩
  | 39 => ⟨S1x4096x4x128, .f32⟩
  | 40 => ⟨S1x4096x4x128, .f32⟩
  | 41 => ⟨S1x4096x4x128, .f32⟩
  | 42 => ⟨S1x4096x4x128, .f32⟩
  | 43 => ⟨S_, .f32⟩
  | 44 => ⟨S1x4096x4x128, .f32⟩
  | 45 => ⟨S1x4096x4x128, .f32⟩
  | 46 => ⟨S_, .f32⟩
  | 47 => ⟨S1x4096x4x128, .f32⟩
  | 48 => ⟨S1x4096x4x128, .f32⟩
  | 49 => ⟨S_, .f32⟩
  | 50 => ⟨S1x4096x4x128, .f32⟩
  | 51 => ⟨S1x4096x4x128, .f32⟩
  | 52 => ⟨S1x4096x4x128, .f32⟩
  | 53 => ⟨S_, .f32⟩
  | 54 => ⟨S1x4096x4x128, .f32⟩
  | 55 => ⟨S1x4096x4x128, .f32⟩
  | 56 => ⟨S1x4096x4x128, .f32⟩
  | 57 => ⟨S_, .f32⟩
  | 58 => ⟨S1x4096x4x128, .f32⟩
  | 59 => ⟨S1x4096x4x128, .f32⟩
  | 60 => ⟨S_, .f32⟩
  | 61 => ⟨S1x4096x4x128, .f32⟩
  | 62 => ⟨S1x4096x4x128, .f32⟩
  | 63 => ⟨S1x4096x4x128, .f32⟩
  | 64 => ⟨S_, .f32⟩
  | 65 => ⟨S1x4096x4x128, .f32⟩
  | 66 => ⟨S1x4096x4x128, .f32⟩
  | 67 => ⟨S_, .f32⟩
  | 68 => ⟨S1x4096x4x128, .f32⟩
  | 69 => ⟨S1x4096x4x128, .f32⟩
  | 70 => ⟨S1x4096x4x128, .f32⟩
  | 71 => ⟨S_, .f32⟩
  | 72 => ⟨S1x4096x4, .f32⟩
  | 73 => ⟨S1x4096x4x1, .f32⟩
  | 74 => ⟨S_, .f32⟩
  | 75 => ⟨S1x4096x4x1, .f32⟩
  | 76 => ⟨S1x4096x4x1, .f32⟩
  | 77 => ⟨S1x4096x4x128, .f32⟩
  | 78 => ⟨S1x4096x4x128, .f32⟩
  | 79 => ⟨S1x4096x4x128, .f32⟩
  | 80 => ⟨S_, .f32⟩
  | 81 => ⟨S1x4096x4x128, .f32⟩
  | 82 => ⟨S1x4096x4x128, .f32⟩
  | 83 => ⟨S_, .f32⟩
  | 84 => ⟨S1x4096x4, .f32⟩
  | 85 => ⟨S1x4096x4x1, .f32⟩
  | 86 => ⟨S_, .f32⟩
  | 87 => ⟨S1x4096x4x1, .f32⟩
  | 88 => ⟨S1x4096x4x1, .f32⟩
  | 89 => ⟨S1x4096x4x128, .f32⟩
  | 90 => ⟨S1x4096x4x128, .f32⟩
  | 91 => ⟨S_, .f32⟩
  | 92 => ⟨S1x4096x4x1, .f32⟩
  | 93 => ⟨S1x4096x4x1, .f32⟩
  | 94 => ⟨S1x4096x4x1, .f32⟩
  | 95 => ⟨S1x4096x4x1, .f32⟩
  | 96 => ⟨S_, .f32⟩
  | 97 => ⟨S1x4096x4x1, .f32⟩
  | 98 => ⟨S1x4096x4x1, .f32⟩
  | 99 => ⟨S1x4096x4x128, .f32⟩
  | 100 => ⟨S1x4096x4x128, .f32⟩
  | 101 => ⟨S1x1x4x128, .f32⟩
  | 102 => ⟨S1x4096x4x128, .f32⟩
  | 103 => ⟨S1x4096x4x128, .f32⟩
  | 104 => ⟨S1x1x4x128, .f32⟩
  | 105 => ⟨S1x4096x4x128, .f32⟩
  | 106 => ⟨S1x4096x4x128, .f32⟩
  | 107 => ⟨S1x32x128x4x128, .f32⟩
  | 108 => ⟨S_, .i1⟩
  | 109 => ⟨S128x128, .i1⟩
  | 110 => ⟨S128x128, .i32⟩
  | 111 => ⟨S_, .i32⟩
  | 112 => ⟨S128x128, .i32⟩
  | 113 => ⟨S128x128, .i32⟩
  | 114 => ⟨S128x128, .i32⟩
  | 115 => ⟨S128x128, .i1⟩
  | 116 => ⟨S_, .i1⟩
  | 117 => ⟨S128x128, .i1⟩
  | 118 => ⟨S128x128, .i1⟩
  | 119 => ⟨S1x128x128, .i1⟩
  | 120 => ⟨S_, .f32⟩
  | 121 => ⟨S4x128x128, .f32⟩
  | 122 => ⟨S4x128x128, .i1⟩
  | 123 => ⟨S4x128x128, .f32⟩
  | 124 => ⟨S_, .f32⟩
  | 125 => ⟨S4x128x128, .f32⟩
  | 126 => ⟨S4x1x32x128x128, .f32⟩
  | 127 => ⟨S1x32x128x4x128, .f32⟩
  | _ => ⟨S4096x512, .f32⟩

abbrev hbmTy0_1 (i : Nat) : BufTy := match i % 128 with
  | 0 => ⟨S128x4, .f32⟩
  | 1 => ⟨S1x1x128x4x1, .f32⟩
  | 2 => ⟨S1x32x128x4x128, .f32⟩
  | 3 => ⟨S1x32x128x4x128, .f32⟩
  | 4 => ⟨S1x4096x4x128, .f32⟩
  | 5 => ⟨S1x4096x4x128, .f32⟩
  | 6 => ⟨S4096x512, .f32⟩
  | 7 => ⟨S1x4096x4x128, .f32⟩
  | 8 => ⟨S1x4096x4x128, .f32⟩
  | 9 => ⟨S1x4096x4x128, .f32⟩
  | 10 => ⟨S1x32x128x4x128, .f32⟩
  | 11 => ⟨S_, .f32⟩
  | 12 => ⟨S1x128x4, .f32⟩
  | 13 => ⟨S1x1x128x4x1, .f32⟩
  | 14 => ⟨S_, .f32⟩
  | 15 => ⟨S128x4, .f32⟩
  | 16 => ⟨S4x128, .f32⟩
  | 17 => ⟨S4x1x32x128x128, .f32⟩
  | 18 => ⟨S4x128x128, .f32⟩
  | 19 => ⟨S4x1x32x128x128, .f32⟩
  | 20 => ⟨S1x32x128x4x128, .f32⟩
  | 21 => ⟨S_, .f32⟩
  | 22 => ⟨S4x128x128, .f32⟩
  | 23 => ⟨S4x128x128, .f32⟩
  | 24 => ⟨S1x4096x4x128, .f32⟩
  | 25 => ⟨S_, .f32⟩
  | 26 => ⟨S1x4x128, .f32⟩
  | 27 => ⟨S1x1x4x128, .f32⟩
  | 28 => ⟨S_, .f32⟩
  | 29 => ⟨S4x128, .f32⟩
  | 30 => ⟨S1x4096x4x128, .f32⟩
  | 31 => ⟨S_, .f32⟩
  | 32 => ⟨S1x4x128, .f32⟩
  | 33 => ⟨S1x1x4x128, .f32⟩
  | 34 => ⟨S1x4096x4x128, .f32⟩
  | 35 => ⟨S1x4096x4x128, .f32⟩
  | 36 => ⟨S_, .f32⟩
  | 37 => ⟨S4x128, .f32⟩
  | 38 => ⟨S1x4096x4x128, .f32⟩
  | 39 => ⟨S_, .f32⟩
  | 40 => ⟨S1x4096x4, .f32⟩
  | 41 => ⟨S1x4096x4x1, .f32⟩
  | 42 => ⟨S1x4096x4x128, .f32⟩
  | 43 => ⟨S1x4096x4x128, .f32⟩
  | 44 => ⟨S1x4096x4x1, .f32⟩
  | 45 => ⟨S1x4096x4x128, .f32⟩
  | 46 => ⟨S_, .f32⟩
  | 47 => ⟨S1x4096x4, .f32⟩
  | 48 => ⟨S1x4096x4x1, .f32⟩
  | 49 => ⟨S_, .f32⟩
  | 50 => ⟨S1x4096x4x1, .f32⟩
  | 51 => ⟨S1x4096x4x1, .f32⟩
  | 52 => ⟨S_, .f32⟩
  | 53 => ⟨S4096x4, .f32⟩
  | 54 => ⟨S1x4096x4, .f32⟩
  | 55 => ⟨S1x4096x4x128, .f32⟩
  | 56 => ⟨S1x4096x4x128, .f32⟩
  | 57 => ⟨S1x4096x4x128, .f32⟩
  | 58 => ⟨S_, .f32⟩
  | 59 => ⟨S1x4096x4, .f32⟩
  | 60 => ⟨S1x4096x4x1, .f32⟩
  | 61 => ⟨S1x4096x4x128, .f32⟩
  | 62 => ⟨S1x4096x4x1, .f32⟩
  | 63 => ⟨S_, .f32⟩
  | 64 => ⟨S1x4096x4x1, .f32⟩
  | 65 => ⟨S1x4096x4x1, .f32⟩
  | 66 => ⟨S_, .f32⟩
  | 67 => ⟨S4096x4, .f32⟩
  | 68 => ⟨S1x4096x4, .f32⟩
  | 69 => ⟨S1x4096x4x128, .f32⟩
  | 70 => ⟨S1x4096x4x128, .f32⟩
  | 71 => ⟨S1x4096x4x128, .f32⟩
  | 72 => ⟨S1x4096x4x128, .f32⟩
  | 73 => ⟨S_, .f32⟩
  | 74 => ⟨S1x4096x4x128, .f32⟩
  | 75 => ⟨S1x4096x4x128, .f32⟩
  | 76 => ⟨S1x4096x4x128, .f32⟩
  | 77 => ⟨S_, .f32⟩
  | 78 => ⟨S1x4096x4x128, .f32⟩
  | 79 => ⟨S1x4096x4x128, .f32⟩
  | 80 => ⟨S1x4096x4x128, .f32⟩
  | 81 => ⟨S_, .f32⟩
  | 82 => ⟨S1x4096x4x128, .f32⟩
  | 83 => ⟨S1x4096x4x128, .f32⟩
  | 84 => ⟨S_, .f32⟩
  | 85 => ⟨S1x4096x4x128, .f32⟩
  | 86 => ⟨S1x4096x4x128, .f32⟩
  | 87 => ⟨S1x4096x4x128, .f32⟩
  | 88 => ⟨S1x4096x4x128, .f32⟩
  | 89 => ⟨S1x4096x4x128, .f32⟩
  | 90 => ⟨S1x4096x4x128, .f32⟩
  | 91 => ⟨S_, .f32⟩
  | 92 => ⟨S1x4096x4x128, .f32⟩
  | 93 => ⟨S1x4096x4x128, .f32⟩
  | 94 => ⟨S1x4096x4x128, .f32⟩
  | 95 => ⟨S_, .f32⟩
  | 96 => ⟨S1x4096x4x128, .f32⟩
  | 97 => ⟨S1x4096x4x128, .f32⟩
  | 98 => ⟨S1x4096x4x128, .f32⟩
  | 99 => ⟨S_, .f32⟩
  | 100 => ⟨S1x4096x4x128, .f32⟩
  | 101 => ⟨S1x4096x4x128, .f32⟩
  | 102 => ⟨S_, .f32⟩
  | 103 => ⟨S1x4096x4x128, .f32⟩
  | 104 => ⟨S1x4096x4x128, .f32⟩
  | 105 => ⟨S1x4096x4x128, .f32⟩
  | 106 => ⟨S1x4096x4x128, .f32⟩
  | 107 => ⟨S4096x512, .f32⟩
  | 108 => ⟨S4096x512, .f32⟩
  | 109 => ⟨S4096x1024, .f32⟩
  | 110 => ⟨S4096x1024, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_cst_14 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_15 : Ref sig .tc := ⟨.hbm, 71, rfl⟩
abbrev main_v48 : Ref sig .tc := ⟨.hbm, 72, rfl⟩
abbrev main_v49 : Ref sig .tc := ⟨.hbm, 73, rfl⟩
abbrev main_cst_16 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_v58 : Ref sig .tc := ⟨.hbm, 85, rfl⟩
abbrev main_cst_19 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_20 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_21 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c : Ref sig .tc := ⟨.hbm, 108, rfl⟩
abbrev main_v78 : Ref sig .tc := ⟨.hbm, 109, rfl⟩
abbrev main_call0_v0 : Ref sig .tc := ⟨.hbm, 110, rfl⟩
abbrev main_call0_c : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_c_0 : Ref sig .tc := ⟨.hbm, 116, rfl⟩
abbrev main_call0_v5 : Ref sig .tc := ⟨.hbm, 117, rfl⟩
abbrev main_v79 : Ref sig .tc := ⟨.hbm, 118, rfl⟩
abbrev main_v80 : Ref sig .tc := ⟨.hbm, 119, rfl⟩
abbrev main_cst_22 : Ref sig .tc := ⟨.hbm, 120, rfl⟩
abbrev main_v81 : Ref sig .tc := ⟨.hbm, 121, rfl⟩
abbrev main_v82_1 : Ref sig .tc := ⟨.hbm, 122, rfl⟩
abbrev main_v82_0 : Ref sig .tc := ⟨.hbm, 123, rfl⟩
abbrev main_call1_cst : Ref sig .tc := ⟨.hbm, 124, rfl⟩
abbrev main_v82_2 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_23 : Ref sig .tc := ⟨.hbm, 139, rfl⟩
abbrev main_v96 : Ref sig .tc := ⟨.hbm, 140, rfl⟩
abbrev main_v97 : Ref sig .tc := ⟨.hbm, 141, rfl⟩
abbrev main_cst_24 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_call2_cst : Ref sig .tc := ⟨.hbm, 149, rfl⟩
abbrev main_call2_v0 : Ref sig .tc := ⟨.hbm, 150, rfl⟩
abbrev main_v104 : Ref sig .tc := ⟨.hbm, 151, rfl⟩
abbrev main_v105 : Ref sig .tc := ⟨.hbm, 152, rfl⟩
abbrev main_cst_25 : Ref sig .tc := ⟨.hbm, 153, rfl⟩
abbrev main_v106 : Ref sig .tc := ⟨.hbm, 154, rfl⟩
abbrev main_v107 : Ref sig .tc := ⟨.hbm, 155, rfl⟩
abbrev main_cst_26 : Ref sig .tc := ⟨.hbm, 156, rfl⟩
abbrev main_v108 : Ref sig .tc := ⟨.hbm, 157, rfl⟩
abbrev main_v109 : Ref sig .tc := ⟨.hbm, 158, rfl⟩
abbrev main_cst_27 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_28 : Ref sig .tc := ⟨.hbm, 164, rfl⟩
abbrev main_v114 : Ref sig .tc := ⟨.hbm, 165, rfl⟩
abbrev main_v115 : Ref sig .tc := ⟨.hbm, 166, rfl⟩
abbrev main_cst_29 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_30 : Ref sig .tc := ⟨.hbm, 174, rfl⟩
abbrev main_v122 : Ref sig .tc := ⟨.hbm, 175, rfl⟩
abbrev main_v123 : Ref sig .tc := ⟨.hbm, 176, rfl⟩
abbrev main_cst_31 : Ref sig .tc := ⟨.hbm, 177, rfl⟩
abbrev main_v124 : Ref sig .tc := ⟨.hbm, 178, rfl⟩
abbrev main_v125 : Ref sig .tc := ⟨.hbm, 179, rfl⟩
abbrev main_cst_32 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_33 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_34 : Ref sig .tc := ⟨.hbm, 191, rfl⟩
abbrev main_v135 : Ref sig .tc := ⟨.hbm, 192, rfl⟩
abbrev main_v136 : Ref sig .tc := ⟨.hbm, 193, rfl⟩
abbrev main_cst_35 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_36 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_37 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_cst_38 : Ref sig .tc := ⟨.hbm, 209, rfl⟩
abbrev main_v149 : Ref sig .tc := ⟨.hbm, 210, rfl⟩
abbrev main_v150 : Ref sig .tc := ⟨.hbm, 211, rfl⟩
abbrev main_cst_39 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_40 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_41 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_cst_42 : Ref sig .tc := ⟨.hbm, 227, rfl⟩
abbrev main_v163 : Ref sig .tc := ⟨.hbm, 228, rfl⟩
abbrev main_v164 : Ref sig .tc := ⟨.hbm, 229, rfl⟩
abbrev main_cst_43 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩

abbrev nD : Nat := 1
abbrev τ : Topo := Topo.v7x

variable {F : FTy → Type} [FloatOps F]
-- ==== Kernel2.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S3x2816x1024 : Shape := ⟨3, ![3, 2816, 1024]⟩
abbrev S512x1408 : Shape := ⟨2, ![512, 1408]⟩
abbrev S512x1024 : Shape := ⟨2, ![512, 1024]⟩
abbrev S3x1408x1024 : Shape := ⟨3, ![3, 1408, 1024]⟩
abbrev S1408x1024 : Shape := ⟨2, ![1408, 1024]⟩
abbrev S1x1408x1024 : Shape := ⟨3, ![1, 1408, 1024]⟩

abbrev nBuf : Space → Nat
  | .hbm => 35
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S1024x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x2816, .bf16⟩
  | .hbm, ⟨31, _⟩ => ⟨S4096x2816, .bf16⟩
  | .hbm, ⟨32, _⟩ => ⟨S4096x1024, .bf16⟩
  | .hbm, ⟨33, _⟩ => ⟨S4096x1024, .bf16⟩
  | .hbm, ⟨34, _⟩ => ⟨S3x2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S3x1408x1024, .bf16⟩
  | .local _ .vmem, ⟨11, _⟩ => ⟨S3x1408x1024, .bf16⟩
  | .local _ .vmem, ⟨12, _⟩ => ⟨S1408x1024, .f32⟩
  | .local _ .vmem, ⟨13, _⟩ => ⟨S1408x1024, .f32⟩
  | .local _ .vmem, ⟨14, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_26 : BitVec 32 := 0#32
  let v35 : BitVec 1 := Scalar.cmpi .ne v34 c0_i32_26
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S1x2816x1024 : Shape := ⟨3, ![1, 2816, 1024]⟩
abbrev S3x2816x1024 : Shape := ⟨3, ![3, 2816, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S2816x1024, .f32⟩
  | .hbm, ⟨28, _⟩ => ⟨S1024x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S2816x1024, .f32⟩
  | .hbm, ⟨34, _⟩ => ⟨S1024x2816, .f32⟩
  | .hbm, ⟨35, _⟩ => ⟨S2816x1024, .f32⟩
  | .hbm, ⟨36, _⟩ => ⟨S2816x1024, .f32⟩
  | .hbm, ⟨37, _⟩ => ⟨S1x2816x1024, .f32⟩
  | .hbm, ⟨38, _⟩ => ⟨S1x2816x1024, .f32⟩
  | .hbm, ⟨39, _⟩ => ⟨S1x2816x1024, .f32⟩
  | .hbm, ⟨40, _⟩ => ⟨S3x2816x1024, .f32⟩
  | .hbm, ⟨41, _⟩ => ⟨S3x2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== Kernel3.lean ====
abbrev S4096x1024 : Shape := ⟨2, ![4096, 1024]⟩
abbrev S3x1024 : Shape := ⟨2, ![3, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x1024 : Shape := ⟨2, ![8, 1024]⟩
abbrev S1x1024 : Shape := ⟨2, ![1, 1024]⟩
abbrev S1x2816x1024 : Shape := ⟨3, ![1, 2816, 1024]⟩
abbrev S3x2816x1024 : Shape := ⟨3, ![3, 2816, 1024]⟩
abbrev S4096x2816 : Shape := ⟨2, ![4096, 2816]⟩
abbrev S1024x1024 : Shape := ⟨2, ![1024, 1024]⟩
abbrev S1x256x1024 : Shape := ⟨3, ![1, 256, 1024]⟩
abbrev S1024x256 : Shape := ⟨2, ![1024, 256]⟩
abbrev S1024x1 : Shape := ⟨2, ![1024, 1]⟩
abbrev S256x1024 : Shape := ⟨2, ![256, 1024]⟩

abbrev nBuf : Space → Nat
  | .hbm => 28
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S2816x1024, .f32⟩
  | .hbm, ⟨15, _⟩ => ⟨S2816x1024, .bf16⟩
  | .hbm, ⟨16, _⟩ => ⟨S2816x1024, .f32⟩
  | .hbm, ⟨17, _⟩ => ⟨S2816x1024, .bf16⟩
  | .hbm, ⟨18, _⟩ => ⟨S2816x1024, .bf16⟩
  | .hbm, ⟨19, _⟩ => ⟨S1x2816x1024, .bf16⟩
  | .hbm, ⟨20, _⟩ => ⟨S1x2816x1024, .bf16⟩
  | .hbm, ⟨21, _⟩ => ⟨S1x2816x1024, .bf16⟩
  | .hbm, ⟨22, _⟩ => ⟨S3x2816x1024, .bf16⟩
  | .hbm, ⟨23, _⟩ => ⟨S4096x1024, .f32⟩
  | .hbm, ⟨24, _⟩ => ⟨S4096x1024, .bf16⟩
  | .hbm, ⟨25, _⟩ => ⟨S4096x2816, .bf16⟩
  | .hbm, ⟨26, _⟩ => ⟨S4096x2816, .bf16⟩
  | .hbm, ⟨27, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x1024, .bf16⟩
  | .local _ .vmem, ⟨20, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v33 : BitVec 1 := Scalar.cmpi .eq arg1 c10_i32
  let v34 : BitVec 32 := Scalar.extui v33
  let c0_i32_23 : BitVec 32 := 0#32
  let v35 : BitVec 1 := Scalar.cmpi .ne v34 c0_i32_23
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4096x1024 : Shape := ⟨2, ![4096, 1024]⟩
abbrev S3x1024 : Shape := ⟨2, ![3, 1024]⟩
abbrev S1024 : Shape := ⟨1, ![1024]⟩
abbrev S1024x2816 : Shape := ⟨2, ![1024, 2816]⟩
abbrev S2816x1024 : Shape := ⟨2, ![2816, 1024]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096x2816 : Shape := ⟨2, ![4096, 2816]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x4096x1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x1024, .f32⟩
  | .hbm, ⟨24, _⟩ => ⟨S1x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S1x4096x1024, .f32⟩
  | .hbm, ⟨30, _⟩ => ⟨S1x4096x1024, .f32⟩
  | .hbm, ⟨31, _⟩ => ⟨S1x1x1024, .f32⟩
  | .hbm, ⟨32, _⟩ => ⟨S1x4096x1024, .f32⟩
  | .hbm, ⟨33, _⟩ => ⟨S1x4096x1024, .f32⟩
  | .hbm, ⟨34, _⟩ => ⟨S4096x1024, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S4096x2816, .f32⟩
  | .hbm, ⟨49, _⟩ => ⟨S4096x2816, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x2816, .f32⟩
  | .hbm, ⟨58, _⟩ => ⟨S4096x2816, .f32⟩
  | .hbm, ⟨59, _⟩ => ⟨S_, .f32⟩
  | .hbm, ⟨60, _⟩ => ⟨S4096x2816, .f32⟩
  | .hbm, ⟨61, _⟩ => ⟨S4096x2816, .f32⟩
  | .hbm, ⟨62, _⟩ => ⟨S_, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x1024, .bf16⟩
  | .hbm, ⟨68, _⟩ => ⟨S4096x2816, .bf16⟩
  | .hbm, ⟨69, _⟩ => ⟨S4096x2816, .bf16⟩
  | .hbm, ⟨70, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]
-- ==== Kernel4.lean ====
abbrev S4096x1024 : Shape := ⟨2, ![4096, 1024]⟩
abbrev S3x1024 : Shape := ⟨2, ![3, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x1024 : Shape := ⟨2, ![8, 1024]⟩
abbrev S1x1024 : Shape := ⟨2, ![1, 1024]⟩
abbrev S1x2816x1024 : Shape := ⟨3, ![1, 2816, 1024]⟩
abbrev S3x2816x1024 : Shape := ⟨3, ![3, 2816, 1024]⟩
abbrev S1x4096x1024 : Shape := ⟨3, ![1, 4096, 1024]⟩
abbrev S1x4096 : Shape := ⟨2, ![1, 4096]⟩
abbrev S1x4096x1 : Shape := ⟨3, ![1, 4096, 1]⟩
abbrev S1x1x1024 : Shape := ⟨3, ![1, 1, 1024]⟩
abbrev S4096x2816 : Shape := ⟨2, ![4096, 2816]⟩
abbrev S1024x1024 : Shape := ⟨2, ![1024, 1024]⟩
abbrev S1024x256 : Shape := ⟨2, ![1024, 256]⟩
abbrev S1x256x1024 : Shape := ⟨3, ![1, 256, 1024]⟩
abbrev S1024x1 : Shape := ⟨2, ![1024, 1]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 77
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .i32⟩
  | .hbm, ⟨8, _⟩ => ⟨S_, .f32⟩
  | .hbm, ⟨9, _⟩ => ⟨S8x1024, .f32⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S2816x1024, .f32⟩
  | .hbm, ⟨16, _⟩ => ⟨S2816x1024, .bf16⟩
  | .hbm, ⟨17, _⟩ => ⟨S2816x1024, .f32⟩
  | .hbm, ⟨18, _⟩ => ⟨S2816x1024, .bf16⟩
  | .hbm, ⟨19, _⟩ => ⟨S2816x1024, .bf16⟩
  | .hbm, ⟨20, _⟩ => ⟨S1x2816x1024, .bf16⟩
  | .hbm, ⟨21, _⟩ => ⟨S1x2816x1024, .bf16⟩
  | .hbm, ⟨22, _⟩ => ⟨S1x2816x1024, .bf16⟩
  | .hbm, ⟨23, _⟩ => ⟨S3x2816x1024, .bf16⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S1x4096, .f32⟩
  | .hbm, ⟨28, _⟩ => ⟨S1x4096x1, .f32⟩
  | .hbm, ⟨29, _⟩ => ⟨S_, .f32⟩
  | .hbm, ⟨30, _⟩ => ⟨S1x4096x1, .f32⟩
  | .hbm, ⟨31, _⟩ => ⟨S1x4096x1, .f32⟩
  | .hbm, ⟨32, _⟩ => ⟨S_, .f32⟩
  | .hbm, ⟨33, _⟩ => ⟨S1x4096x1, .f32⟩
  | .hbm, ⟨34, _⟩ => ⟨S1x4096x1, .f32⟩
  | .hbm, ⟨35, _⟩ => ⟨S1x4096x1, .f32⟩
  | .hbm, ⟨36, _⟩ => ⟨S1x4096x1024, .f32⟩
  | .hbm, ⟨37, _⟩ => ⟨S1x4096x1024, .f32⟩
  | .hbm, ⟨38, _⟩ => ⟨S1x1x1024, .f32⟩
  | .hbm, ⟨39, _⟩ => ⟨S1x4096x1024, .f32⟩
  | .hbm, ⟨40, _⟩ => ⟨S1x4096x1024, .f32⟩
  | .hbm, ⟨41, _⟩ => ⟨S1x1024, .f32⟩
  | .hbm, ⟨42, _⟩ => ⟨S1x1024, .f32⟩
  | .hbm, ⟨43, _⟩ => ⟨S1x1x1024, .f32⟩
  | .hbm, ⟨44, _⟩ => ⟨S_, .f32⟩
  | .hbm, ⟨45, _⟩ => ⟨S1x1x1024, .f32⟩
  | .hbm, ⟨46, _⟩ => ⟨S1x1x1024, .f32⟩
  | .hbm, ⟨47, _⟩ => ⟨S1x4096x1024, .f32⟩
  | .hbm, ⟨48, _⟩ => ⟨S1x4096x1024, .f32⟩
  | .hbm, ⟨49, _⟩ => ⟨S1x1x1024, .f32⟩
  | .hbm, ⟨50, _⟩ => ⟨S1x4096x1024, .f32⟩
  | .hbm, ⟨51, _⟩ => ⟨S1x4096x1024, .f32⟩
  | .hbm, ⟨52, _⟩ => ⟨S4096x1024, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S_, .f32⟩
  | .hbm, ⟨57, _⟩ => ⟨S4096x2816, .f32⟩
  | .hbm, ⟨58, _⟩ => ⟨S4096x2816, .f32⟩
  | .hbm, ⟨59, _⟩ => ⟨S_, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S4096x1024, .f32⟩
  | .hbm, ⟨66, _⟩ => ⟨S4096x2816, .f32⟩
  | .hbm, ⟨67, _⟩ => ⟨S4096x2816, .f32⟩
  | .hbm, ⟨68, _⟩ => ⟨S4096x1024, .bf16⟩
  | .hbm, ⟨69, _⟩ => ⟨S4096x2816, .bf16⟩
  | .hbm, ⟨70, _⟩ => ⟨S4096x2816, .bf16⟩
  | .hbm, ⟨71, _⟩ => ⟨S4096x1024, .f32⟩
  | .hbm, ⟨72, _⟩ => ⟨S4096x2816, .bf16⟩
  | .hbm, ⟨73, _⟩ => ⟨S4096x2816, .bf16⟩
  | .hbm, ⟨74, _⟩ => ⟨S4096x1024, .bf16⟩
  | .hbm, ⟨75, _⟩ => ⟨S4096x1024, .bf16⟩
  | .hbm, ⟨76, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1024x1024, .f32⟩
  | .local _ .vmem, ⟨20, _⟩ => ⟨S1024x1024, .f32⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S8x1024, .f32⟩
  | .local _ .vmem, ⟨30, _⟩ => ⟨S1024x1024, .bf16⟩
  | .local _ .vmem, ⟨31, _⟩ => ⟨S1024x1024, .f32⟩
  | .local _ .vmem, ⟨32, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call2_v0 : Ref sig .tc := ⟨.hbm, 54, rfl⟩
abbrev main_call2_v1 : Ref sig .tc := ⟨.hbm, 55, rfl⟩
abbrev main_call2_cst : Ref sig .tc := ⟨.hbm, 56, rfl⟩
abbrev main_call2_v2 : Ref sig .tc := ⟨.hbm, 57, rfl⟩
abbrev main_call2_v3 : Ref sig .tc := ⟨.hbm, 58, rfl⟩
abbrev main_call2_cst_0 : Ref sig .tc := ⟨.hbm, 59, rfl⟩
abbrev main_call2_v4 : Ref sig .tc := ⟨.hbm, 60, rfl⟩
abbrev main_call2_v5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_v48_2 : Ref sig .tc := ⟨.hbm, 73, rfl⟩
abbrev main_v48_3 : Ref sig .tc := ⟨.hbm, 74, rfl⟩
abbrev main_v48_4 : Ref sig .tc := ⟨.hbm, 75, rfl⟩
abbrev main_v48_5 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨2, ![4, 11], ![false, false]⟩

def k0_cond3 (i : grid0.Coords) : BitVec 1 :=
  let arg1 : BitVec 32 := BitVec.ofNat 32 (i 1).val
  let c10_i32 : BitVec 32 := 10#32
  let v98 : BitVec 1 := Scalar.cmpi .eq arg1 c10_i32
  let v99 : BitVec 32 := Scalar.extui v98
  let c0_i32_65 : BitVec 32 := 0#32
  let v100 : BitVec 1 := Scalar.cmpi .ne v99 c0_i32_65
  v100

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c10_i32 : BitVec 32 := 10#32
  let v1 : BitVec 32 := Scalar.minsi v0 c10_i32
  let c2_i32 : BitVec 32 := 2#32
  let c0_i32 : BitVec 32 := 0#32
  let c0_i32_0 : BitVec 32 := 0#32
  ![c2_i32.toNat, v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference4Ideal.lean ====
abbrev S4096x1024 : Shape := ⟨2, ![4096, 1024]⟩
abbrev S3x1024 : Shape := ⟨2, ![3, 1024]⟩
abbrev S1024 : Shape := ⟨1, ![1024]⟩
abbrev S1024x2816 : Shape := ⟨2, ![1024, 2816]⟩
abbrev S2816x1024 : Shape := ⟨2, ![2816, 1024]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096x2816 : Shape := ⟨2, ![4096, 2816]⟩
abbrev S4096 : Shape := ⟨1, ![4096]⟩
abbrev S4x1024 : Shape := ⟨2, ![4, 1024]⟩
abbrev S8x1024 : Shape := ⟨2, ![8, 1024]⟩

abbrev nBuf : Space → Nat
  | .hbm => 220
  | .vmem => 0
  | .smem => 0
  | _ => 0

abbrev hbmTy0_0 (i : Nat) : BufTy := match i % 128 with
  | 0 => ⟨S4096x1024, .f32⟩
  | 1 => ⟨S3x1024, .f32⟩
  | 2 => ⟨S1024, .f32⟩
  | 3 => ⟨S1024x2816, .f32⟩
  | 4 => ⟨S1024x2816, .f32⟩
  | 5 => ⟨S2816x1024, .f32⟩
  | 6 => ⟨S4096x1024, .f32⟩
  | 7 => ⟨S1x4096x1024, .f32⟩
  | 8 => ⟨S1x4096x1024, .f32⟩
  | 9 => ⟨S_, .f32⟩
  | 10 => ⟨S1x4096, .f32⟩
  | 11 => ⟨S1x4096x1, .f32⟩
  | 12 => ⟨S_, .f32⟩
  | 13 => ⟨S1x4096x1, .f32⟩
  | 14 => ⟨S1x4096x1, .f32⟩
  | 15 => ⟨S_, .f32⟩
  | 16 => ⟨S1x4096x1, .f32⟩
  | 17 => ⟨S1x4096x1, .f32⟩
  | 18 => ⟨S1x4096x1, .f32⟩
  | 19 => ⟨S1x4096x1, .f32⟩
  | 20 => ⟨S_, .f32⟩
  | 21 => ⟨S1x4096x1, .f32⟩
  | 22 => ⟨S1x4096x1, .f32⟩
  | 23 => ⟨S1x4096x1024, .f32⟩
  | 24 => ⟨S1x4096x1024, .f32⟩
  | 25 => ⟨S1x1x1024, .f32⟩
  | 26 => ⟨S1x4096x1024, .f32⟩
  | 27 => ⟨S1x4096x1024, .f32⟩
  | 28 => ⟨S1x1024, .f32⟩
  | 29 => ⟨S1x1024, .f32⟩
  | 30 => ⟨S1x1x1024, .f32⟩
  | 31 => ⟨S_, .f32⟩
  | 32 => ⟨S1x1x1024, .f32⟩
  | 33 => ⟨S1x1x1024, .f32⟩
  | 34 => ⟨S1x4096x1024, .f32⟩
  | 35 => ⟨S1x4096x1024, .f32⟩
  | 36 => ⟨S1x1x1024, .f32⟩
  | 37 => ⟨S1x4096x1024, .f32⟩
  | 38 => ⟨S1x4096x1024, .f32⟩
  | 39 => ⟨S4096x1024, .f32⟩
  | 40 => ⟨S4096x2816, .f32⟩
  | 41 => ⟨S4096x2816, .f32⟩
  | 42 => ⟨S4096x2816, .f32⟩
  | 43 => ⟨S_, .f32⟩
  | 44 => ⟨S4096x2816, .f32⟩
  | 45 => ⟨S4096x2816, .f32⟩
  | 46 => ⟨S_, .f32⟩
  | 47 => ⟨S4096x2816, .f32⟩
  | 48 => ⟨S4096x2816, .f32⟩
  | 49 => ⟨S_, .f32⟩
  | 50 => ⟨S4096x2816, .f32⟩
  | 51 => ⟨S4096x2816, .f32⟩
  | 52 => ⟨S4096x2816, .f32⟩
  | 53 => ⟨S4096x2816, .f32⟩
  | 54 => ⟨S4096x2816, .f32⟩
  | 55 => ⟨S4096x2816, .f32⟩
  | 56 => ⟨S4096x1024, .f32⟩
  | 57 => ⟨S1x1024, .f32⟩
  | 58 => ⟨S_, .f32⟩
  | 59 => ⟨S1x1024, .f32⟩
  | 60 => ⟨S1x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S1024, .f32⟩
  | 70 => ⟨S1x1024, .f32⟩
  | 71 => ⟨S_, .f32⟩
  | 72 => ⟨S1x1024, .f32⟩
  | 73 => ⟨S1x1024, .f32⟩
  | 74 => ⟨S_, .f32⟩
  | 75 => ⟨S3x1024, .f32⟩
  | 76 => ⟨S4096x2816, .f32⟩
  | 77 => ⟨S4096x2816, .f32⟩
  | 78 => ⟨S4096x2816, .f32⟩
  | 79 => ⟨S4096x1024, .f32⟩
  | 80 => ⟨S4096x2816, .f32⟩
  | 81 => ⟨S4096x2816, .f32⟩
  | 82 => ⟨S4096x2816, .f32⟩
  | 83 => ⟨S4096x2816, .f32⟩
  | 84 => ⟨S4096x1024, .f32⟩
  | 85 => ⟨S4096x1024, .f32⟩
  | 86 => ⟨S1x4096x1024, .f32⟩
  | 87 => ⟨S_, .f32⟩
  | 88 => ⟨S1x1024, .f32⟩
  | 89 => ⟨S1x1x1024, .f32⟩
  | 90 => ⟨S_, .f32⟩
  | 91 => ⟨S1024, .f32⟩
  | 92 => ⟨S1x1024, .f32⟩
  | 93 => ⟨S1x4096x1024, .f32⟩
  | 94 => ⟨S_, .f32⟩
  | 95 => ⟨S1x1024, .f32⟩
  | 96 => ⟨S1x1x1024, .f32⟩
  | 97 => ⟨S1x4096x1024, .f32⟩
  | 98 => ⟨S1x4096x1024, .f32⟩
  | 99 => ⟨S_, .f32⟩
  | 100 => ⟨S1024, .f32⟩
  | 101 => ⟨S1x1024, .f32⟩
  | 102 => ⟨S_, .f32⟩
  | 103 => ⟨S3x1024, .f32⟩
  | 104 => ⟨S3x1024, .f32⟩
  | 105 => ⟨S_, .f32⟩
  | 106 => ⟨S3x1024, .f32⟩
  | 107 => ⟨S3x1024, .f32⟩
  | 108 => ⟨S1x4096x1024, .f32⟩
  | 109 => ⟨S_, .f32⟩
  | 110 => ⟨S1x1024, .f32⟩
  | 111 => ⟨S1x1x1024, .f32⟩
  | 112 => ⟨S1x4096x1024, .f32⟩
  | 113 => ⟨S1x4096x1024, .f32⟩
  | 114 => ⟨S_, .f32⟩
  | 115 => ⟨S1024, .f32⟩
  | 116 => ⟨S1x4096x1024, .f32⟩
  | 117 => ⟨S_, .f32⟩
  | 118 => ⟨S1x4096, .f32⟩
  | 119 => ⟨S1x4096x1, .f32⟩
  | 120 => ⟨S1x4096x1024, .f32⟩
  | 121 => ⟨S1x4096x1024, .f32⟩
  | 122 => ⟨S1x4096x1, .f32⟩
  | 123 => ⟨S_, .f32⟩
  | 124 => ⟨S1x4096x1, .f32⟩
  | 125 => ⟨S1x4096x1, .f32⟩
  | 126 => ⟨S_, .f32⟩
  | 127 => ⟨S4096, .f32⟩
  | _ => ⟨S4096x1024, .f32⟩

abbrev hbmTy0_1 (i : Nat) : BufTy := match i % 128 with
  | 0 => ⟨S1x4096, .f32⟩
  | 1 => ⟨S1x4096x1024, .f32⟩
  | 2 => ⟨S1x4096x1024, .f32⟩
  | 3 => ⟨S1x4096x1024, .f32⟩
  | 4 => ⟨S1x4096x1024, .f32⟩
  | 5 => ⟨S1x4096x1024, .f32⟩
  | 6 => ⟨S_, .f32⟩
  | 7 => ⟨S4096x1024, .f32⟩
  | 8 => ⟨S4096x1024, .f32⟩
  | 9 => ⟨S1x4096x1024, .f32⟩
  | 10 => ⟨S1x4096x1024, .f32⟩
  | 11 => ⟨S_, .f32⟩
  | 12 => ⟨S1x4096, .f32⟩
  | 13 => ⟨S1x4096x1, .f32⟩
  | 14 => ⟨S_, .f32⟩
  | 15 => ⟨S1x4096x1, .f32⟩
  | 16 => ⟨S1x4096x1, .f32⟩
  | 17 => ⟨S_, .f32⟩
  | 18 => ⟨S1x4096x1, .f32⟩
  | 19 => ⟨S1x4096x1, .f32⟩
  | 20 => ⟨S1x4096x1, .f32⟩
  | 21 => ⟨S1x4096x1024, .f32⟩
  | 22 => ⟨S1x4096x1024, .f32⟩
  | 23 => ⟨S1x1x1024, .f32⟩
  | 24 => ⟨S1x4096x1024, .f32⟩
  | 25 => ⟨S1x4096x1024, .f32⟩
  | 26 => ⟨S1x1024, .f32⟩
  | 27 => ⟨S1x1024, .f32⟩
  | 28 => ⟨S1x1x1024, .f32⟩
  | 29 => ⟨S_, .f32⟩
  | 30 => ⟨S1x1x1024, .f32⟩
  | 31 => ⟨S1x1x1024, .f32⟩
  | 32 => ⟨S1x4096x1024, .f32⟩
  | 33 => ⟨S1x4096x1024, .f32⟩
  | 34 => ⟨S1x1x1024, .f32⟩
  | 35 => ⟨S1x4096x1024, .f32⟩
  | 36 => ⟨S1x4096x1024, .f32⟩
  | 37 => ⟨S4096x1024, .f32⟩
  | 38 => ⟨S4096x2816, .f32⟩
  | 39 => ⟨S4096x2816, .f32⟩
  | 40 => ⟨S4096x2816, .f32⟩
  | 41 => ⟨S_, .f32⟩
  | 42 => ⟨S4096x2816, .f32⟩
  | 43 => ⟨S4096x2816, .f32⟩
  | 44 => ⟨S_, .f32⟩
  | 45 => ⟨S4096x2816, .f32⟩
  | 46 => ⟨S4096x2816, .f32⟩
  | 47 => ⟨S4096x2816, .f32⟩
  | 48 => ⟨S4096x2816, .f32⟩
  | 49 => ⟨S4096x2816, .f32⟩
  | 50 => ⟨S4096x1024, .f32⟩
  | 51 => ⟨S1x1024, .f32⟩
  | 52 => ⟨S_, .f32⟩
  | 53 => ⟨S1x1024, .f32⟩
  | 54 => ⟨S1x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x2816, .f32⟩
  | 61 => ⟨S4096x2816, .f32⟩
  | 62 => ⟨S4096x2816, .f32⟩
  | 63 => ⟨S4096x2816, .f32⟩
  | 64 => ⟨S_, .f32⟩
  | 65 => ⟨S4096x2816, .f32⟩
  | 66 => ⟨S4096x2816, .f32⟩
  | 67 => ⟨S_, .f32⟩
  | 68 => ⟨S4096x2816, .f32⟩
  | 69 => ⟨S4096x2816, .f32⟩
  | 70 => ⟨S_, .f32⟩
  | 71 => ⟨S4096x2816, .f32⟩
  | 72 => ⟨S4096x2816, .f32⟩
  | 73 => ⟨S4096x2816, .f32⟩
  | 74 => ⟨S4096x2816, .f32⟩
  | 75 => ⟨S4096x2816, .f32⟩
  | 76 => ⟨S4096x1024, .f32⟩
  | 77 => ⟨S4096x2816, .f32⟩
  | 78 => ⟨S4096x2816, .f32⟩
  | 79 => ⟨S4096x2816, .f32⟩
  | 80 => ⟨S4096x2816, .f32⟩
  | 81 => ⟨S4096x2816, .f32⟩
  | 82 => ⟨S4096x2816, .f32⟩
  | 83 => ⟨S4096x2816, .f32⟩
  | 84 => ⟨S1x1024, .f32⟩
  | 85 => ⟨S_, .f32⟩
  | 86 => ⟨S4x1024, .f32⟩
  | 87 => ⟨S8x1024, .f32⟩
  | 88 => ⟨S4096x2816, .bf16⟩
  | 89 => ⟨S4096x2816, .bf16⟩
  | 90 => ⟨S4096x1024, .bf16⟩
  | 91 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v29_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v29_1 : Ref sig .tc := ⟨.hbm, 52, rfl⟩
abbrev main_v29_0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_cst_12 : Ref sig .tc := ⟨.hbm, 102, rfl⟩
abbrev main_v67 : Ref sig .tc := ⟨.hbm, 103, rfl⟩
abbrev main_v68 : Ref sig .tc := ⟨.hbm, 104, rfl⟩
abbrev main_cst_13 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_14 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_v77 : Ref sig .tc := ⟨.hbm, 116, rfl⟩
abbrev main_cst_16 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_cst_18 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_v97 : Ref sig .tc := ⟨.hbm, 141, rfl⟩
abbrev main_cst_21 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_23 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_call2_v0 : Ref sig .tc := ⟨.hbm, 167, rfl⟩
abbrev main_call2_v1 : Ref sig .tc := ⟨.hbm, 168, rfl⟩
abbrev main_call2_cst : Ref sig .tc := ⟨.hbm, 169, rfl⟩
abbrev main_call2_v2 : Ref sig .tc := ⟨.hbm, 170, rfl⟩
abbrev main_call2_v3 : Ref sig .tc := ⟨.hbm, 171, rfl⟩
abbrev main_call2_cst_0 : Ref sig .tc := ⟨.hbm, 172, rfl⟩
abbrev main_call2_v4 : Ref sig .tc := ⟨.hbm, 173, rfl⟩
abbrev main_call2_v5 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_24 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_call3_v0 : Ref sig .tc := ⟨.hbm, 190, rfl⟩
abbrev main_call3_v1 : Ref sig .tc := ⟨.hbm, 191, rfl⟩
abbrev main_call3_cst : Ref sig .tc := ⟨.hbm, 192, rfl⟩
abbrev main_call3_v2 : Ref sig .tc := ⟨.hbm, 193, rfl⟩
abbrev main_call3_v3 : Ref sig .tc := ⟨.hbm, 194, rfl⟩
abbrev main_call3_cst_0 : Ref sig .tc := ⟨.hbm, 195, rfl⟩
abbrev main_call3_v4 : Ref sig .tc := ⟨.hbm, 196, rfl⟩
abbrev main_v134_2 : Ref sig .tc := ⟨.hbm, 197, rfl⟩
abbrev main_call3_cst_1 : Ref sig .tc := ⟨.hbm, 198, rfl⟩
abbrev main_call3_v6 : Ref sig .tc := ⟨.hbm, 199, rfl⟩
abbrev main_call3_v7 : Ref sig .tc := ⟨.hbm, 200, rfl⟩
abbrev main_v134_1 : Ref sig .tc := ⟨.hbm, 201, rfl⟩
abbrev main_v134_0 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_call4_v0 : Ref sig .tc := ⟨.hbm, 208, rfl⟩
abbrev main_call4_v1 : Ref sig .tc := ⟨.hbm, 209, rfl⟩
abbrev main_call4_v2 : Ref sig .tc := ⟨.hbm, 210, rfl⟩
abbrev main_v140 : Ref sig .tc := ⟨.hbm, 211, rfl⟩
abbrev main_v141 : Ref sig .tc := ⟨.hbm, 212, rfl⟩
abbrev main_cst_25 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1024x2560 : Shape := ⟨2, ![1024, 2560]⟩
abbrev S4096x2560 : Shape := ⟨2, ![4096, 2560]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x2560, .f32⟩
  | .hbm, ⟨3, _⟩ => ⟨S4096x2560, .bf16⟩
  | .hbm, ⟨4, _⟩ => ⟨S4096x1024, .bf16⟩
  | .hbm, ⟨5, _⟩ => ⟨S2560x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S1024x2560 : Shape := ⟨2, ![1024, 2560]⟩
abbrev S4096x2560 : Shape := ⟨2, ![4096, 2560]⟩
abbrev S2560x1024 : Shape := ⟨2, ![2560, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2560, .f32⟩
  | .hbm, ⟨2, _⟩ => ⟨S4096x2560, .f32⟩
  | .hbm, ⟨3, _⟩ => ⟨S4096x2560, .f32⟩
  | .hbm, ⟨4, _⟩ => ⟨S2560x1024, .f32⟩
  | .hbm, ⟨5, _⟩ => ⟨S1024x2560, .f32⟩
  | .hbm, ⟨6, _⟩ => ⟨S2560x1024, .f32⟩
  | .hbm, ⟨7, _⟩ => ⟨S2560x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1024x2816 : Shape := ⟨2, ![1024, 2816]⟩
abbrev S2816x1024 : Shape := ⟨2, ![2816, 1024]⟩
abbrev S8x128 : Shape := ⟨2, ![8, 128]⟩
abbrev S4096x2816 : Shape := ⟨2, ![4096, 2816]⟩
abbrev S_ : Shape := ⟨0, ![]⟩
abbrev S1x2816x1024 : Shape := ⟨3, ![1, 2816, 1024]⟩
abbrev S512x1408 : Shape := ⟨2, ![512, 1408]⟩
abbrev S512x1024 : Shape := ⟨2, ![512, 1024]⟩
abbrev S1x1408x1024 : Shape := ⟨3, ![1, 1408, 1024]⟩
abbrev S1408x1024 : Shape := ⟨2, ![1408, 1024]⟩

abbrev nBuf : Space → Nat
  | .hbm => 24
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S8x128, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .bf16⟩
  | .hbm, ⟨19, _⟩ => ⟨S4096x2816, .bf16⟩
  | .hbm, ⟨20, _⟩ => ⟨S4096x2816, .bf16⟩
  | .hbm, ⟨21, _⟩ => ⟨S4096x1024, .bf16⟩
  | .hbm, ⟨22, _⟩ => ⟨S4096x1024, .bf16⟩
  | .hbm, ⟨23, _⟩ => ⟨S1x2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S8x128, .f32⟩
  | .local _ .vmem, ⟨5, _⟩ => ⟨S1x1408x1024, .bf16⟩
  | .local _ .vmem, ⟨6, _⟩ => ⟨S1x1408x1024, .bf16⟩
  | .local _ .vmem, ⟨7, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S4096x1024 : Shape := ⟨2, ![4096, 1024]⟩
abbrev S1024x2816 : Shape := ⟨2, ![1024, 2816]⟩
abbrev S2816x1024 : Shape := ⟨2, ![2816, 1024]⟩
abbrev S8x128 : Shape := ⟨2, ![8, 128]⟩
abbrev S4096x2816 : Shape := ⟨2, ![4096, 2816]⟩
abbrev S_ : Shape := ⟨0, ![]⟩
abbrev S1x2816x1024 : Shape := ⟨3, ![1, 2816, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S8x128, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S1024x2816, .f32⟩
  | .hbm, ⟨20, _⟩ => ⟨S2816x1024, .f32⟩
  | .hbm, ⟨21, _⟩ => ⟨S1x2816x1024, .f32⟩
  | .hbm, ⟨22, _⟩ => ⟨S1x2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩

abbrev nD : Nat := 1
abbrev τ : Topo := Topo.v7x

variable {F : FTy → Type} [FloatOps F]
-- ==== Kernel8.lean ====
abbrev S4096x1024 : Shape := ⟨2, ![4096, 1024]⟩
abbrev S1024x2816 : Shape := ⟨2, ![1024, 2816]⟩
abbrev S2816x1024 : Shape := ⟨2, ![2816, 1024]⟩
abbrev S8x128 : Shape := ⟨2, ![8, 128]⟩
abbrev S4096x2816 : Shape := ⟨2, ![4096, 2816]⟩
abbrev S_ : Shape := ⟨0, ![]⟩
abbrev S2x2816x1024 : Shape := ⟨3, ![2, 2816, 1024]⟩
abbrev S512x1408 : Shape := ⟨2, ![512, 1408]⟩
abbrev S512x1024 : Shape := ⟨2, ![512, 1024]⟩
abbrev S2x1408x1024 : Shape := ⟨3, ![2, 1408, 1024]⟩
abbrev S1408x1024 : Shape := ⟨2, ![1408, 1024]⟩
abbrev S1x1408x1024 : Shape := ⟨3, ![1, 1408, 1024]⟩

abbrev nBuf : Space → Nat
  | .hbm => 36
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S8x128, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S1024x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .bf16⟩
  | .hbm, ⟨31, _⟩ => ⟨S4096x2816, .bf16⟩
  | .hbm, ⟨32, _⟩ => ⟨S4096x2816, .bf16⟩
  | .hbm, ⟨33, _⟩ => ⟨S4096x1024, .bf16⟩
  | .hbm, ⟨34, _⟩ => ⟨S4096x1024, .bf16⟩
  | .hbm, ⟨35, _⟩ => ⟨S2x2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | .local _ .vmem, ⟨7, _⟩ => ⟨S2x1408x1024, .bf16⟩
  | .local _ .vmem, ⟨8, _⟩ => ⟨S2x1408x1024, .bf16⟩
  | .local _ .vmem, ⟨9, _⟩ => ⟨S1408x1024, .f32⟩
  | .local _ .vmem, ⟨10, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S4096x1024 : Shape := ⟨2, ![4096, 1024]⟩
abbrev S1024x2816 : Shape := ⟨2, ![1024, 2816]⟩
abbrev S2816x1024 : Shape := ⟨2, ![2816, 1024]⟩
abbrev S8x128 : Shape := ⟨2, ![8, 128]⟩
abbrev S4096x2816 : Shape := ⟨2, ![4096, 2816]⟩
abbrev S_ : Shape := ⟨0, ![]⟩
abbrev S1x2816x1024 : Shape := ⟨3, ![1, 2816, 1024]⟩
abbrev S2x2816x1024 : Shape := ⟨3, ![2, 2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S8x128, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S2816x1024, .f32⟩
  | .hbm, ⟨27, _⟩ => ⟨S1024x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S2816x1024, .f32⟩
  | .hbm, ⟨33, _⟩ => ⟨S1024x2816, .f32⟩
  | .hbm, ⟨34, _⟩ => ⟨S2816x1024, .f32⟩
  | .hbm, ⟨35, _⟩ => ⟨S2816x1024, .f32⟩
  | .hbm, ⟨36, _⟩ => ⟨S1x2816x1024, .f32⟩
  | .hbm, ⟨37, _⟩ => ⟨S1x2816x1024, .f32⟩
  | .hbm, ⟨38, _⟩ => ⟨S2x2816x1024, .f32⟩
  | .hbm, ⟨39, _⟩ => ⟨S2x2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v1_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v1_1 : Ref sig .tc := ⟨.hbm, 18, rfl⟩
abbrev main_v1_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S3x1024 : Shape := ⟨2, ![3, 1024]⟩
abbrev S_ : Shape := ⟨0, ![]⟩
abbrev S8x1024 : Shape := ⟨2, ![8, 1024]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S3x1024, .f32⟩
  | .hbm, ⟨4, _⟩ => ⟨S4096x1024, .bf16⟩
  | .hbm, ⟨5, _⟩ => ⟨S1024x1024, .bf16⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S4096x1024, .f32⟩
  | .hbm, ⟨10, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S4096x1024 : Shape := ⟨2, ![4096, 1024]⟩
abbrev S1024x1024 : Shape := ⟨2, ![1024, 1024]⟩
abbrev S3x1024 : Shape := ⟨2, ![3, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S3x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S3x1024 : Shape := ⟨2, ![3, 1024]⟩
abbrev S_ : Shape := ⟨0, ![]⟩
abbrev S8x1024 : Shape := ⟨2, ![8, 1024]⟩
abbrev S4096x512 : Shape := ⟨2, ![4096, 512]⟩
abbrev S1024x512 : Shape := ⟨2, ![1024, 512]⟩
abbrev S1x1024 : Shape := ⟨2, ![1, 1024]⟩
abbrev S1024 : Shape := ⟨1, ![1024]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S3x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1024x1024, .bf16⟩
  | .hbm, ⟨8, _⟩ => ⟨S_, .i32⟩
  | .hbm, ⟨9, _⟩ => ⟨S_, .f32⟩
  | .hbm, ⟨10, _⟩ => ⟨S8x1024, .f32⟩
  | .hbm, ⟨11, _⟩ => ⟨S4096x1024, .bf16⟩
  | .hbm, ⟨12, _⟩ => ⟨S4096x512, .f32⟩
  | .hbm, ⟨13, _⟩ => ⟨S4096x512, .f32⟩
  | .hbm, ⟨14, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S4096x1024 : Shape := ⟨2, ![4096, 1024]⟩
abbrev S1024x1024 : Shape := ⟨2, ![1024, 1024]⟩
abbrev S3x1024 : Shape := ⟨2, ![3, 1024]⟩
abbrev S1x1024 : Shape := ⟨2, ![1, 1024]⟩
abbrev S_ : Shape := ⟨0, ![]⟩
abbrev S1024 : Shape := ⟨1, ![1024]⟩
abbrev S5x1024 : Shape := ⟨2, ![5, 1024]⟩
abbrev S8x1024 : Shape := ⟨2, ![8, 1024]⟩
abbrev S4096x512 : Shape := ⟨2, ![4096, 512]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S3x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S_, .f32⟩
  | .hbm, ⟨18, _⟩ => ⟨S3x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S5x1024, .f32⟩
  | .hbm, ⟨28, _⟩ => ⟨S8x1024, .f32⟩
  | .hbm, ⟨29, _⟩ => ⟨S4096x1024, .bf16⟩
  | .hbm, ⟨30, _⟩ => ⟨S4096x512, .f32⟩
  | .hbm, ⟨31, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.SguReal.lean ====
module

public import Idealize.ShloMosaic.Lib.Pointwise
public import Idealize.ShloMosaic.Lib.Claim
public import Idealize.ShloMosaic.Lib.WordCmp

@[expose] public section

set_option maxRecDepth 16384

noncomputable section

open Idealize.ShloMosaic

/-! The spatial gate and its gradient over the real numbers, one chunk of 128 tokens and one head of 128 channels at a time. -/
namespace SguR

/-- The rational that the word of the normalisation's epsilon denotes. -/
def eps : ℝ := 8796093 / 8796093022208
/-- The rational that the word of the square root of two over pi denotes. -/
def gk : ℝ := 6693141 / 8388608

def gelu (x : ℝ) : ℝ := 1 / 2 * x * (1 + Real.tanh (gk * (x + 44715 / 1000000 * x * x * x)))

def dgelu (x : ℝ) : ℝ :=
  1 / 2 * (1 + Real.tanh (gk * (x + 44715 / 1000000 * x * x * x)))
    + 1 / 2 * x * (1 - Real.tanh (gk * (x + 44715 / 1000000 * x * x * x)) * Real.tanh (gk * (x + 44715 / 1000000 * x * x * x)))
      * (gk * (1 + 134145 / 1000000 * x * x))

/-- A chunk of one head: rows are tokens, columns channels. -/
abbrev Tile := Fin 128 → Fin 128 → ℝ
abbrev Row := Fin 128 → ℝ

def mean (x : Row) : ℝ := (∑ c, x c) / 128
def cen (V : Tile) (i c : Fin 128) : ℝ := gelu (V i c) - mean (fun c => gelu (V i c))
def var (V : Tile) (i : Fin 128) : ℝ := mean (fun c => cen V i c * cen V i c)
def rs (V : Tile) (i : Fin 128) : ℝ := (Real.sqrt (var V i + eps))⁻¹
def xh (V : Tile) (i c : Fin 128) : ℝ := cen V i c * rs V i
def vn (V : Tile) (G B : Row) (i c : Fin 128) : ℝ := xh V i c * G c + B c
def z (V : Tile) (G B : Row) (W : Tile) (S : Row) (i c : Fin 128) : ℝ := (∑ j, if j ≤ i then W i j * vn V G B j c else 0) + S i
def dz (A D : Tile) (i c : Fin 128) : ℝ := D i c * gelu (A i c)
def dvn (A D W : Tile) (j c : Fin 128) : ℝ := ∑ i, if j ≤ i then W i j * dz A D i c else 0
def du (A V D : Tile) (G B : Row) (W : Tile) (S : Row) (i c : Fin 128) : ℝ := D i c * z V G B W S i c * dgelu (A i c)
def dxh (A D W : Tile) (G : Row) (i c : Fin 128) : ℝ := dvn A D W i c * G c
def dv (A V D W : Tile) (G : Row) (i c : Fin 128) : ℝ :=
  rs V i * (dxh A D W G i c - mean (fun c => dxh A D W G i c) - xh V i c * mean (fun c => dxh A D W G i c * xh V i c)) * dgelu (V i c)
def dw (A V D : Tile) (G B : Row) (i j : Fin 128) : ℝ := ∑ c, dz A D i c * vn V G B j c
def dg (A V D W : Tile) (c : Fin 128) : ℝ := ∑ j, dvn A D W j c * xh V j c
def ds (A D W : Tile) (c : Fin 128) : ℝ := ∑ j, dvn A D W j c

theorem eps_pos : 0 < eps := by unfold eps; norm_num
theorem var_nonneg (V : Tile) (i : Fin 128) : 0 ≤ var V i :=
  div_nonneg (Finset.sum_nonneg fun c _ => mul_self_nonneg _) (by norm_num)

/-! The operations at coerced reals. -/

theorem half_at : Ideal.ofBits .f32 1056964608#32 = ((1 / 2 : ℝ) : EReal) := by
  simp [Ideal.ofBits, Ideal.ieee, -EReal.coe_mul]; norm_num
theorem c128_at : Ideal.ofBits .f32 1124073472#32 = ((128 : ℝ) : EReal) := by
  simp [Ideal.ofBits, Ideal.ieee, -EReal.coe_mul]; norm_num
theorem gk_at : Ideal.ofBits .f32 1061962282#32 = (gk : EReal) := by
  simp [Ideal.ofBits, Ideal.ieee, -EReal.coe_mul, gk]; norm_num
theorem eps_at : Ideal.ofBits .f32 897988541#32 = (eps : EReal) := by
  simp [Ideal.ofBits, Ideal.ieee, -EReal.coe_mul, eps]; norm_num

theorem sum_at {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div128_at (x : ℝ) : Ideal.div (x : EReal) ((128 : ℝ) : EReal) = ((x / 128 : ℝ) : EReal) := by
  rw [Ideal.div_coe (by norm_num), ← EReal.coe_mul]; congr 1; ring

theorem rsqrt_at (x : ℝ) (h : 0 < x) : Ideal.rsqrt (x : EReal) = (((Real.sqrt x)⁻¹ : ℝ) : EReal) := by
  rw [Ideal.rsqrt_coe, if_neg (not_lt.mpr h.le), if_neg h.ne']

theorem one_at : (1 : EReal) = ((1 : ℝ) : EReal) := rfl
theorem ite_at (p : Prop) [Decidable p] (x : ℝ) : (if p then (x : EReal) else 0) = ((if p then x else 0 : ℝ) : EReal) := by
  split <;> simp

theorem select_at {α : Type} (x i : Fin 128) (a b : α) :
    Scalar.select (IntOp.cmpi CmpIPredicate.sle (BitVec.ofNat 32 ↑x) (BitVec.ofNat 32 ↑i)) a b = if x ≤ i then a else b := by
  have hx : (x : ℕ) < 2 ^ (32 - 1) := lt_trans x.isLt (by norm_num)
  have hi : (i : ℕ) < 2 ^ (32 - 1) := lt_trans i.isLt (by norm_num)
  exact if_congr (WordCmp.cmpi_sle_ofNat_eq_one_iff hx hi) rfl rfl

end SguR
-- ==== Proof.SguTile.lean ====
module

public import proofs.«01_k».proof.Proof.Gen.KernelIdeal.Frame
public import Idealize.ShloMosaic.Lib.Pipeline.ValueKit
public import Idealize.ShloMosaic.Lib.Pointwise
public import Idealize.ShloMosaic.Lib.Pipeline.ReadBack
public import proofs.«01_k».proof.Proof.SguReal

@[expose] public section

set_option maxRecDepth 16384

noncomputable section

open Idealize.ShloMosaic Idealize.ShloMosaic.TcCoe Idealize.SL.Sem

namespace Cert.KernelIdeal.Sgu

open Cert.KernelIdeal Cert.KernelIdeal.Gen

/-- The stored tile of the gradient of the gate's first half. -/
def tDu (w : Vec Ideal S1x128x128 .f32) (lg lb : Vec Ideal S1x128 .f32) (b : Vec Ideal S128x1 .f32) (xa xv dd : Vec Ideal S128x128 .f32) : Vec Ideal S128x128 .bf16 :=
  k0_pay20 xa (k0_pay18 (k0_pay6 w) (k0_pay8 lg) dd (k0_pay10 xv) (k0_pay11 xv) lb b) (k0_pay19 xa) (FloatOps.ofBits FTy.f32 1065353216#32)

/-- The stored tile of the gradient of the gate's second half. -/
def tDv (w : Vec Ideal S1x128x128 .f32) (lg : Vec Ideal S1x128 .f32) (xa xv dd : Vec Ideal S128x128 .f32) : Vec Ideal S128x128 .bf16 :=
  k0_pay29 xv (k0_pay26 (k0_pay7 w) (k0_pay8 lg) (k0_pay13 (k0_pay10 xv) (k0_pay11 xv)) (k0_pay14 (k0_pay10 xv) (k0_pay11 xv)) (k0_pay17 dd (k0_pay9 xa))) (k0_pay27 xv) k0_pay28

/-- One tile's step of the bias gradient's accumulator. -/
def tDb (xa dd : Vec Ideal S128x128 .f32) (p : Vec Ideal S1x128x128 .f32) : Vec Ideal S1x128x128 .f32 :=
  k0_pay22 (k0_pay16 dd (k0_pay9 xa)) p

/-- One tile's step of the weight gradient's accumulator. -/
def tDw (lg lb : Vec Ideal S1x128 .f32) (xa xv dd : Vec Ideal S128x128 .f32) (p : Vec Ideal S1x128x128 .f32) : Vec Ideal S1x128x128 .f32 :=
  k0_pay21 (k0_pay15 (k0_pay8 lg) (k0_pay10 xv) (k0_pay11 xv) lb) (k0_pay17 dd (k0_pay9 xa)) p

/-- One tile's step of the accumulator of the normalisation's gain gradient. -/
def tDg (w : Vec Ideal S1x128x128 .f32) (xa xv dd : Vec Ideal S128x128 .f32) (p : Vec Ideal S1x128 .f32) : Vec Ideal S1x128 .f32 :=
  k0_pay24 (k0_pay7 w) (k0_pay14 (k0_pay10 xv) (k0_pay11 xv)) (k0_pay17 dd (k0_pay9 xa)) p

/-- One tile's step of the accumulator of the normalisation's offset gradient. -/
def tDs (w : Vec Ideal S1x128x128 .f32) (xa dd : Vec Ideal S128x128 .f32) (p : Vec Ideal S1x128 .f32) : Vec Ideal S1x128 .f32 :=
  k0_pay25 (k0_pay7 w) (k0_pay17 dd (k0_pay9 xa)) p

/-! The tiles at an index, when what they read is real. -/

theorem named_cubic : Named.named (F := Ideal) κ "gelu_cubic" (φ := .f32) 1027024659#32 = ((44715 / 1000000 : ℝ) : EReal) := by
  show ((8943 / 200000 : ℝ) : EReal) = _
  norm_num
theorem named_grad : Named.named (F := Ideal) κ "gelu_grad_cubic" (φ := .f32) 1040801103#32 = ((134145 / 1000000 : ℝ) : EReal) := by
  show ((26829 / 200000 : ℝ) : EReal) = _
  norm_num

/-- What the tiles of one chunk and one head hold. -/
structure Holds (w : Vec Ideal S1x128x128 .f32) (lg lb : Vec Ideal S1x128 .f32) (b : Vec Ideal S128x1 .f32) (xa xv dd : Vec Ideal S128x128 .f32)
    (W : SguR.Tile) (G B S : SguR.Row) (A V D : SguR.Tile) : Prop where
  hw : ∀ i j, w (ix3 0 i j) = (W i j : EReal)
  hg : ∀ c, lg (ix2 0 c) = (G c : EReal)
  hb : ∀ c, lb (ix2 0 c) = (B c : EReal)
  hs : ∀ i, b (ix2 i 0) = (S i : EReal)
  ha : ∀ i c, xa (ix2 i c) = (A i c : EReal)
  hv : ∀ i c, xv (ix2 i c) = (V i c : EReal)
  hd : ∀ i c, dd (ix2 i c) = (D i c : EReal)

variable {w : Vec Ideal S1x128x128 .f32} {lg lb : Vec Ideal S1x128 .f32} {b : Vec Ideal S128x1 .f32} {xa xv dd : Vec Ideal S128x128 .f32}
  {W : SguR.Tile} {G B S : SguR.Row} {A V D : SguR.Tile}

theorem gelu_at (x : ℝ) : Ideal.ofBits .f32 1056964608#32 * (x : EReal) * (1 + Ideal.tanh (Ideal.ofBits .f32 1061962282#32 * ((x : EReal) + Named.named (F := Ideal) κ "gelu_cubic" (φ := .f32) 1027024659#32 * (x : EReal) * (x : EReal) * (x : EReal))))
    = (SguR.gelu x : EReal) := by
  rw [SguR.half_at, SguR.gk_at, named_cubic, SguR.one_at]
  simp only [← EReal.coe_mul, ← EReal.coe_add, Ideal.tanh_coe]
  rfl

theorem dgelu_at (x : ℝ) : Ideal.ofBits .f32 1056964608#32 * (1 + Ideal.tanh (Ideal.ofBits .f32 1061962282#32 * ((x : EReal) + Named.named (F := Ideal) κ "gelu_cubic" (φ := .f32) 1027024659#32 * (x : EReal) * (x : EReal) * (x : EReal))))
      + Ideal.ofBits .f32 1056964608#32 * (x : EReal) * (1 - Ideal.tanh (Ideal.ofBits .f32 1061962282#32 * ((x : EReal) + Named.named (F := Ideal) κ "gelu_cubic" (φ := .f32) 1027024659#32 * (x : EReal) * (x : EReal) * (x : EReal)))
        * Ideal.tanh (Ideal.ofBits .f32 1061962282#32 * ((x : EReal) + Named.named (F := Ideal) κ "gelu_cubic" (φ := .f32) 1027024659#32 * (x : EReal) * (x : EReal) * (x : EReal))))
        * (Ideal.ofBits .f32 1061962282#32 * (1 + Named.named (F := Ideal) κ "gelu_grad_cubic" (φ := .f32) 1040801103#32 * (x : EReal) * (x : EReal)))
    = (SguR.dgelu x : EReal) := by
  rw [SguR.half_at, SguR.gk_at, named_cubic, named_grad, SguR.one_at]
  simp only [← EReal.coe_mul, ← EReal.coe_add, ← EReal.coe_sub, Ideal.tanh_coe]
  rfl

open SguR in
theorem mean_at (x : ℝ) : Ideal.div (x : EReal) (Ideal.ofBits .f32 1124073472#32) = ((x / 128 : ℝ) : EReal) := by
  rw [c128_at, div128_at]

open SguR in
theorem cen_at (V : Tile) (i c : Fin 128) : (gelu (V i c) : EReal) - (((∑ c, gelu (V i c)) / 128 : ℝ) : EReal) = (cen V i c : EReal) := by
  rw [← EReal.coe_sub]; rfl

open SguR in
theorem rs_at (V : Tile) (i : Fin 128) : Ideal.rsqrt ((((∑ c, cen V i c * cen V i c) / 128 : ℝ) : EReal) + Ideal.ofBits .f32 897988541#32) = (rs V i : EReal) := by
  rw [eps_at, ← EReal.coe_add]; exact rsqrt_at _ (add_pos_of_nonneg_of_pos (var_nonneg V i) eps_pos)

open SguR in
theorem tDu_at (h : Holds w lg lb b xa xv dd W G B S A V D) (i c : Fin 128) :
    tDu w lg lb b xa xv dd (ix2 i c) = (du A V D G B W S i c : EReal) := by
  unfold tDu; unfold_payloads; pointwise
  simp only [h.hw, h.hg, h.hb, h.hs, h.ha, h.hv, h.hd, dgelu_at, gelu_at, sum_at, mean_at, cen_at V, select_at, ← EReal.coe_mul, rs_at V,
    ← EReal.coe_add, ite_at]
  rfl

open SguR in
theorem tDv_at (h : Holds w lg lb b xa xv dd W G B S A V D) (i c : Fin 128) :
    tDv w lg xa xv dd (ix2 i c) = (dv A V D W G i c : EReal) := by
  unfold tDv; unfold_payloads; pointwise
  simp only [h.hw, h.hg, h.hb, h.hs, h.ha, h.hv, h.hd, dgelu_at, gelu_at, sum_at, mean_at, cen_at V, select_at, ← EReal.coe_mul, rs_at V,
    ← EReal.coe_add, ← EReal.coe_sub, ite_at]
  rfl

open SguR in
theorem tDb_at (h : Holds w lg lb b xa xv dd W G B S A V D) (p) (i c : Fin 128) :
    tDb xa dd p (ix3 0 i c) = p (ix3 0 i c) + (dz A D i c : EReal) := by
  unfold tDb; unfold_payloads; pointwise
  simp only [h.ha, h.hd, gelu_at, ← EReal.coe_mul]
  rfl

open SguR in
theorem tDw_at (h : Holds w lg lb b xa xv dd W G B S A V D) (p) (i j : Fin 128) :
    tDw lg lb xa xv dd p (ix3 0 i j) = p (ix3 0 i j) + (dw A V D G B i j : EReal) := by
  unfold tDw; unfold_payloads; pointwise
  simp only [h.hw, h.hg, h.hb, h.hs, h.ha, h.hv, h.hd, gelu_at, sum_at, mean_at, cen_at V, ← EReal.coe_mul, rs_at V,
    ← EReal.coe_add]
  rfl

open SguR in
theorem tDg_at (h : Holds w lg lb b xa xv dd W G B S A V D) (p) (c : Fin 128) :
    tDg w xa xv dd p (ix2 0 c) = p (ix2 0 c) + (dg A V D W c : EReal) := by
  unfold tDg; unfold_payloads; pointwise
  simp only [h.hw, h.ha, h.hv, h.hd, gelu_at, sum_at, mean_at, cen_at V, select_at, ← EReal.coe_mul, rs_at V,
    ← EReal.coe_add, ite_at]
  rfl

open SguR in
theorem tDs_at (h : Holds w lg lb b xa xv dd W G B S A V D) (p) (c : Fin 128) :
    tDs w xa dd p (ix2 0 c) = p (ix2 0 c) + (ds A D W c : EReal) := by
  unfold tDs; unfold_payloads; pointwise
  simp only [h.hw, h.ha, h.hd, gelu_at, select_at, ← EReal.coe_mul, ite_at, sum_at]
  rfl

end Cert.KernelIdeal.Sgu
-- ==== Proof.SguRun.lean ====
module

public import proofs.«01_k».proof.Proof.SguTile

@[expose] public section

set_option maxRecDepth 16384

noncomputable section

open Idealize.ShloMosaic Idealize.ShloMosaic.TcCoe Idealize.SL.Sem

namespace Cert.KernelIdeal.Sgu

open Cert.KernelIdeal Cert.KernelIdeal.Gen

/-! What one grid point leaves in its output blocks, told by the tiles of `SguTile`. -/

section Canon
variable {Val : EltTy → Type} [∀ e, Nonempty (Val e)] {s : Shape} {e : EltTy}

theorem canon_hit (r : Rect s) (w : r.shape.Idx → Val e) (L : List (View.Piece Val s e)) (y : s.Idx) (x : r.shape.Idx)
    (hx : ∀ a, (y a).val = r.off a + r.stride a * (x a).val) : View.canon (⟨r, w⟩ :: L) y = w x := by
  rw [← r.emb_eq_of_coords x y hx]; exact View.canon_cons_emb r w L x

theorem canon_miss (p : View.Piece Val s e) (L : List (View.Piece Val s e)) (y : s.Idx) (a : Fin s.rank) (o n : ℕ)
    (ho : p.1.off a = o) (hst : p.1.stride a = 1) (hn : p.1.size a = n) (h : (y a).val < o ∨ o + n ≤ (y a).val) :
    View.canon (p :: L) y = View.canon L y :=
  View.canon_cons_of_not_mem p L (p.1.not_mem_set_of_axis y a o n ho hst hn h)
end Canon

variable (m : (ℓ : Loc nD τ sig) → Buf (Elt Ideal) ℓ)

/-- The tile of a 512 by 512 block at chunk `cc` and head `hd`. -/
def tile (X : Vec Ideal S512x512 .f32) (cc hd : Fin 4) : Vec Ideal S128x128 .f32 :=
  View.ld X (Rect.unit ![128 * cc.val, 128 * hd.val] ![128, 128] (by intro a; fin_cases a <;> simp <;> omega))
def rowTile (X : Vec Ideal S1x512 .f32) (hd : Fin 4) : Vec Ideal S1x128 .f32 :=
  View.ld X (Rect.unit ![0, 128 * hd.val] ![1, 128] (by intro a; fin_cases a <;> simp <;> omega))
def matTile (X : Vec Ideal S4x128x128 .f32) (hd : Fin 4) : Vec Ideal S1x128x128 .f32 :=
  View.ld X (Rect.unit ![hd.val, 0, 0] ![1, 128, 128] (by intro a; fin_cases a <;> simp <;> omega))
def colTile (X : Vec Ideal S128x4 .f32) (hd : Fin 4) : Vec Ideal S128x1 .f32 :=
  View.ld X (Rect.unit ![0, hd.val] ![128, 1] (by intro a; fin_cases a <;> simp <;> omega))
def lineTile (X : Vec Ideal S8x512 .f32) (r : Fin 8) (hd : Fin 4) : Vec Ideal S1x128 .f32 :=
  View.ld X (Rect.unit ![r.val, 128 * hd.val] ![1, 128] (by intro a; fin_cases a <;> simp <;> omega))

/-- The four chunks of a point, one after the other. -/
def four {α : Type} (f : Fin 4 → α → α) (p : α) : α := f 3 (f 2 (f 1 (f 0 p)))

set_option maxHeartbeats 1600000

theorem db_B (c : Dev nD) (t : Fin cfg0.N) (h : ¬ t.val % 8 = 0) (hd : Fin 4) (i j : Fin 128) :
    (outsAt0 m c t.val t.isLt).2.2.2 (ix3 hd i j)
      = four (fun cc => tDb (tile (iblk m c 0 t) cc hd) (tile (iblk m c 2 t) cc hd))
          (matTile (outsAt0 m c (t.val - 1) (Nat.lt_of_le_of_lt (Nat.sub_le _ _) t.isLt)).2.2.2 hd) (ix3 0 i j) := by
  rw [outsAt0_B m c t h]; frame_open
  simp (disch := decide) only [↓ View.readCov_skip, ↓ View.readCov_cons_toLoadRect, ↓ View.readCov_fill]
  frame_out
  obtain ⟨hd, hhd⟩ := hd
  interval_cases hd <;>
  · repeat refine (canon_miss _ _ _ 0 _ _ rfl rfl rfl (Or.inl (Nat.le_of_ble_eq_true rfl))).trans ?_
    refine (canon_hit _ _ _ _ (ix3 0 i j) ?_).trans ?_
    · intro a; fin_cases a <;> simp [ix3]
    · rfl

theorem dw_B (c : Dev nD) (t : Fin cfg0.N) (h : ¬ t.val % 8 = 0) (hd : Fin 4) (i j : Fin 128) :
    (outsAt0 m c t.val t.isLt).2.2.1 (ix3 hd i j)
      = four (fun cc => tDw (rowTile (iblk m c 3 t) hd) (rowTile (iblk m c 4 t) hd) (tile (iblk m c 0 t) cc hd)
            (tile (iblk m c 1 t) cc hd) (tile (iblk m c 2 t) cc hd))
          (matTile (outsAt0 m c (t.val - 1) (Nat.lt_of_le_of_lt (Nat.sub_le _ _) t.isLt)).2.2.1 hd) (ix3 0 i j) := by
  rw [outsAt0_B m c t h]; frame_open
  simp (disch := decide) only [↓ View.readCov_skip, ↓ View.readCov_cons_toLoadRect, ↓ View.readCov_fill]
  frame_out
  obtain ⟨hd, hhd⟩ := hd
  interval_cases hd <;>
  · repeat refine (canon_miss _ _ _ 0 _ _ rfl rfl rfl (Or.inl (Nat.le_of_ble_eq_true rfl))).trans ?_
    refine (canon_hit _ _ _ _ (ix3 0 i j) ?_).trans ?_
    · intro a; fin_cases a <;> simp [ix3]
    · rfl

theorem db_A (c : Dev nD) (t : Fin cfg0.N) (h : t.val % 8 = 0) (hd : Fin 4) (i j : Fin 128) :
    (outsAt0 m c t.val t.isLt).2.2.2 (ix3 hd i j)
      = four (fun cc => tDb (tile (iblk m c 0 t) cc hd) (tile (iblk m c 2 t) cc hd))
          (matTile (k0_pay4 (F := Idealize.ShloMosaic.Ideal)) hd) (ix3 0 i j) := by
  rw [outsAt0_A m c t h]; frame_open
  simp (disch := decide) only [↓ View.readCov_skip, ↓ View.readCov_cons_toLoadRect, ↓ View.readCov_fill]
  frame_out
  obtain ⟨hd, hhd⟩ := hd
  interval_cases hd <;>
  · repeat refine (canon_miss _ _ _ 0 _ _ rfl rfl rfl (Or.inl (Nat.le_of_ble_eq_true rfl))).trans ?_
    refine (canon_hit _ _ _ _ (ix3 0 i j) ?_).trans ?_
    · intro a; fin_cases a <;> simp [ix3]
    · rfl

theorem dw_A (c : Dev nD) (t : Fin cfg0.N) (h : t.val % 8 = 0) (hd : Fin 4) (i j : Fin 128) :
    (outsAt0 m c t.val t.isLt).2.2.1 (ix3 hd i j)
      = four (fun cc => tDw (rowTile (iblk m c 3 t) hd) (rowTile (iblk m c 4 t) hd) (tile (iblk m c 0 t) cc hd)
            (tile (iblk m c 1 t) cc hd) (tile (iblk m c 2 t) cc hd))
          (matTile (k0_pay3 (F := Idealize.ShloMosaic.Ideal)) hd) (ix3 0 i j) := by
  rw [outsAt0_A m c t h]; frame_open
  simp (disch := decide) only [↓ View.readCov_skip, ↓ View.readCov_cons_toLoadRect, ↓ View.readCov_fill]
  frame_out
  obtain ⟨hd, hhd⟩ := hd
  interval_cases hd <;>
  · repeat refine (canon_miss _ _ _ 0 _ _ rfl rfl rfl (Or.inl (Nat.le_of_ble_eq_true rfl))).trans ?_
    refine (canon_hit _ _ _ _ (ix3 0 i j) ?_).trans ?_
    · intro a; fin_cases a <;> simp [ix3]
    · rfl

theorem pair_A0 (c : Dev nD) (t : Fin cfg0.N) (h : t.val % 8 = 0) (hd : Fin 4) (j : Fin 128) :
    (outsAt0 m c t.val t.isLt).2.1 (ix2 0 ⟨128 * hd.val + j.val, by omega⟩)
      = four (fun cc => tDg (matTile (iblk m c 5 t) hd) (tile (iblk m c 0 t) cc hd)
            (tile (iblk m c 1 t) cc hd) (tile (iblk m c 2 t) cc hd))
          (lineTile (k0_pay2 (F := Idealize.ShloMosaic.Ideal)) 0 hd) (ix2 0 j) := by
  rw [outsAt0_A m c t h]; frame_open
  simp (disch := decide) only [↓ View.readCov_skip, ↓ View.readCov_cons_toLoadRect, ↓ View.readCov_fill]
  frame_out
  obtain ⟨hd, hhd⟩ := hd
  interval_cases hd <;>
  · repeat first
      | refine (canon_miss _ _ _ 0 _ _ rfl rfl rfl (Or.inl (Nat.le_of_ble_eq_true rfl))).trans ?_
      | refine (canon_miss _ _ _ 1 _ _ rfl rfl rfl (Or.inl ((Nat.add_lt_add_left j.isLt _).trans_le (Nat.le_of_ble_eq_true rfl)))).trans ?_
    refine (canon_hit _ _ _ _ (ix2 0 j) ?_).trans ?_
    · intro a; fin_cases a <;> simp [ix2]
    · rfl

theorem pair_A1 (c : Dev nD) (t : Fin cfg0.N) (h : t.val % 8 = 0) (hd : Fin 4) (j : Fin 128) :
    (outsAt0 m c t.val t.isLt).2.1 (ix2 1 ⟨128 * hd.val + j.val, by omega⟩)
      = four (fun cc => tDs (matTile (iblk m c 5 t) hd) (tile (iblk m c 0 t) cc hd) (tile (iblk m c 2 t) cc hd))
          (lineTile (k0_pay2 (F := Idealize.ShloMosaic.Ideal)) 1 hd) (ix2 0 j) := by
  rw [outsAt0_A m c t h]; frame_open
  simp (disch := decide) only [↓ View.readCov_skip, ↓ View.readCov_cons_toLoadRect, ↓ View.readCov_fill]
  frame_out
  obtain ⟨hd, hhd⟩ := hd
  interval_cases hd <;>
  · repeat first
      | refine (canon_miss _ _ _ 0 _ _ rfl rfl rfl (Or.inl (Nat.le_of_ble_eq_true rfl))).trans ?_
      | refine (canon_miss _ _ _ 0 _ _ rfl rfl rfl (Or.inr (Nat.le_of_ble_eq_true rfl))).trans ?_
      | refine (canon_miss _ _ _ 1 _ _ rfl rfl rfl (Or.inl ((Nat.add_lt_add_left j.isLt _).trans_le (Nat.le_of_ble_eq_true rfl)))).trans ?_
    refine (canon_hit _ _ _ _ (ix2 0 j) ?_).trans ?_
    · intro a; fin_cases a <;> simp [ix2]
    · rfl

theorem pair_B0 (c : Dev nD) (t : Fin cfg0.N) (h : ¬ t.val % 8 = 0) (hd : Fin 4) (j : Fin 128) :
    (outsAt0 m c t.val t.isLt).2.1 (ix2 0 ⟨128 * hd.val + j.val, by omega⟩)
      = four (fun cc => tDg (matTile (iblk m c 5 t) hd) (tile (iblk m c 0 t) cc hd)
            (tile (iblk m c 1 t) cc hd) (tile (iblk m c 2 t) cc hd))
          (lineTile (outsAt0 m c (t.val - 1) (Nat.lt_of_le_of_lt (Nat.sub_le _ _) t.isLt)).2.1 0 hd) (ix2 0 j) := by
  rw [outsAt0_B m c t h]; frame_open
  simp (disch := decide) only [↓ View.readCov_skip, ↓ View.readCov_cons_toLoadRect, ↓ View.readCov_fill]
  frame_out
  obtain ⟨hd, hhd⟩ := hd
  interval_cases hd <;>
  · repeat first
      | refine (View.read_writes_cons_miss_of_axis _ _ _ _ _ 0 _ _ rfl rfl rfl (Or.inl (Nat.le_of_ble_eq_true rfl))).trans ?_
      | refine (View.read_writes_cons_miss_of_axis _ _ _ _ _ 1 _ _ rfl rfl rfl (Or.inl ((Nat.add_lt_add_left j.isLt _).trans_le (Nat.le_of_ble_eq_true rfl)))).trans ?_
    refine (View.read_writes_cons_hit_of_coords _ _ _ _ _ (ix2 0 j) _ ?_).trans ?_
    · intro a; fin_cases a <;> simp [ix2]
    · rfl

theorem pair_B1 (c : Dev nD) (t : Fin cfg0.N) (h : ¬ t.val % 8 = 0) (hd : Fin 4) (j : Fin 128) :
    (outsAt0 m c t.val t.isLt).2.1 (ix2 1 ⟨128 * hd.val + j.val, by omega⟩)
      = four (fun cc => tDs (matTile (iblk m c 5 t) hd) (tile (iblk m c 0 t) cc hd) (tile (iblk m c 2 t) cc hd))
          (lineTile (outsAt0 m c (t.val - 1) (Nat.lt_of_le_of_lt (Nat.sub_le _ _) t.isLt)).2.1 1 hd) (ix2 0 j) := by
  rw [outsAt0_B m c t h]; frame_open
  simp (disch := decide) only [↓ View.readCov_skip, ↓ View.readCov_cons_toLoadRect, ↓ View.readCov_fill]
  frame_out
  obtain ⟨hd, hhd⟩ := hd
  interval_cases hd <;>
  · repeat first
      | refine (View.read_writes_cons_miss_of_axis _ _ _ _ _ 0 _ _ rfl rfl rfl (Or.inr (Nat.le_of_ble_eq_true rfl))).trans ?_
      | refine (View.read_writes_cons_miss_of_axis _ _ _ _ _ 1 _ _ rfl rfl rfl (Or.inl ((Nat.add_lt_add_left j.isLt _).trans_le (Nat.le_of_ble_eq_true rfl)))).trans ?_
    refine (View.read_writes_cons_hit_of_coords _ _ _ _ _ (ix2 0 j) _ ?_).trans ?_
    · intro a; fin_cases a <;> simp [ix2]
    · rfl

theorem grad_u (c : Dev nD) (t : Fin cfg0.N) (cc hd : Fin 4) (i j : Fin 128) :
    (outsAt0 m c t.val t.isLt).1 (ix2 ⟨128 * cc.val + i.val, by omega⟩ ⟨128 * hd.val + j.val, by omega⟩)
      = tDu (matTile (iblk m c 5 t) hd) (rowTile (iblk m c 3 t) hd) (rowTile (iblk m c 4 t) hd) (colTile (iblk m c 6 t) hd)
          (tile (iblk m c 0 t) cc hd) (tile (iblk m c 1 t) cc hd) (tile (iblk m c 2 t) cc hd) (ix2 i j) := by
  obtain ⟨hd, hhd⟩ := hd
  obtain ⟨cc, hcc⟩ := cc
  rcases Decidable.em (t.val % 8 = 0) with h | h
  on_goal 1 => rw [outsAt0_A m c t h]
  on_goal 2 => rw [outsAt0_B m c t h]
  all_goals
    frame_open
    simp (disch := decide) only [↓ View.readCov_skip, ↓ View.readCov_cons_toLoadRect, ↓ View.readCov_fill]
    frame_out
    interval_cases hd <;> interval_cases cc <;>
    · repeat first
        | refine (canon_miss _ _ _ 0 _ _ rfl rfl rfl (Or.inl ((Nat.add_lt_add_left i.isLt _).trans_le (Nat.le_of_ble_eq_true rfl)))).trans ?_
        | refine (canon_miss _ _ _ 1 _ _ rfl rfl rfl (Or.inl ((Nat.add_lt_add_left j.isLt _).trans_le (Nat.le_of_ble_eq_true rfl)))).trans ?_
      refine (canon_hit _ _ _ _ (ix2 i j) ?_).trans ?_
      · intro a; fin_cases a <;> simp [ix2]
      · rfl

theorem grad_v (c : Dev nD) (t : Fin cfg0.N) (cc hd : Fin 4) (i j : Fin 128) :
    (outsAt0 m c t.val t.isLt).1 (ix2 ⟨128 * cc.val + i.val, by omega⟩ ⟨512 + 128 * hd.val + j.val, by omega⟩)
      = tDv (matTile (iblk m c 5 t) hd) (rowTile (iblk m c 3 t) hd)
          (tile (iblk m c 0 t) cc hd) (tile (iblk m c 1 t) cc hd) (tile (iblk m c 2 t) cc hd) (ix2 i j) := by
  obtain ⟨hd, hhd⟩ := hd
  obtain ⟨cc, hcc⟩ := cc
  rcases Decidable.em (t.val % 8 = 0) with h | h
  on_goal 1 => rw [outsAt0_A m c t h]
  on_goal 2 => rw [outsAt0_B m c t h]
  all_goals
    frame_open
    simp (disch := decide) only [↓ View.readCov_skip, ↓ View.readCov_cons_toLoadRect, ↓ View.readCov_fill]
    frame_out
    interval_cases hd <;> interval_cases cc <;>
    · repeat first
        | refine (canon_miss _ _ _ 0 _ _ rfl rfl rfl (Or.inl ((Nat.add_lt_add_left i.isLt _).trans_le (Nat.le_of_ble_eq_true rfl)))).trans ?_
        | refine (canon_miss _ _ _ 1 _ _ rfl rfl rfl (Or.inl ((Nat.add_lt_add_left j.isLt _).trans_le (Nat.le_of_ble_eq_true rfl)))).trans ?_
        | refine (canon_miss _ _ _ 1 _ _ rfl rfl rfl (Or.inr ((Nat.le_of_ble_eq_true rfl : _ ≤ 512 + 128 * _).trans (Nat.le_add_right _ _)))).trans ?_
      refine (canon_hit _ _ _ _ (ix2 i j) ?_).trans ?_
      · intro a; fin_cases a <;> simp [ix2]
      · rfl

end Cert.KernelIdeal.Sgu
-- ==== Proof.SguArr.lean ====
module

public import proofs.«01_k».proof.Proof.SguRun

@[expose] public section

set_option maxRecDepth 16384

noncomputable section

open Idealize.ShloMosaic Idealize.ShloMosaic.TcCoe Idealize.SL.Sem

namespace Cert.KernelIdeal.Sgu

open Cert.KernelIdeal Cert.KernelIdeal.Gen

/-! The arrays that the region leaves, as real sums over the chunks. -/

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0] ∧ win0_6.index t = ![0, 0] ∧ win0_7.index t = ![t.val, 0]
    ∧ win0_8.index t = ![0, 0] ∧ win0_9.index t = ![0, 0, 0] ∧ win0_10.index t = ![0, 0, 0] :=
  (by decide +kernel : ∀ t : Fin grid0.N, _)

theorem pts_lt (t : Fin cfg0.N) : t.val < 8 := lt_of_lt_of_eq t.isLt (by decide)

/-- A row of chunk `n` among the 4096 rows, a column of head `hd` among the 512 columns, the chunk of a point. -/
def row (n : Fin 32) (i : Fin 128) : Fin 4096 := ⟨128 * n.val + i.val, by omega⟩
def col (hd : Fin 4) (j : Fin 128) : Fin 512 := ⟨128 * hd.val + j.val, by omega⟩
def chunk (t : Fin cfg0.N) (cc : Fin 4) : Fin 32 := ⟨4 * t.val + cc.val, by have := pts_lt t; omega⟩

theorem tile_at (X : Vec Ideal S512x512 .f32) (cc hd : Fin 4) (i j : Fin 128) :
    tile X cc hd (ix2 i j) = X (ix2 ⟨128 * cc.val + i.val, by omega⟩ (col hd j)) :=
  View.ld_unit_apply_of _ _ _ _ _ _ (by intro a; fin_cases a <;> simp [ix2, col])
theorem rowTile_at (X : Vec Ideal S1x512 .f32) (hd : Fin 4) (j : Fin 128) : rowTile X hd (ix2 0 j) = X (ix2 0 (col hd j)) :=
  View.ld_unit_apply_of _ _ _ _ _ _ (by intro a; fin_cases a <;> simp [ix2, col])
theorem lineTile_at (X : Vec Ideal S8x512 .f32) (r : Fin 8) (hd : Fin 4) (j : Fin 128) : lineTile X r hd (ix2 0 j) = X (ix2 r (col hd j)) :=
  View.ld_unit_apply_of _ _ _ _ _ _ (by intro a; fin_cases a <;> simp [ix2, col])
theorem matTile_at (X : Vec Ideal S4x128x128 .f32) (hd : Fin 4) (i j : Fin 128) : matTile X hd (ix3 0 i j) = X (ix3 hd i j) :=
  View.ld_unit_apply_of _ _ _ _ _ _ (by intro a; fin_cases a <;> simp [ix3])
theorem colTile_at (X : Vec Ideal S128x4 .f32) (hd : Fin 4) (i : Fin 128) : colTile X hd (ix2 i 0) = X (ix2 i hd) :=
  View.ld_unit_apply_of _ _ _ _ _ _ (by intro a; fin_cases a <;> simp [ix2])

theorem tile0 (c : Dev nD) (t : Fin cfg0.N) (cc hd : Fin 4) (i j : Fin 128) :
    tile (iblk m c 0 t) cc hd (ix2 i j) = m ((c : Thread nD τ).loc main_arg0) (ix2 (row (chunk t cc) i) (col hd j)) := by
  obtain ⟨e0, e1, e2, e3, e4, e5, e6, e7, e8, e9, e10⟩ := idx t
  refine (tile_at _ _ _ _ _).trans ?_
  unfold row chunk
  blk_ext [iblk, V, e0]

theorem tile1 (c : Dev nD) (t : Fin cfg0.N) (cc hd : Fin 4) (i j : Fin 128) :
    tile (iblk m c 1 t) cc hd (ix2 i j) = m ((c : Thread nD τ).loc main_arg1) (ix2 (row (chunk t cc) i) (col hd j)) := by
  obtain ⟨e0, e1, e2, e3, e4, e5, e6, e7, e8, e9, e10⟩ := idx t
  refine (tile_at _ _ _ _ _).trans ?_
  unfold row chunk
  blk_ext [iblk, V, e1]

theorem V_v0 (c : Dev nD) : V m c main_v0 = shapeCast S1x512 (m ((c : Thread nD τ).loc main_arg3)) shapeCasts_S4x128_S1x512 := by
  unfold V V0 hostOps0 hostOps0_1 hostOps0_2
  simp only [List.flatten_cons, List.flatten_nil, List.append_nil, List.cons_append, List.nil_append]
  after_results
  try rfl
theorem V_v1 (c : Dev nD) : V m c main_v1 = shapeCast S1x512 (m ((c : Thread nD τ).loc main_arg4)) shapeCasts_S4x128_S1x512 := by
  unfold V V0 hostOps0 hostOps0_1 hostOps0_2
  simp only [List.flatten_cons, List.flatten_nil, List.append_nil, List.cons_append, List.nil_append]
  after_results
  try rfl
theorem V_v4 (c : Dev nD) : V m c main_v4 = transpose S128x4 [1, 0] (m ((c : Thread nD τ).loc main_arg6)) transposes_S4x128_S128x4_1_0 := by
  unfold V V0 hostOps0 hostOps0_1 hostOps0_2
  simp only [List.flatten_cons, List.flatten_nil, List.append_nil, List.cons_append, List.nil_append]
  after_results
  try rfl

theorem colDiv (hd : Fin 4) (j : Fin 128) : (col hd j).val / 128 = hd.val := by simp only [col]; omega
theorem colMod (hd : Fin 4) (j : Fin 128) : (col hd j).val % 128 = j.val := by simp only [col]; omega

theorem heads_at {α : Type} (x : S4x128.Idx → α) (hd : Fin 4) (j : Fin 128) :
    shapeCast S1x512 x shapeCasts_S4x128_S1x512 (ix2 0 (col hd j)) = x (ix2 hd j) := by
  pointwise
  exact congrArg x (congrArg₂ ix2 (Fin.ext (colDiv hd j)) (Fin.ext (colMod hd j)))

theorem rowTile3 (c : Dev nD) (t : Fin cfg0.N) (hd : Fin 4) (j : Fin 128) :
    rowTile (iblk m c 3 t) hd (ix2 0 j) = m ((c : Thread nD τ).loc main_arg3) (ix2 hd j) := by
  obtain ⟨e0, e1, e2, e3, e4, e5, e6, e7, e8, e9, e10⟩ := idx t
  refine (rowTile_at _ _ _).trans (Eq.trans ?_ (heads_at _ hd j))
  rw [← V_v0]
  blk_ext [iblk, e3]

theorem rowTile4 (c : Dev nD) (t : Fin cfg0.N) (hd : Fin 4) (j : Fin 128) :
    rowTile (iblk m c 4 t) hd (ix2 0 j) = m ((c : Thread nD τ).loc main_arg4) (ix2 hd j) := by
  obtain ⟨e0, e1, e2, e3, e4, e5, e6, e7, e8, e9, e10⟩ := idx t
  refine (rowTile_at _ _ _).trans (Eq.trans ?_ (heads_at _ hd j))
  rw [← V_v1]
  blk_ext [iblk, e4]

theorem colTile6 (c : Dev nD) (t : Fin cfg0.N) (hd : Fin 4) (j : Fin 128) :
    colTile (iblk m c 6 t) hd (ix2 j 0) = m ((c : Thread nD τ).loc main_arg6) (ix2 hd j) := by
  obtain ⟨e0, e1, e2, e3, e4, e5, e6, e7, e8, e9, e10⟩ := idx t
  have e : V m c main_v4 (ix2 j hd) = m ((c : Thread nD τ).loc main_arg6) (ix2 hd j) := by rw [V_v4]; pointwise
  refine (colTile_at _ _ _).trans (Eq.trans ?_ e)
  blk_ext [iblk, e6]

theorem tile2 (c : Dev nD) (t : Fin cfg0.N) (cc hd : Fin 4) (i j : Fin 128) :
    tile (iblk m c 2 t) cc hd (ix2 i j) = m ((c : Thread nD τ).loc main_arg2) (ix2 (row (chunk t cc) i) (col hd j)) := by
  obtain ⟨e0, e1, e2, e3, e4, e5, e6, e7, e8, e9, e10⟩ := idx t
  refine (tile_at _ _ _ _ _).trans ?_
  unfold row chunk
  blk_ext [iblk, V, e2]

theorem matTile5 (c : Dev nD) (t : Fin cfg0.N) (hd : Fin 4) (i j : Fin 128) :
    matTile (iblk m c 5 t) hd (ix3 0 i j) = m ((c : Thread nD τ).loc main_arg5) (ix3 hd i j) := by
  obtain ⟨e0, e1, e2, e3, e4, e5, e6, e7, e8, e9, e10⟩ := idx t
  refine (matTile_at _ _ _ _).trans ?_
  blk_ext [iblk, V, e5]

/-- The launch contents as real arrays. -/
structure Args (c : Dev nD) where
  (U V D : Fin 4096 → Fin 512 → ℝ)
  (G B S : Fin 4 → SguR.Row)
  (W : Fin 4 → SguR.Tile)
  hU : ∀ i k, m ((c : Thread nD τ).loc main_arg0) (ix2 i k) = (U i k : EReal)
  hV : ∀ i k, m ((c : Thread nD τ).loc main_arg1) (ix2 i k) = (V i k : EReal)
  hD : ∀ i k, m ((c : Thread nD τ).loc main_arg2) (ix2 i k) = (D i k : EReal)
  hG : ∀ i k, m ((c : Thread nD τ).loc main_arg3) (ix2 i k) = (G i k : EReal)
  hB : ∀ i k, m ((c : Thread nD τ).loc main_arg4) (ix2 i k) = (B i k : EReal)
  hW : ∀ h i k, m ((c : Thread nD τ).loc main_arg5) (ix3 h i k) = (W h i k : EReal)
  hS : ∀ i k, m ((c : Thread nD τ).loc main_arg6) (ix2 i k) = (S i k : EReal)

/-- Chunk `n` of head `hd` of a real array. -/
def part (X : Fin 4096 → Fin 512 → ℝ) (n : Fin 32) (hd : Fin 4) : SguR.Tile := fun i k => X (row n i) (col hd k)

variable {m} {c : Dev nD} (a : Args m c)
include a

theorem holds (t : Fin cfg0.N) (cc hd : Fin 4) :
    Holds (matTile (iblk m c 5 t) hd) (rowTile (iblk m c 3 t) hd) (rowTile (iblk m c 4 t) hd) (colTile (iblk m c 6 t) hd)
      (tile (iblk m c 0 t) cc hd) (tile (iblk m c 1 t) cc hd) (tile (iblk m c 2 t) cc hd)
      (a.W hd) (a.G hd) (a.B hd) (a.S hd) (part a.U (chunk t cc) hd) (part a.V (chunk t cc) hd) (part a.D (chunk t cc) hd) where
  hw i j := (matTile5 m c t hd i j).trans (a.hW _ _ _)
  hg j := (rowTile3 m c t hd j).trans (a.hG _ _)
  hb j := (rowTile4 m c t hd j).trans (a.hB _ _)
  hs j := (colTile6 m c t hd j).trans (a.hS _ _)
  ha i j := (tile0 m c t cc hd i j).trans (a.hU _ _)
  hv i j := (tile1 m c t cc hd i j).trans (a.hV _ _)
  hd i j := (tile2 m c t cc hd i j).trans (a.hD _ _)

end Cert.KernelIdeal.Sgu
-- ==== Proof.SguSum.lean ====
module

public import proofs.«01_k».proof.Proof.SguArr

@[expose] public section

set_option maxRecDepth 16384

noncomputable section

open Idealize.ShloMosaic Idealize.ShloMosaic.TcCoe Idealize.SL.Sem

namespace Cert.KernelIdeal.Sgu

open Cert.KernelIdeal Cert.KernelIdeal.Gen

/-- An accumulator that takes four terms a point, reset at the first, ends as the sum of all 32. -/
theorem acc_sum (x : (k : ℕ) → k < 8 → EReal) (term : Fin 32 → ℝ)
    (h0 : x 0 (by omega) = four (fun (cc : Fin 4) p => p + (term ⟨4 * 0 + cc.val, by omega⟩ : EReal)) 0)
    (hs : ∀ (k : ℕ) (hk : k + 1 < 8), x (k + 1) hk = four (fun (cc : Fin 4) p => p + (term ⟨4 * (k + 1) + cc.val, by omega⟩ : EReal)) (x k (by omega))) :
    x 7 (by omega) = ((∑ n, term n : ℝ) : EReal) := by
  set T : ℕ → ℝ := fun n => if h : n < 32 then term ⟨n, h⟩ else 0 with hT
  have at_T : ∀ n (h : n < 32), term ⟨n, h⟩ = T n := fun n h => by simp [hT, h]
  have key : ∀ (k : ℕ) (hk : k < 8), x k hk = ((∑ n ∈ Finset.range (4 * (k + 1)), T n : ℝ) : EReal) := by
    intro k
    induction k with
    | zero =>
      intro hk
      rw [h0]
      simp only [four, at_T, Finset.sum_range_succ, Finset.sum_range_zero, EReal.coe_add, EReal.coe_zero]
      rfl
    | succ k ih =>
      intro hk
      rw [hs k hk, ih (by omega)]
      simp only [four, at_T]
      rw [show 4 * (k + 1 + 1) = 4 * (k + 1) + 1 + 1 + 1 + 1 by ring]
      simp only [Finset.sum_range_succ, EReal.coe_add]
      rfl
  rw [key 7 (by omega), Finset.sum_range (n := 32)]
  exact congrArg _ (Finset.sum_congr rfl fun n _ => (at_T n n.isLt).symm)

theorem fill2 (y) : k0_pay2 (F := Ideal) y = 0 := by unfold_payloads; pointwise
theorem fill3 (y) : k0_pay3 (F := Ideal) y = 0 := by unfold_payloads; pointwise
theorem fill4 (y) : k0_pay4 (F := Ideal) y = 0 := by unfold_payloads; pointwise

theorem lastN : 7 < cfg0.N := by decide
theorem ltN {k : ℕ} (h : k < 8) : k < cfg0.N := lt_of_lt_of_eq h (by decide)

variable {m : (ℓ : Loc nD τ sig) → Buf (Elt Ideal) ℓ} {c : Dev nD} (a : Args m c)
include a

theorem db_sum (hd : Fin 4) (i j : Fin 128) : (outsAt0 m c 7 lastN).2.2.2 (ix3 hd i j)
    = ((∑ n, SguR.dz (part a.U n hd) (part a.D n hd) i j : ℝ) : EReal) := by
  refine acc_sum (fun k hk => (outsAt0 m c k (ltN hk)).2.2.2 (ix3 hd i j)) (fun n => SguR.dz (part a.U n hd) (part a.D n hd) i j) ?_ fun k hk => ?_
  · have t0 : Fin cfg0.N := ⟨0, ltN (by omega)⟩
    refine (db_A m c ⟨0, ltN (by omega)⟩ rfl hd i j).trans ?_
    simp only [four, tDb_at (holds a _ _ _), matTile_at, fill4]
    rfl
  · refine (db_B m c ⟨k + 1, ltN hk⟩ (by show ¬ (k + 1) % 8 = 0; omega) hd i j).trans ?_
    simp only [four, tDb_at (holds a _ _ _), matTile_at]
    rfl

theorem dw_sum (hd : Fin 4) (i j : Fin 128) : (outsAt0 m c 7 lastN).2.2.1 (ix3 hd i j)
    = ((∑ n, SguR.dw (part a.U n hd) (part a.V n hd) (part a.D n hd) (a.G hd) (a.B hd) i j : ℝ) : EReal) := by
  refine acc_sum (fun k hk => (outsAt0 m c k (ltN hk)).2.2.1 (ix3 hd i j)) (fun n => SguR.dw (part a.U n hd) (part a.V n hd) (part a.D n hd) (a.G hd) (a.B hd) i j) ?_ fun k hk => ?_
  · refine (dw_A m c ⟨0, ltN (by omega)⟩ rfl hd i j).trans ?_
    simp only [four, tDw_at (holds a _ _ _), matTile_at, fill3]
    rfl
  · refine (dw_B m c ⟨k + 1, ltN hk⟩ (by show ¬ (k + 1) % 8 = 0; omega) hd i j).trans ?_
    simp only [four, tDw_at (holds a _ _ _), matTile_at]
    rfl

theorem gain_sum (hd : Fin 4) (j : Fin 128) : (outsAt0 m c 7 lastN).2.1 (ix2 0 (col hd j))
    = ((∑ n, SguR.dg (part a.U n hd) (part a.V n hd) (part a.D n hd) (a.W hd) j : ℝ) : EReal) := by
  refine acc_sum (fun k hk => (outsAt0 m c k (ltN hk)).2.1 (ix2 0 (col hd j))) (fun n => SguR.dg (part a.U n hd) (part a.V n hd) (part a.D n hd) (a.W hd) j) ?_ fun k hk => ?_
  · refine (pair_A0 m c ⟨0, ltN (by omega)⟩ rfl hd j).trans ?_
    simp only [four, tDg_at (holds a _ _ _), lineTile_at, fill2]
    rfl
  · refine (pair_B0 m c ⟨k + 1, ltN hk⟩ (by show ¬ (k + 1) % 8 = 0; omega) hd j).trans ?_
    simp only [four, tDg_at (holds a _ _ _), lineTile_at]
    rfl

theorem offset_sum (hd : Fin 4) (j : Fin 128) : (outsAt0 m c 7 lastN).2.1 (ix2 1 (col hd j))
    = ((∑ n, SguR.ds (part a.U n hd) (part a.D n hd) (a.W hd) j : ℝ) : EReal) := by
  refine acc_sum (fun k hk => (outsAt0 m c k (ltN hk)).2.1 (ix2 1 (col hd j))) (fun n => SguR.ds (part a.U n hd) (part a.D n hd) (a.W hd) j) ?_ fun k hk => ?_
  · refine (pair_A1 m c ⟨0, ltN (by omega)⟩ rfl hd j).trans ?_
    simp only [four, tDs_at (holds a _ _ _), lineTile_at, fill2]
    rfl
  · refine (pair_B1 m c ⟨k + 1, ltN hk⟩ (by show ¬ (k + 1) % 8 = 0; omega) hd j).trans ?_
    simp only [four, tDs_at (holds a _ _ _), lineTile_at]
    rfl

theorem arr10 (hd : Fin 4) (i j : Fin 128) : (dats m 0 c).arrAt 10 cfg0.N (ix3 hd i j)
    = ((∑ n, SguR.dz (part a.U n hd) (part a.D n hd) i j : ℝ) : EReal) := by
  rw [← db_sum a hd i j]
  refine congrFun ((dats m 0 c).arrAt_eq_of_after_last 10 t0_7 (by decide +kernel) (outsAt0 m c 7 lastN).2.2.2 fun j => ?_) (ix3 hd i j)
  blk_simp
  rw [after0_10]
  rfl

theorem arr9 (hd : Fin 4) (i j : Fin 128) : (dats m 0 c).arrAt 9 cfg0.N (ix3 hd i j)
    = ((∑ n, SguR.dw (part a.U n hd) (part a.V n hd) (part a.D n hd) (a.G hd) (a.B hd) i j : ℝ) : EReal) := by
  rw [← dw_sum a hd i j]
  refine congrFun ((dats m 0 c).arrAt_eq_of_after_last 9 t0_7 (by decide +kernel) (outsAt0 m c 7 lastN).2.2.1 fun j => ?_) (ix3 hd i j)
  blk_simp
  rw [after0_9]
  rfl

omit a in
theorem arr8 (r : Fin 8) (k : Fin 512) : (dats m 0 c).arrAt 8 cfg0.N (ix2 r k) = (outsAt0 m c 7 lastN).2.1 (ix2 r k) := by
  refine congrFun ((dats m 0 c).arrAt_eq_of_after_last 8 t0_7 (by decide +kernel) (outsAt0 m c 7 lastN).2.1 fun j => ?_) (ix2 r k)
  blk_simp
  rw [after0_8]
  rfl

omit a in
theorem idx_inj7 : ∀ t t' : Fin cfg0.N, win0_7.index t = win0_7.index t' → t = t' :=
  (by decide +kernel : ∀ t t' : Fin grid0.N, win0_7.index t = win0_7.index t' → t = t')

omit a in
/-- The first output's rows of chunk `cc` of point `t` are the rows that point stored. -/
theorem arr7 (t : Fin cfg0.N) (cc : Fin 4) (i : Fin 128) (k : Fin 1024) :
    (dats m 0 c).arrAt 7 cfg0.N (ix2 (row (chunk t cc) i) k) = (outsAt0 m c t.val t.isLt).1 (ix2 ⟨128 * cc.val + i.val, by omega⟩ k) := by
  obtain ⟨e0, e1, e2, e3, e4, e5, e6, e7, e8, e9, e10⟩ := idx t
  have hf : (cfg0.win 7).flush t = true := (by decide +kernel : ∀ t : Fin grid0.N, (cfg0.win 7).flush t = true) t
  have h := (dats m 0 c).read_blk_arrAt_eq_flushed 7 (fun t t' _ _ hne => (cfg0.win 7).disjoint_blk fun h => hne (idx_inj7 t t' h)) cfg0.N t t.isLt hf
  have h' := congrFun h (ix2 ⟨128 * cc.val + i.val, by omega⟩ k)
  rw [← after0_7]
  refine Eq.trans ?_ (h'.trans ?_)
  · unfold row chunk
    blk_ext [e7]
  · rfl

theorem arr7_u (t : Fin cfg0.N) (cc hd : Fin 4) (i j : Fin 128) :
    (dats m 0 c).arrAt 7 cfg0.N (ix2 (row (chunk t cc) i) ⟨128 * hd.val + j.val, by omega⟩)
      = (SguR.du (part a.U (chunk t cc) hd) (part a.V (chunk t cc) hd) (part a.D (chunk t cc) hd) (a.G hd) (a.B hd) (a.W hd) (a.S hd) i j : EReal) :=
  (arr7 t cc i _).trans ((grad_u m c t cc hd i j).trans (tDu_at (holds a t cc hd) i j))

theorem arr7_v (t : Fin cfg0.N) (cc hd : Fin 4) (i j : Fin 128) :
    (dats m 0 c).arrAt 7 cfg0.N (ix2 (row (chunk t cc) i) ⟨512 + 128 * hd.val + j.val, by omega⟩)
      = (SguR.dv (part a.U (chunk t cc) hd) (part a.V (chunk t cc) hd) (part a.D (chunk t cc) hd) (a.W hd) (a.G hd) i j : EReal) :=
  (arr7 t cc i _).trans ((grad_v m c t cc hd i j).trans (tDv_at (holds a t cc hd) i j))

end Cert.KernelIdeal.Sgu
-- ==== Proof.SguTail.lean ====
module

public import proofs.«01_k».proof.Proof.SguSum
public import Idealize.ShloMosaic.Lib.Claim

@[expose] public section

set_option maxRecDepth 16384

noncomputable section

open Idealize.ShloMosaic Idealize.ShloMosaic.TcCoe Idealize.SL.Sem

namespace Cert.KernelIdeal.Sgu

open Cert.KernelIdeal Cert.KernelIdeal.Gen

variable (m : (ℓ : Loc nD τ sig) → Buf (Elt Ideal) ℓ)

/-- Every buffer after the region. -/
abbrev left (c : Dev nD) : Valuation τ sig (Elt Ideal) := Pipeline.withArrays spec0 c (V0 m c) fun w => (dats m 0 c).arrAt w cfg0.N

theorem arr_inj : Function.Injective (Pipeline.arrRef spec0) := by decide
theorem left8 (c : Dev nD) : left m c (Proc.devRef .tc main_v5_1) = (dats m 0 c).arrAt 8 cfg0.N := Pipeline.withArrays_arr _ arr_inj c _ _ 8
theorem left9 (c : Dev nD) : left m c (Proc.devRef .tc main_v5_2) = (dats m 0 c).arrAt 9 cfg0.N := Pipeline.withArrays_arr _ arr_inj c _ _ 9
theorem left10 (c : Dev nD) : left m c (Proc.devRef .tc main_v5_3) = (dats m 0 c).arrAt 10 cfg0.N := Pipeline.withArrays_arr _ arr_inj c _ _ 10
/-- The lower triangle's mask. -/
abbrev lower : (⟨S128x128, .i1⟩ : BufTy).Contents (Elt Ideal) :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))
theorem left_mask (c : Dev nD) : left m c (Proc.devRef .tc main_v3) = lower := by
  refine (Pipeline.withArrays_of_ne spec0 c (V0 m c) _ main_v3 (by exact (by decide : ∀ w, Pipeline.arrRef spec0 w ≠ main_v3))).trans ?_
  unfold V0 hostOps0 hostOps0_1 hostOps0_2
  simp only [List.flatten_cons, List.flatten_nil, List.append_nil, List.cons_append, List.nil_append]
  after_results
  try rfl

theorem tail_v8 (c : Dev nD) : Pipeline.afterTail₀ cfgs (dats m) 0 (V0 m) [hostOps1, hostOps1_1, hostOps1_2] c main_v8
    = shapeCast S4x128 (shapeCast S512 (extractStridedSlice S1x512 ![0, 0] ((dats m 0 c).arrAt 8 cfg0.N) slices_S8x512_S1x512_0_0) shapeCasts_S1x512_S512) shapeCasts_S512_S4x128 := by
  rw [← left8]
  show StableHlo.after [hostOps1, hostOps1_1, hostOps1_2].flatten (left m c) _ = _
  generalize left m c = σ
  unfold hostOps1 hostOps1_1 hostOps1_2
  simp only [List.flatten_cons, List.flatten_nil, List.append_nil, List.cons_append, List.nil_append]
  after_results
  try rfl

theorem tail_v11 (c : Dev nD) : Pipeline.afterTail₀ cfgs (dats m) 0 (V0 m) [hostOps1, hostOps1_1, hostOps1_2] c main_v11
    = shapeCast S4x128 (shapeCast S512 (extractStridedSlice S1x512 ![1, 0] ((dats m 0 c).arrAt 8 cfg0.N) slices_S8x512_S1x512_1_0) shapeCasts_S1x512_S512) shapeCasts_S512_S4x128 := by
  rw [← left8]
  show StableHlo.after [hostOps1, hostOps1_1, hostOps1_2].flatten (left m c) _ = _
  generalize left m c = σ
  unfold hostOps1 hostOps1_1 hostOps1_2
  simp only [List.flatten_cons, List.flatten_nil, List.append_nil, List.cons_append, List.nil_append]
  after_results
  try rfl

theorem tail_v13 (c : Dev nD) : Pipeline.afterTail₀ cfgs (dats m) 0 (V0 m) [hostOps1, hostOps1_1, hostOps1_2] c main_v13
    = select (broadcastInDim S4x128x128 ![0, 1, 2] bcast_S1x128x128_S4x128x128_0_1_2 (broadcastInDim S1x128x128 ![1, 2] bcast_S128x128_S1x128x128_1_2 lower))
        (show Vec Ideal S4x128x128 .f32 from (dats m 0 c).arrAt 9 cfg0.N) (broadcastInDim S4x128x128 ![] bcast_S_S4x128x128 (constant (F := Ideal) S_ .f32 0x00000000#32)) := by
  rw [← left9, ← left_mask m c]
  show StableHlo.after [hostOps1, hostOps1_1, hostOps1_2].flatten (left m c) _ = _
  generalize left m c = σ
  unfold hostOps1 hostOps1_1 hostOps1_2
  simp only [List.flatten_cons, List.flatten_nil, List.append_nil, List.cons_append, List.nil_append]
  after_results
  try rfl

theorem tail_v14 (c : Dev nD) : Pipeline.afterTail₀ cfgs (dats m) 0 (V0 m) [hostOps1, hostOps1_1, hostOps1_2] c main_v14
    = Host.reduceAdd (φ := .f32) (show Vec Ideal S4x128x128 .f32 from (dats m 0 c).arrAt 10 cfg0.N) (constant (F := Ideal) S_ .f32 0x00000000#32) reducesTo_S4x128x128_S4x128_d2 h_S_ := by
  rw [← left10]
  show StableHlo.after [hostOps1, hostOps1_1, hostOps1_2].flatten (left m c) _ = _
  generalize left m c = σ
  unfold hostOps1 hostOps1_1 hostOps1_2
  simp only [List.flatten_cons, List.flatten_nil, List.append_nil, List.cons_append, List.nil_append]
  after_results
  try rfl

theorem gain_read (X : Vec Ideal S8x512 .f32) (hd : Fin 4) (j : Fin 128) :
    shapeCast S4x128 (shapeCast S512 (extractStridedSlice S1x512 ![0, 0] X slices_S8x512_S1x512_0_0) shapeCasts_S1x512_S512) shapeCasts_S512_S4x128 (ix2 hd j)
      = X (ix2 0 (col hd j)) := by
  pointwise
  exact congrArg X (congrArg₂ ix2 rfl (Fin.ext (by simp only [col]; omega)))

theorem offset_read (X : Vec Ideal S8x512 .f32) (hd : Fin 4) (j : Fin 128) :
    shapeCast S4x128 (shapeCast S512 (extractStridedSlice S1x512 ![1, 0] X slices_S8x512_S1x512_1_0) shapeCasts_S1x512_S512) shapeCasts_S512_S4x128 (ix2 hd j)
      = X (ix2 1 (col hd j)) := by
  pointwise
  exact congrArg X (congrArg₂ ix2 rfl (Fin.ext (by simp only [col]; omega)))

theorem sge_at {α : Type} (i j : Fin 128) (a b : α) :
    Scalar.select (IntOp.cmpi CmpIPredicate.sge (BitVec.ofNat 32 ↑i) (BitVec.ofNat 32 ↑j)) a b = if j ≤ i then a else b := by
  have hi : (i : ℕ) < 2 ^ (32 - 1) := lt_trans i.isLt (by norm_num)
  have hj : (j : ℕ) < 2 ^ (32 - 1) := lt_trans j.isLt (by norm_num)
  exact if_congr (WordCmp.cmpi_sge_ofNat_eq_one_iff hi hj) rfl rfl

theorem mask_read (X : Vec Ideal S4x128x128 .f32) (hd : Fin 4) (i j : Fin 128) :
    select (broadcastInDim S4x128x128 ![0, 1, 2] bcast_S1x128x128_S4x128x128_0_1_2 (broadcastInDim S1x128x128 ![1, 2] bcast_S128x128_S1x128x128_1_2 lower))
        X (broadcastInDim S4x128x128 ![] bcast_S_S4x128x128 (constant (F := Ideal) S_ .f32 0x00000000#32)) (ix3 hd i j)
      = if j ≤ i then X (ix3 hd i j) else 0 := by
  unfold lower
  pointwise
  have e : IntOp.addi (BitVec.ofNat 32 i.val) 0#32 = BitVec.ofNat 32 i.val := BitVec.add_zero _
  rw [e, sge_at]
  split <;> rfl

theorem lane_read (X : Vec Ideal S4x128x128 .f32) (hd : Fin 4) (i : Fin 128) :
    Host.reduceAdd (φ := .f32) X (constant (F := Ideal) S_ .f32 0x00000000#32) reducesTo_S4x128x128_S4x128_d2 h_S_ (ix2 hd i) = ∑ j, X (ix3 hd i j) := by
  pointwise

section
variable {m}
variable {c : Dev nD} (a : Args m c)
include a

/-- A buffer the lines after the region write. -/
abbrev out (m : (ℓ : Loc nD τ sig) → Buf (Elt Ideal) ℓ) (c : Dev nD) (b : Ref sig .tc) := Pipeline.afterTail₀ cfgs (dats m) 0 (V0 m) [hostOps1, hostOps1_1, hostOps1_2] c b

theorem out_gain (hd : Fin 4) (j : Fin 128) : out m c main_v8 (ix2 hd j)
    = ((∑ n, SguR.dg (part a.U n hd) (part a.V n hd) (part a.D n hd) (a.W hd) j : ℝ) : EReal) :=
  (congrFun (tail_v8 m c) _).trans ((gain_read _ hd j).trans ((arr8 0 _).trans (gain_sum a hd j)))

theorem out_offset (hd : Fin 4) (j : Fin 128) : out m c main_v11 (ix2 hd j)
    = ((∑ n, SguR.ds (part a.U n hd) (part a.D n hd) (a.W hd) j : ℝ) : EReal) :=
  (congrFun (tail_v11 m c) _).trans ((offset_read _ hd j).trans ((arr8 1 _).trans (offset_sum a hd j)))

theorem out_weight (hd : Fin 4) (i j : Fin 128) : out m c main_v13 (ix3 hd i j)
    = ((if j ≤ i then ∑ n, SguR.dw (part a.U n hd) (part a.V n hd) (part a.D n hd) (a.G hd) (a.B hd) i j else 0 : ℝ) : EReal) := by
  refine (congrFun (tail_v13 m c) _).trans ((mask_read _ hd i j).trans ?_)
  have e := arr9 a hd i j
  split
  · exact e
  · rfl

theorem out_bias (hd : Fin 4) (i : Fin 128) : out m c main_v14 (ix2 hd i)
    = ((∑ j, ∑ n, SguR.dz (part a.U n hd) (part a.D n hd) i j : ℝ) : EReal) := by
  refine (congrFun (tail_v14 m c) _).trans ((lane_read _ hd i).trans ?_)
  have e : ∀ (X : Vec Ideal S4x128x128 .f32) (f : Fin 128 → ℝ), (∀ j, X (ix3 hd i j) = (f j : EReal)) → ∑ j, X (ix3 hd i j) = ((∑ j, f j : ℝ) : EReal) :=
    fun X f h => (Finset.sum_congr rfl fun j _ => h j).trans (SguR.sum_at _ _)
  exact e _ _ fun j => arr10 a hd i j
end

/-- The kernel's run, with its results named. -/
theorem run (ρ : Dev nD → PrngReg) : θ_run defs (onTc (τ := τ) (main (F := Ideal))) ⟨m, fun _ => 0, ρ⟩ fun r => ∀ c : Dev nD,
    r.2.mem ((c : Thread nD τ).loc main_v5_0) = (dats m 0 c).arrAt 7 cfg0.N
      ∧ r.2.mem ((c : Thread nD τ).loc main_v8) = out m c main_v8
      ∧ r.2.mem ((c : Thread nD τ).loc main_v11) = out m c main_v11
      ∧ r.2.mem ((c : Thread nD τ).loc main_v13) = out m c main_v13
      ∧ r.2.mem ((c : Thread nD τ).loc main_v14) = out m c main_v14
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (θ_run_and (run_main m ρ) (unchanged m ρ))
  exact ⟨(h.1 c).1 7, (h.1 c).2 main_v8 (Pipeline.mem_restRefs_of main_v8 (by decide) (by decide)),
    (h.1 c).2 main_v11 (Pipeline.mem_restRefs_of main_v11 (by decide) (by decide)),
    (h.1 c).2 main_v13 (Pipeline.mem_restRefs_of main_v13 (by decide) (by decide)),
    (h.1 c).2 main_v14 (Pipeline.mem_restRefs_of main_v14 (by decide) (by decide)), h.2 c⟩

end Cert.KernelIdeal.Sgu
-- ==== Proof.SguRef.lean ====
module

public import proofs.«01_k».proof.Proof.Gen.ReferenceIdeal.Read
public import proofs.«01_k».proof.Proof.SguArr

@[expose] public section

set_option maxRecDepth 16384

noncomputable section

open Idealize.ShloMosaic Idealize.ShloMosaic.TcCoe Idealize.SL.Sem

/-! What the reference computes when its arguments are real, row by row and head by head. -/
namespace Cert.ReferenceIdeal.Sgu

open Cert.ReferenceIdeal Cert.ReferenceIdeal.Gen Cert.ReferenceIdeal.Read
open Cert.KernelIdeal.Sgu (row col part)
open SguR (sum_at div128_at half_at gk_at eps_at one_at ite_at c128_at)

/-- The arguments, as real arrays. -/
structure Reals (x0 x1 x2 : Vec Ideal S4096x512 .f32) (x3 x4 : Vec Ideal S4x128 .f32) (x5 : Vec Ideal S4x128x128 .f32) (x6 : Vec Ideal S4x128 .f32) where
  (U V D : Fin 4096 → Fin 512 → ℝ)
  (G B S : Fin 4 → SguR.Row)
  (W : Fin 4 → SguR.Tile)
  hU : ∀ i k, x0 (ix2 i k) = (U i k : EReal)
  hV : ∀ i k, x1 (ix2 i k) = (V i k : EReal)
  hD : ∀ i k, x2 (ix2 i k) = (D i k : EReal)
  hG : ∀ i k, x3 (ix2 i k) = (G i k : EReal)
  hB : ∀ i k, x4 (ix2 i k) = (B i k : EReal)
  hW : ∀ h i j, x5 (ix3 h i j) = (W h i j : EReal)
  hS : ∀ i k, x6 (ix2 i k) = (S i k : EReal)

/-! Constants. -/
theorem three_at : Ideal.ofBits .f32 1077936128#32 = ((3 : ℝ) : EReal) := by
  simp [Ideal.ofBits, Ideal.ieee, -EReal.coe_mul]; norm_num
theorem two_at : Ideal.ofBits .f32 1073741824#32 = ((2 : ℝ) : EReal) := by
  simp [Ideal.ofBits, Ideal.ieee, -EReal.coe_mul]; norm_num
theorem cubic_at : Ideal.ofBits .f32 1194240768#32 = ((44715 : ℝ) : EReal) := by
  simp [Ideal.ofBits, Ideal.ieee, -EReal.coe_mul]; norm_num
theorem million_at : Ideal.ofBits .f32 1232348160#32 = ((1000000 : ℝ) : EReal) := by
  simp [Ideal.ofBits, Ideal.ieee, -EReal.coe_mul]; norm_num
theorem neg_half_at : Ideal.ofBits .f32 3204448256#32 = ((-(1 / 2) : ℝ) : EReal) := by
  simp [Ideal.ofBits, Ideal.ieee, -EReal.coe_mul]; norm_num
theorem div_at (x y : ℝ) (h : y ≠ 0) : Ideal.div (x : EReal) (y : EReal) = ((x / y : ℝ) : EReal) := by
  rw [Ideal.div_coe h, ← EReal.coe_mul]; congr 1; ring
theorem divM_at (x : ℝ) : Ideal.div (x : EReal) ((1000000 : ℝ) : EReal) = ((x / 1000000 : ℝ) : EReal) := div_at _ _ (by norm_num)

/-- The inner function of the gate's smooth step. -/
def th (x : ℝ) : ℝ := Real.tanh (SguR.gk * (x + 44715 * (x * x * x) / 1000000))

theorem th_eq (x : ℝ) : th x = Real.tanh (SguR.gk * (x + 44715 / 1000000 * x * x * x)) := by
  unfold th; congr 2; ring
theorem gelu_eq (x : ℝ) : SguR.gelu x = x * (1 / 2 * (1 + th x)) := by
  rw [th_eq]; unfold SguR.gelu; ring

theorem dgelu_eq (x : ℝ) : SguR.dgelu x = 1 / 2 * (1 + th x) + SguR.gk * (1 / 2 * x * ((1 + th x) * (1 - th x))) * (1 + 44715 / 1000000 * (3 * (x * x))) := by
  rw [th_eq]; unfold SguR.dgelu; ring

open SguR in
theorem cen_sum (V : Tile) (i : Fin 128) : ∑ c, cen V i c = 0 := by
  unfold cen
  rw [Finset.sum_sub_distrib, Finset.sum_const, Finset.card_univ, Fintype.card_fin]
  simp only [mean, nsmul_eq_mul]
  push_cast
  ring

open SguR in
theorem rs_sq (V : Tile) (i : Fin 128) : rs V i / (var V i + eps) = rs V i * rs V i * rs V i := by
  have h : 0 < var V i + eps := add_pos_of_nonneg_of_pos (var_nonneg V i) eps_pos
  have e : rs V i * rs V i = (var V i + eps)⁻¹ := by
    unfold rs
    rw [← mul_inv, Real.mul_self_sqrt h.le]
  rw [mul_assoc, e, div_eq_mul_inv]

section
variable {x0 x1 x2 : Vec Ideal S4096x512 .f32} {x3 x4 : Vec Ideal S4x128 .f32} {x5 : Vec Ideal S4x128x128 .f32} {x6 : Vec Ideal S4x128 .f32}

/-- A row-major split of a row of 512 columns into its four heads. -/
theorem heads_at (X : Vec Ideal S4096x512 .f32) (n : Fin 32) (i : Fin 128) (hd : Fin 4) (c : Fin 128) :
    shapeCast S1x4096x4x128 X shapeCasts_S4096x512_S1x4096x4x128 (ix4 0 (row n i) hd c) = X (ix2 (row n i) (col hd c)) := by
  pointwise
  exact congrArg X (congrArg₂ ix2 (Fin.ext (by simp only [row])) (Fin.ext (by simp only [row, col]; omega)))

variable (a : Reals x0 x1 x2 x3 x4 x5 x6) (n : Fin 32) (i : Fin 128) (hd : Fin 4) (c : Fin 128)
include a

theorem v0_at : val_main_v0 (F := Ideal) x0 (ix4 0 (row n i) hd c) = (part a.U n hd i c : EReal) := (heads_at x0 n i hd c).trans (a.hU _ _)
theorem v1_at : val_main_v1 (F := Ideal) x1 (ix4 0 (row n i) hd c) = (part a.V n hd i c : EReal) := (heads_at x1 n i hd c).trans (a.hV _ _)
theorem v92_at : val_main_v92 (F := Ideal) x2 (ix4 0 (row n i) hd c) = (part a.D n hd i c : EReal) := (heads_at x2 n i hd c).trans (a.hD _ _)

theorem v14_at : val_main_v14 (F := Ideal) x0 (ix4 0 (row n i) hd c) = (th (part a.U n hd i c) : EReal) := by
  unfold val_main_v14 val_main_v13 val_main_v12 val_main_v11 val_main_v10 val_main_v9 val_main_v8 val_main_v7 val_main_v3 val_main_v2 val_main_cst_0 val_main_cst_1 val_main_cst_2
  pointwise
  simp only [v0_at a, gk_at, cubic_at, million_at, ← EReal.coe_mul, ← EReal.coe_add, divM_at, Ideal.tanh_coe]
  rfl
theorem v37_at : val_main_v37 (F := Ideal) x1 (ix4 0 (row n i) hd c) = (th (part a.V n hd i c) : EReal) := by
  unfold val_main_v37 val_main_v36 val_main_v35 val_main_v34 val_main_v33 val_main_v32 val_main_v31 val_main_v30 val_main_v26 val_main_v25 val_main_cst_8 val_main_cst_9 val_main_cst_10
  pointwise
  simp only [v1_at a, gk_at, cubic_at, million_at, ← EReal.coe_mul, ← EReal.coe_add, divM_at, Ideal.tanh_coe]
  rfl
theorem v24_at : val_main_v24 (F := Ideal) x0 (ix4 0 (row n i) hd c) = (SguR.gelu (part a.U n hd i c) : EReal) := by
  unfold val_main_v24 val_main_v23 val_main_v22 val_main_v21 val_main_v20 val_main_cst_5 val_main_cst_6
  pointwise
  simp only [v0_at a, v14_at a, half_at, one_at, ← EReal.coe_mul, ← EReal.coe_add, gelu_eq]
theorem v47_at : val_main_v47 (F := Ideal) x1 (ix4 0 (row n i) hd c) = (SguR.gelu (part a.V n hd i c) : EReal) := by
  unfold val_main_v47 val_main_v46 val_main_v45 val_main_v44 val_main_v43 val_main_cst_13 val_main_cst_14
  pointwise
  simp only [v1_at a, v37_at a, half_at, one_at, ← EReal.coe_mul, ← EReal.coe_add, gelu_eq]
theorem v51_at : val_main_v51 (F := Ideal) x1 (ix4 0 (row n i) hd 0) = (SguR.mean (fun c => SguR.gelu (part a.V n hd i c)) : EReal) := by
  unfold val_main_v51 val_main_v50 val_main_v49 val_main_v48 val_main_cst_15 val_main_cst_16
  pointwise
  simp only [v47_at a, sum_at, c128_at, div128_at]
  rfl
theorem v53_at : val_main_v53 (F := Ideal) x1 (ix4 0 (row n i) hd c) = (SguR.cen (part a.V n hd) i c : EReal) := by
  unfold val_main_v53 val_main_v52
  pointwise
  simp only [v47_at a, v51_at a, ← EReal.coe_sub]
  rfl
theorem v62_at : val_main_v62 (F := Ideal) x1 (ix4 0 (row n i) hd c) = (SguR.cen (part a.V n hd) i c : EReal) := v53_at a n i hd c
theorem v56_at : val_main_v56 (F := Ideal) x1 (ix4 0 (row n i) hd c) = ((2 * SguR.cen (part a.V n hd) i c : ℝ) : EReal) := by
  unfold val_main_v56 val_main_v55 val_main_cst_17
  pointwise
  simp only [v53_at a, two_at, ← EReal.coe_mul]
theorem v64_at : val_main_v64 (F := Ideal) x1 (ix4 0 (row n i) hd 0) = ((SguR.var (part a.V n hd) i + SguR.eps : ℝ) : EReal) := by
  unfold val_main_v64 val_main_v63 val_main_v60 val_main_v59 val_main_v58 val_main_v57 val_main_v54 val_main_cst_18 val_main_cst_19 val_main_cst_20
  pointwise
  simp only [v53_at a, eps_at, ← EReal.coe_mul, sum_at, c128_at, div128_at, ← EReal.coe_add]
  rfl
theorem v65_at : val_main_v65 (F := Ideal) x1 (ix4 0 (row n i) hd 0) = (SguR.rs (part a.V n hd) i : EReal) := by
  unfold val_main_v65
  pointwise
  rw [v64_at a]
  exact SguR.rsqrt_at _ (add_pos_of_nonneg_of_pos (SguR.var_nonneg _ i) SguR.eps_pos)
theorem v68_at : val_main_v68 (F := Ideal) x1 (ix4 0 (row n i) hd 0) = ((-(1 / 2) * (SguR.rs (part a.V n hd) i / (SguR.var (part a.V n hd) i + SguR.eps)) : ℝ) : EReal) := by
  unfold val_main_v68 val_main_v67 val_main_v66 val_main_cst_21
  pointwise
  rw [v64_at a, v65_at a, div_at _ _ (add_pos_of_nonneg_of_pos (SguR.var_nonneg _ i) SguR.eps_pos).ne', neg_half_at, ← EReal.coe_mul]
theorem v70_at : val_main_v70 (F := Ideal) x1 (ix4 0 (row n i) hd c) = (SguR.xh (part a.V n hd) i c : EReal) := by
  unfold val_main_v70 val_main_v69
  pointwise
  rw [v62_at a, v65_at a, ← EReal.coe_mul]
  rfl
theorem v76_at : val_main_v76 (F := Ideal) x1 x3 x4 (ix4 0 (row n i) hd c) = (SguR.vn (part a.V n hd) (a.G hd) (a.B hd) i c : EReal) := by
  unfold val_main_v76 val_main_v75 val_main_v74 val_main_v73 val_main_v72 val_main_v71
  pointwise
  simp only [v70_at a, a.hG, a.hB, ← EReal.coe_mul, ← EReal.coe_add]
  rfl

omit a in
/-- Rows of 4096 tokens as 32 chunks of 128. -/
theorem chunks_at (X : Vec Ideal S1x4096x4x128 .f32) :
    shapeCast S1x32x128x4x128 X shapeCasts_S1x4096x4x128_S1x32x128x4x128 (ix5 0 n i hd c) = X (ix4 0 (row n i) hd c) := by
  pointwise
  exact congrArg X (congrArg (fun p => (ix4 0 p hd c : S1x4096x4x128.Idx)) (Fin.ext (by simp only [row]; omega)))
omit a in
theorem rows_at (X : Vec Ideal S1x32x128x4x128 .f32) :
    shapeCast S1x4096x4x128 X shapeCasts_S1x32x128x4x128_S1x4096x4x128 (ix4 0 (row n i) hd c) = X (ix5 0 n i hd c) := by
  pointwise
  exact congrArg X (congrArg₂ (fun p q => (ix5 0 p q hd c : S1x32x128x4x128.Idx)) (Fin.ext (by simp only [row]; omega)) (Fin.ext (by simp only [row]; omega)))

theorem v77_at : val_main_v77 (F := Ideal) x1 x3 x4 (ix5 0 n i hd c) = (SguR.vn (part a.V n hd) (a.G hd) (a.B hd) i c : EReal) :=
  (chunks_at n i hd c _).trans (v76_at a n i hd c)

omit a in
theorem sge_at {α : Type} (i j : Fin 128) (p q : α) :
    Scalar.select (IntOp.cmpi CmpIPredicate.sge (BitVec.ofNat 32 ↑i) (BitVec.ofNat 32 ↑j)) p q = if j ≤ i then p else q := by
  have hi : (i : ℕ) < 2 ^ (32 - 1) := lt_trans i.isLt (by norm_num)
  have hj : (j : ℕ) < 2 ^ (32 - 1) := lt_trans j.isLt (by norm_num)
  exact if_congr (WordCmp.cmpi_sge_ofNat_eq_one_iff hi hj) rfl rfl

omit a in
/-- The mask of the lower triangle. -/
theorem v82_1_at {α : Type} (i j : Fin 128) (p q : α) : Scalar.select (val_main_v82_1 (F := Ideal) (ix3 hd i j)) p q = if j ≤ i then p else q := by
  unfold val_main_v82_1 val_main_v80 val_main_v79 val_main_v78 val_main_call0_v4 val_main_call0_v5 val_main_call0_v3 val_main_call0_v2 val_main_call0_v1 val_main_call0_v0
    val_main_call0_c val_main_call0_c_0 val_main_c
  pointwise
  rw [show IntOp.addi (BitVec.ofNat 32 i.val) 0#32 = BitVec.ofNat 32 i.val from BitVec.add_zero _, sge_at]
  split <;> rfl
theorem v82_0_at (i j : Fin 128) : val_main_v82_0 (F := Ideal) x5 (ix3 hd i j) = ((if j ≤ i then a.W hd i j else 0 : ℝ) : EReal) := by
  unfold val_main_v82_0 val_main_v81 val_main_cst_22
  refine (v82_1_at hd i j _ _).trans ?_
  pointwise
  rw [a.hW, ite_at]
theorem v89_at : val_main_v89 (F := Ideal) x1 x3 x4 x5 x6 (ix4 0 (row n i) hd c) = (SguR.z (part a.V n hd) (a.G hd) (a.B hd) (a.W hd) (a.S hd) i c : EReal) := by
  refine (rows_at n i hd c _).trans ?_
  unfold val_main_v88 val_main_v87 val_main_v86 val_main_v85 val_main_v84 val_main_v83
  pointwise
  simp only [v77_at a, v82_0_at a, a.hS, ← EReal.coe_mul, sum_at, ← EReal.coe_add, mul_comm (SguR.vn _ _ _ _ _), ite_mul, zero_mul]
  rfl
theorem v94_at : val_main_v94 (F := Ideal) x1 x2 x3 x4 x5 x6 (ix4 0 (row n i) hd c)
    = ((part a.D n hd i c * SguR.z (part a.V n hd) (a.G hd) (a.B hd) (a.W hd) (a.S hd) i c : ℝ) : EReal) := by
  unfold val_main_v94
  pointwise
  rw [v92_at a, v89_at a, ← EReal.coe_mul]
theorem v95_at : val_main_v95 (F := Ideal) x0 x2 (ix5 0 n i hd c) = (SguR.dz (part a.U n hd) (part a.D n hd) i c : EReal) := by
  refine (chunks_at n i hd c _).trans ?_
  unfold val_main_v93
  pointwise
  rw [v92_at a, v24_at a, ← EReal.coe_mul, mul_comm]
  rfl
theorem v105_at : val_main_v105 (F := Ideal) x0 x2 x5 (ix4 0 (row n i) hd c) = (SguR.dvn (part a.U n hd) (part a.D n hd) (a.W hd) i c : EReal) := by
  refine (rows_at n i hd c _).trans ?_
  unfold val_main_v103 val_main_v102 val_main_v100
  pointwise
  simp only [v95_at a, v82_0_at a, ← EReal.coe_mul, sum_at, mul_comm (SguR.dz _ _ _ _), ite_mul, zero_mul]
  rfl

omit a in
/-- A sum over several axes, as a sum over what names the entries it takes. -/
theorem sum_fiber {s t : Shape} {axes : List (Fin s.rank)} (h : s.ReducesTo axes t) (X : s.Idx → EReal) (j : t.Idx) {P : Type} [Fintype P]
    (e : P → s.Idx) (inj : Function.Injective e) (fib : ∀ i, h.drop i = j ↔ ∃ p, e p = i) : Ideal.hostReduceAdd h X 0 j = ∑ p, X (e p) := by
  unfold Ideal.hostReduceAdd
  rw [zero_add]
  exact Finset.sum_filter_eq_sum_of_fiber _ e inj fib X
omit a in
theorem sum96 (X : Vec Ideal S1x32x128x4x128 .f32) :
    Ideal.hostReduceAdd reducesTo_S1x32x128x4x128_S1x128x4_d1_4 X 0 (ix3 0 i hd) = ∑ n, ∑ c, X (ix5 0 n i hd c) := by
  refine (sum_fiber _ X _ (fun p : Fin 32 × Fin 128 => (ix5 0 p.1 i hd p.2 : S1x32x128x4x128.Idx)) (fun p q e => Prod.ext (congrFun e 1) (congrFun e 4)) fun k => ⟨fun e => ⟨(k 1, k 4), ?_⟩, ?_⟩).trans (Fintype.sum_prod_type _)
  · funext b
    match b with
    | ⟨0, _⟩ => exact Subsingleton.elim (α := Fin 1) _ _
    | ⟨1, _⟩ => rfl
    | ⟨2, _⟩ => exact (Fin.ext (congrArg Fin.val (congrFun e 1))).symm
    | ⟨3, _⟩ => exact (Fin.ext (congrArg Fin.val (congrFun e 2))).symm
    | ⟨4, _⟩ => rfl
  · rintro ⟨p, rfl⟩
    funext b
    fin_cases b <;> rfl
omit a in
theorem sum98 (X : Vec Ideal S1x1x128x4x1 .f32) :
    Ideal.hostReduceAdd reducesTo_S1x1x128x4x1_S128x4_d0_1_4 X 0 (ix2 i hd) = X (ix5 0 0 i hd 0) := by
  refine (sum_fiber _ X _ (fun p : Unit => (ix5 0 0 i hd 0 : S1x1x128x4x1.Idx)) (fun p q e => rfl) fun k => ⟨fun e => ⟨(), ?_⟩, ?_⟩).trans (by simp)
  · funext b
    match b with
    | ⟨0, _⟩ => exact Subsingleton.elim (α := Fin 1) _ _
    | ⟨1, _⟩ => exact Subsingleton.elim (α := Fin 1) _ _
    | ⟨2, _⟩ => exact (Fin.ext (congrArg Fin.val (congrFun e 0))).symm
    | ⟨3, _⟩ => exact (Fin.ext (congrArg Fin.val (congrFun e 1))).symm
    | ⟨4, _⟩ => exact Subsingleton.elim (α := Fin 1) _ _
  · rintro ⟨p, rfl⟩
    funext b
    fin_cases b <;> rfl
omit a in
theorem sum108 (X : Vec Ideal S1x1x4x128 .f32) :
    Ideal.hostReduceAdd reducesTo_S1x1x4x128_S4x128_d0_1 X 0 (ix2 hd c) = X (ix4 0 0 hd c) := by
  refine (sum_fiber _ X _ (fun p : Unit => (ix4 0 0 hd c : S1x1x4x128.Idx)) (fun p q e => rfl) fun k => ⟨fun e => ⟨(), ?_⟩, ?_⟩).trans (by simp)
  · funext b
    match b with
    | ⟨0, _⟩ => exact Subsingleton.elim (α := Fin 1) _ _
    | ⟨1, _⟩ => exact Subsingleton.elim (α := Fin 1) _ _
    | ⟨2, _⟩ => exact (Fin.ext (congrArg Fin.val (congrFun e 0))).symm
    | ⟨3, _⟩ => exact (Fin.ext (congrArg Fin.val (congrFun e 1))).symm
  · rintro ⟨p, rfl⟩
    funext b
    fin_cases b <;> rfl
omit a in
theorem sum126 (X : Vec Ideal S1x4096x4x1 .f32) (r : Fin 4096) :
    Ideal.hostReduceAdd reducesTo_S1x4096x4x1_S4096x4_d0_3 X 0 (ix2 r hd) = X (ix4 0 r hd 0) := by
  refine (sum_fiber _ X _ (fun p : Unit => (ix4 0 r hd 0 : S1x4096x4x1.Idx)) (fun p q e => rfl) fun k => ⟨fun e => ⟨(), ?_⟩, ?_⟩).trans (by simp)
  · funext b
    match b with
    | ⟨0, _⟩ => exact Subsingleton.elim (α := Fin 1) _ _
    | ⟨1, _⟩ => exact (Fin.ext (congrArg Fin.val (congrFun e 0))).symm
    | ⟨2, _⟩ => exact (Fin.ext (congrArg Fin.val (congrFun e 1))).symm
    | ⟨3, _⟩ => exact Subsingleton.elim (α := Fin 1) _ _
  · rintro ⟨p, rfl⟩
    funext b
    fin_cases b <;> rfl

/-- The gradient of the token mixing's bias. -/
theorem v99_at : val_main_v99 (F := Ideal) x0 x2 (ix2 hd i) = ((∑ c, ∑ n, SguR.dz (part a.U n hd) (part a.D n hd) i c : ℝ) : EReal) := by
  unfold val_main_v99 val_main_v98 val_main_v97 val_main_v96 val_main_cst_23 val_main_cst_24
  pointwise
  rw [sum98]
  pointwise
  rw [sum96]
  simp only [v95_at a, sum_at]
  rw [Finset.sum_comm]

omit a in
/-- A sum over the rows is a sum over the chunks of sums over their tokens. -/
theorem sum_rows (f : Fin 4096 → EReal) : ∑ r, f r = ∑ n, ∑ i, f (row n i) := by
  rw [← Fintype.sum_prod_type' (f := fun n i => f (row n i))]
  refine (Fintype.sum_bijective (fun p : Fin 32 × Fin 128 => row p.1 p.2) ⟨fun p q e => ?_, fun r => ⟨(⟨r.val / 128, by omega⟩, ⟨r.val % 128, by omega⟩), ?_⟩⟩ _ _ fun _ => rfl).symm
  · have h := congrArg Fin.val e
    simp only [row] at h
    exact Prod.ext (Fin.ext (by omega)) (Fin.ext (by omega))
  · exact Fin.ext (by simp only [row]; omega)

/-- The gradients of the normalisation's offset and gain. -/
theorem v108_at : val_main_v108 (F := Ideal) x0 x2 x5 (ix2 hd c) = ((∑ n, SguR.ds (part a.U n hd) (part a.D n hd) (a.W hd) c : ℝ) : EReal) := by
  unfold val_main_v108 val_main_v107 val_main_v106 val_main_cst_25 val_main_cst_26
  pointwise
  rw [sum108]
  pointwise
  rw [sum_rows]
  simp only [v105_at a, sum_at]
  rfl
theorem v114_at : val_main_v114 (F := Ideal) x0 x1 x2 x5 (ix2 hd c) = ((∑ n, SguR.dg (part a.U n hd) (part a.V n hd) (part a.D n hd) (a.W hd) c : ℝ) : EReal) := by
  unfold val_main_v114 val_main_v111 val_main_v110 val_main_v109 val_main_cst_27 val_main_cst_28
  pointwise
  rw [sum108]
  pointwise
  rw [sum_rows]
  simp only [v105_at a, v70_at a, ← EReal.coe_mul, sum_at, mul_comm (SguR.xh _ _ _)]
  rfl
omit a in
/-- The product over chunks and channels, as a double sum. -/
theorem dot101 (L : FVec Ideal S4x1x32x128x128 .f32) (R : FVec Ideal S1x32x128x4x128 .f32) (i j : Fin 128) :
    (Host.dotGeneral dot_S4x1x32x128x128_S1x32x128x4x128_S4x128x128_123_014_4_2_0_3 none L R : FVec Ideal S4x128x128 .f32) (ix3 hd i j)
      = ∑ n, ∑ c, L (ix5 hd 0 n c i) * R (ix5 0 n j hd c) := by
  simp only [Host.dotGeneral]
  rw [Ideal.dotGeneral_apply]
  let f : Fin 32 → Fin 128 → EReal := fun n c => L (ix5 hd 0 n c i) * R (ix5 0 n j hd c)
  refine Eq.trans ?_ (Fintype.sum_prod_type' f)
  let e : Fin 32 × Fin 128 → dot_S4x1x32x128x128_S1x32x128x4x128_S4x128x128_123_014_4_2_0_3.contr.Idx :=
    fun p a => match a with
      | ⟨0, _⟩ => (0 : Fin 1)
      | ⟨1, _⟩ => p.1
      | ⟨2, _⟩ => p.2
  refine (Fintype.sum_bijective e ⟨fun p q h => Prod.ext (congrFun h ⟨1, by decide⟩) (congrFun h ⟨2, by decide⟩),
    fun k => ⟨(k ⟨1, by decide⟩, k ⟨2, by decide⟩), ?_⟩⟩ (fun p => f p.1 p.2) _ fun p => ?_).symm
  · funext b
    match b with
    | ⟨0, _⟩ => exact Subsingleton.elim (α := Fin 1) _ _
    | ⟨1, _⟩ => rfl
    | ⟨2, _⟩ => rfl
  · refine congrArg₂ (· * ·) (congrArg L ?_) (congrArg R ?_)
    · funext b
      fin_cases b <;> rfl
    · funext b
      fin_cases b <;> rfl
/-- The gradient of the token mixing's weights. -/
theorem v104_at (i j : Fin 128) : val_main_v104 (F := Ideal) x0 x1 x2 x3 x4 (ix3 hd i j)
    = ((if j ≤ i then ∑ n, SguR.dw (part a.U n hd) (part a.V n hd) (part a.D n hd) (a.G hd) (a.B hd) i j else 0 : ℝ) : EReal) := by
  unfold val_main_v104 val_main_call2_v0 val_main_v101 val_main_v100 val_main_call2_cst
  refine (v82_1_at hd i j _ _).trans ?_
  rw [dot101]
  pointwise
  simp only [v95_at a, v77_at a, ← EReal.coe_mul, sum_at, ite_at]
  rfl

/-! The gradients of the gate's two halves. -/
theorem v168_at : val_main_v168 (F := Ideal) x0 x1 x2 x3 x4 x5 x6 (ix4 0 (row n i) hd c)
    = (SguR.du (part a.U n hd) (part a.V n hd) (part a.D n hd) (a.G hd) (a.B hd) (a.W hd) (a.S hd) i c : EReal) := by
  unfold val_main_v168 val_main_v167 val_main_v166 val_main_v165 val_main_v164 val_main_v163 val_main_v162 val_main_v161 val_main_v160 val_main_v159
    val_main_v158 val_main_v157 val_main_v156 val_main_v155 val_main_v23 val_main_v22 val_main_v21 val_main_v20 val_main_v19 val_main_v18 val_main_v17
    val_main_v16 val_main_v15 val_main_v6 val_main_v5 val_main_v4 val_main_cst val_main_cst_3 val_main_cst_4 val_main_cst_5 val_main_cst_6
    val_main_cst_40 val_main_cst_41 val_main_cst_42 val_main_cst_43
  pointwise
  simp only [v94_at a, v14_at a, v0_at a, half_at, gk_at, three_at, cubic_at, million_at, one_at, ← EReal.coe_mul, ← EReal.coe_add, ← EReal.coe_sub, divM_at]
  unfold SguR.du
  rw [dgelu_eq]
  congr 1
  ring

theorem v113_at : val_main_v113 (F := Ideal) x0 x2 x3 x5 (ix4 0 (row n i) hd c) = (SguR.dxh (part a.U n hd) (part a.D n hd) (a.W hd) (a.G hd) i c : EReal) := by
  unfold val_main_v113 val_main_v112 val_main_v71
  pointwise
  rw [v105_at a, a.hG, ← EReal.coe_mul]
  rfl

/-- The factor the variance's gradient comes with. -/
def slope (A V D W : SguR.Tile) (G : SguR.Row) (i : Fin 128) : ℝ :=
  (∑ c, SguR.cen V i c * SguR.dxh A D W G i c) * (-(1 / 2) * (SguR.rs V i / (SguR.var V i + SguR.eps))) / 128
omit a in
theorem slope_def (A V D W : SguR.Tile) (G : SguR.Row) (i : Fin 128) :
  (∑ c, SguR.cen V i c * SguR.dxh A D W G i c) * (-(1 / 2) * (SguR.rs V i / (SguR.var V i + SguR.eps))) / 128 = slope A V D W G i := rfl

open SguR in
omit a in
/-- The gradient through the normalisation: the reference's sum of its three parts is the kernel's closed form. -/
theorem norm_grad (A V D W : Tile) (G : Row) (i c : Fin 128) :
    dxh A D W G i c * rs V i + slope A V D W G i * (2 * cen V i c)
        + ((∑ c, -(dxh A D W G i c * rs V i)) + ∑ c, -(slope A V D W G i * (2 * cen V i c))) / 128
      = rs V i * (dxh A D W G i c - mean (fun c => dxh A D W G i c) - xh V i c * mean (fun c => dxh A D W G i c * xh V i c)) := by
  have h0 : ∑ c, -(slope A V D W G i * (2 * cen V i c)) = 0 := by
    rw [Finset.sum_neg_distrib, ← Finset.mul_sum, ← Finset.mul_sum, cen_sum]; ring
  have h1 : ∑ c, -(dxh A D W G i c * rs V i) = -(rs V i * ∑ c, dxh A D W G i c) := by
    rw [Finset.sum_neg_distrib, ← Finset.sum_mul, mul_comm]
  have h2 : ∑ c, dxh A D W G i c * xh V i c = rs V i * ∑ c, cen V i c * dxh A D W G i c := by
    rw [Finset.mul_sum]
    exact Finset.sum_congr rfl fun c _ => by unfold xh; ring
  rw [h0, h1]
  unfold mean slope
  rw [h2, rs_sq]
  unfold xh
  ring

theorem v129_at : val_main_v129 (F := Ideal) x0 x1 x2 x3 x5 (ix4 0 (row n i) hd c)
    = ((slope (part a.U n hd) (part a.V n hd) (part a.D n hd) (a.W hd) (a.G hd) i * (2 * SguR.cen (part a.V n hd) i c) : ℝ) : EReal) := by
  unfold val_main_v129 val_main_v128 val_main_v127 val_main_v126 val_main_cst_32
  pointwise
  rw [sum126]
  unfold val_main_v125 val_main_v124 val_main_v120 val_main_v117 val_main_v116 val_main_v115 val_main_cst_29 val_main_cst_31
  pointwise
  simp only [v56_at a, v68_at a, v62_at a, v113_at a, c128_at, ← EReal.coe_mul, sum_at, div128_at, slope_def]
theorem v119_at : val_main_v119 (F := Ideal) x0 x1 x2 x3 x5 (ix4 0 (row n i) hd c)
    = ((SguR.dxh (part a.U n hd) (part a.D n hd) (a.W hd) (a.G hd) i c * SguR.rs (part a.V n hd) i : ℝ) : EReal) := by
  unfold val_main_v119 val_main_v118
  pointwise
  rw [v113_at a, v65_at a, ← EReal.coe_mul]
theorem v140_at : val_main_v140 (F := Ideal) x0 x1 x2 x3 x5 (ix4 0 (row n i) hd c)
    = ((SguR.rs (part a.V n hd) i * (SguR.dxh (part a.U n hd) (part a.D n hd) (a.W hd) (a.G hd) i c
        - SguR.mean (fun c => SguR.dxh (part a.U n hd) (part a.D n hd) (a.W hd) (a.G hd) i c)
        - SguR.xh (part a.V n hd) i c * SguR.mean (fun c => SguR.dxh (part a.U n hd) (part a.D n hd) (a.W hd) (a.G hd) i c * SguR.xh (part a.V n hd) i c)) : ℝ) : EReal) := by
  unfold val_main_v140 val_main_v139 val_main_v138 val_main_v137 val_main_cst_35
  pointwise
  rw [sum126]
  unfold val_main_v136 val_main_v135 val_main_v134 val_main_v133 val_main_v132 val_main_v131 val_main_v130 val_main_v123 val_main_v122 val_main_v121
    val_main_cst_30 val_main_cst_33 val_main_cst_34
  pointwise
  simp only [v119_at a, v129_at a, c128_at, ← EReal.coe_neg, ← EReal.coe_add, sum_at, div128_at]
  exact congrArg _ (norm_grad _ _ _ _ _ i c)
theorem v154_at : val_main_v154 (F := Ideal) x0 x1 x2 x3 x5 (ix4 0 (row n i) hd c)
    = (SguR.dv (part a.U n hd) (part a.V n hd) (part a.D n hd) (a.W hd) (a.G hd) i c : EReal) := by
  unfold val_main_v154 val_main_v153 val_main_v152 val_main_v151 val_main_v150 val_main_v149 val_main_v148 val_main_v147 val_main_v146 val_main_v145
    val_main_v144 val_main_v143 val_main_v142 val_main_v141 val_main_v46 val_main_v45 val_main_v44 val_main_v43 val_main_v42 val_main_v41 val_main_v40
    val_main_v39 val_main_v38 val_main_v29 val_main_v28 val_main_v27 val_main_cst_7 val_main_cst_11 val_main_cst_12 val_main_cst_13 val_main_cst_14
    val_main_cst_36 val_main_cst_37 val_main_cst_38 val_main_cst_39
  pointwise
  simp only [v140_at a, v37_at a, v1_at a, half_at, gk_at, three_at, cubic_at, million_at, one_at, ← EReal.coe_mul, ← EReal.coe_add, ← EReal.coe_sub, divM_at]
  unfold SguR.dv
  rw [dgelu_eq]
  congr 1
  ring

omit a in
/-- Four heads side by side, as a row of 512 columns. -/
theorem join_at (X : Vec Ideal S1x4096x4x128 .f32) (r : Fin 4096) :
    shapeCast S4096x512 X shapeCasts_S1x4096x4x128_S4096x512 (ix2 r (col hd c)) = X (ix4 0 r hd c) := by
  pointwise
  exact congrArg X (congrArg₂ (fun p q => (ix4 0 r p q : S1x4096x4x128.Idx)) (Fin.ext (by simp only [col]; omega)) (Fin.ext (by simp only [col]; omega)))

theorem v172_u : val_main_v172 (F := Ideal) x0 x1 x2 x3 x4 x5 x6 (ix2 (row n i) ⟨128 * hd.val + c.val, by omega⟩)
    = (SguR.du (part a.U n hd) (part a.V n hd) (part a.D n hd) (a.G hd) (a.B hd) (a.W hd) (a.S hd) i c : EReal) := by
  have h : 128 * hd.val + c.val < 512 := by omega
  unfold val_main_v172 val_main_v171
  pointwise
  rw [dif_pos h]
  exact (join_at hd c _ _).trans (v168_at a n i hd c)
theorem v172_v : val_main_v172 (F := Ideal) x0 x1 x2 x3 x4 x5 x6 (ix2 (row n i) ⟨512 + 128 * hd.val + c.val, by omega⟩)
    = (SguR.dv (part a.U n hd) (part a.V n hd) (part a.D n hd) (a.W hd) (a.G hd) i c : EReal) := by
  have h : ¬ 512 + 128 * hd.val + c.val < 512 := by omega
  unfold val_main_v172 val_main_v171
  pointwise
  rw [dif_neg h]
  refine (congrArg _ (congrArg (ix2 (row n i)) (Fin.ext (b := col hd c) ?_))).trans ((join_at hd c _ _).trans (v154_at a n i hd c))
  simp only [col]
  omega
end
end Cert.ReferenceIdeal.Sgu
-- ==== Proof.SguClaim.lean ====
module

public import proofs.«01_k».proof.Defs
public import proofs.«01_k».proof.Proof.Gen.Kernel.Frame
public import proofs.«01_k».proof.Proof.Gen.Pre_finite
public import proofs.«01_k».proof.Proof.Gen.ReferenceIdeal.Run
public import proofs.«01_k».proof.Proof.SguTail
public import proofs.«01_k».proof.Proof.SguRef
public import Idealize.ShloMosaic.Lib.Quiescent

@[expose] public section

set_option maxRecDepth 16384

noncomputable section

open Idealize.ShloMosaic Idealize.ShloMosaic.TcCoe Idealize.SL.Sem

/-! The claims about the gradient of the spatial gate. -/
namespace Cert.Sgu

open Cert.KernelIdeal.Sgu (Args row col chunk part)
open Cert.ReferenceIdeal.Sgu (Reals)

theorem inf_at : Ideal.ofBits .f32 2139095040#32 = (⊤ : EReal) := by
  simp [Ideal.ofBits, Ideal.ieee]

/-- An array whose entries' absolute values lie below infinity holds real numbers. -/
theorem real_of {S : Shape} (X : FVec Ideal S .f32) (hb : (⟨0, ![]⟩ : Shape).BroadcastsInDim S (![] : Fin 0 → Fin S.rank))
    (h : cmpf .olt (Host.absf X) (broadcastInDim S ![] hb (constant (F := Ideal) ⟨0, ![]⟩ .f32 0x7F800000#32)) = fun _ => 1#1) (i : S.Idx) :
    X i = ((X i).toReal : EReal) := by
  have h := congrFun h i
  simp only [pointwise, inf_at] at h
  have h : FloatOps.absf (X i) < (⊤ : EReal) := by
    by_contra hn
    rw [decide_eq_false hn] at h
    exact absurd h (by decide)
  generalize X i = x at h
  have h : max x (-x) < (⊤ : EReal) := h
  refine (EReal.coe_toReal (fun e => ?_) (fun e => ?_)).symm <;> simp [e] at h

variable (m : (ℓ : Loc Cert.KernelIdeal.nD Cert.KernelIdeal.τ Cert.KernelIdeal.sig) → Buf (Elt Ideal) ℓ)

/-- The real arrays behind finite arguments. -/
def args (c : Dev Cert.KernelIdeal.nD) (h : Pre_KernelIdeal_finite m) : Args m c where
  U i k := EReal.toReal (m ((c.tc : Thread Cert.KernelIdeal.nD Cert.KernelIdeal.τ).loc Cert.KernelIdeal.main_arg0) (ix2 i k))
  V i k := EReal.toReal (m ((c.tc : Thread Cert.KernelIdeal.nD Cert.KernelIdeal.τ).loc Cert.KernelIdeal.main_arg1) (ix2 i k))
  D i k := EReal.toReal (m ((c.tc : Thread Cert.KernelIdeal.nD Cert.KernelIdeal.τ).loc Cert.KernelIdeal.main_arg2) (ix2 i k))
  G i k := EReal.toReal (m ((c.tc : Thread Cert.KernelIdeal.nD Cert.KernelIdeal.τ).loc Cert.KernelIdeal.main_arg3) (ix2 i k))
  B i k := EReal.toReal (m ((c.tc : Thread Cert.KernelIdeal.nD Cert.KernelIdeal.τ).loc Cert.KernelIdeal.main_arg4) (ix2 i k))
  W h i k := EReal.toReal (m ((c.tc : Thread Cert.KernelIdeal.nD Cert.KernelIdeal.τ).loc Cert.KernelIdeal.main_arg5) (ix3 h i k))
  S i k := EReal.toReal (m ((c.tc : Thread Cert.KernelIdeal.nD Cert.KernelIdeal.τ).loc Cert.KernelIdeal.main_arg6) (ix2 i k))
  hU i k := real_of _ _ (h c).1 _
  hV i k := real_of _ _ (h c).2.1 _
  hD i k := real_of _ _ (h c).2.2.1 _
  hG i k := real_of _ _ (h c).2.2.2.1 _
  hB i k := real_of _ _ (h c).2.2.2.2.1 _
  hW _ i k := real_of _ _ (h c).2.2.2.2.2.1 _
  hS i k := real_of _ _ (h c).2.2.2.2.2.2 _

variable {m} {c : Dev Cert.KernelIdeal.nD} (a : Args m c)

/-- The same arrays behind the reference's arguments. -/
def reals {x0 x1 x2 : Vec Ideal Cert.ReferenceIdeal.S4096x512 .f32} {x3 x4 : Vec Ideal Cert.ReferenceIdeal.S4x128 .f32}
    {x5 : Vec Ideal Cert.ReferenceIdeal.S4x128x128 .f32} {x6 : Vec Ideal Cert.ReferenceIdeal.S4x128 .f32}
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6)) : Reals x0 x1 x2 x3 x4 x5 x6 where
  U := a.U
  V := a.V
  D := a.D
  G := a.G
  B := a.B
  S := a.S
  W := a.W
  hU i k := (congrFun h0 _).trans (a.hU i k)
  hV i k := (congrFun h1 _).trans (a.hV i k)
  hD i k := (congrFun h2 _).trans (a.hD i k)
  hG i k := (congrFun h3 _).trans (a.hG i k)
  hB i k := (congrFun h4 _).trans (a.hB i k)
  hW h i k := (congrFun h5 _).trans (a.hW h i k)
  hS i k := (congrFun h6 _).trans (a.hS i k)

/-- Arrays of 4096 rows of twice four heads agree when they agree head by head and chunk by chunk. -/
theorem ext_grad (X Y : FVec Ideal Cert.ReferenceIdeal.S4096x1024 .bf16)
    (hu : ∀ (t : Fin Cert.KernelIdeal.cfg0.N) (cc hd : Fin 4) (i j : Fin 128),
      X (ix2 (row (chunk t cc) i) ⟨128 * hd.val + j.val, by omega⟩) = Y (ix2 (row (chunk t cc) i) ⟨128 * hd.val + j.val, by omega⟩))
    (hv : ∀ (t : Fin Cert.KernelIdeal.cfg0.N) (cc hd : Fin 4) (i j : Fin 128),
      X (ix2 (row (chunk t cc) i) ⟨512 + 128 * hd.val + j.val, by omega⟩) = Y (ix2 (row (chunk t cc) i) ⟨512 + 128 * hd.val + j.val, by omega⟩)) :
    X = Y := by
  funext idx
  obtain ⟨r, k, rfl⟩ : ∃ (r : Fin 4096) (k : Fin 1024), idx = ix2 r k := ⟨idx 0, idx 1, by funext a; fin_cases a <;> rfl⟩
  have hr : r = row (chunk ⟨r.val / 512, lt_of_lt_of_eq (b := 8) (by omega) (by decide)⟩ ⟨r.val / 128 % 4, by omega⟩) ⟨r.val % 128, by omega⟩ :=
    Fin.ext (by simp only [row, chunk]; omega)
  rw [hr]
  by_cases h : k.val < 512
  · rw [show k = ⟨128 * (⟨k.val / 128, by omega⟩ : Fin 4).val + (⟨k.val % 128, by omega⟩ : Fin 128).val, by simp only; omega⟩ from
      Fin.ext (by simp only; omega)]
    exact hu _ _ _ _ _
  · rw [show k = ⟨512 + 128 * (⟨(k.val - 512) / 128, by omega⟩ : Fin 4).val + (⟨(k.val - 512) % 128, by omega⟩ : Fin 128).val, by simp only; omega⟩ from
      Fin.ext (by simp only; omega)]
    exact hv _ _ _ _ _

theorem ext2 {α : Type} {p q : Nat} (X Y : (⟨2, ![p, q]⟩ : Shape).Idx → α) (h : ∀ i j, X (ix2 i j) = Y (ix2 i j)) : X = Y := by
  funext idx
  have e : idx = ix2 (idx 0) (idx 1) := by funext a; fin_cases a <;> rfl
  rw [e]
  exact h _ _
theorem ext3 {α : Type} {p q r : Nat} (X Y : (⟨3, ![p, q, r]⟩ : Shape).Idx → α) (h : ∀ i j k, X (ix3 i j k) = Y (ix3 i j k)) : X = Y := by
  funext idx
  have e : idx = ix3 (idx 0) (idx 1) (idx 2) := by funext a; fin_cases a <;> rfl
  rw [e]
  exact h _ _ _

end Cert.Sgu

namespace Cert.Sgu

open Cert.KernelIdeal.Sgu (Args row col chunk part)

theorem frame_reference : ∀ (m : (ℓ : Loc Cert.ReferenceIdeal.nD Cert.ReferenceIdeal.τ Cert.ReferenceIdeal.sig) → Buf (Elt Ideal) ℓ) (g : Dev Cert.ReferenceIdeal.nD → PrngReg),
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
        ∧ r.2.sem = fun _ => 0) := fun m g =>
  (θ_run Cert.ReferenceIdeal.defs _ _).mono (fun r h => ⟨fun c => (h c).2.2.2.2.2, sem_eq_zero_of_no_sems rfl r.2⟩) (Cert.ReferenceIdeal.Value.run m g)

theorem algebraic : algebraic_KernelIdeal_ReferenceIdeal_pre_finite := by
  intro m g m' g' hpre hargs
  refine ⟨fun c => (Cert.KernelIdeal.Gen.dats m 0 c).arrAt 7 Cert.KernelIdeal.cfg0.N, fun c => Cert.KernelIdeal.Sgu.out m c Cert.KernelIdeal.main_v8,
    fun c => Cert.KernelIdeal.Sgu.out m c Cert.KernelIdeal.main_v11, fun c => Cert.KernelIdeal.Sgu.out m c Cert.KernelIdeal.main_v13,
    fun c => Cert.KernelIdeal.Sgu.out m c Cert.KernelIdeal.main_v14, Cert.KernelIdeal.Sgu.run m g, ?_⟩
  refine (θ_run Cert.ReferenceIdeal.defs _ _).mono (fun r h c => ?_) (Cert.ReferenceIdeal.Value.run m' g')
  obtain ⟨e0, e1, e2, e3, e4, k⟩ := h c
  have a := args m c hpre
  obtain ⟨h0, h1, h2, h3, h4, h5, h6⟩ := hargs c
  refine ⟨e0.trans ((Cert.ReferenceIdeal.Read.val_main_v172_eq _).trans ?_), e1.trans ((Cert.ReferenceIdeal.Read.val_main_v114_eq _).trans ?_),
    e2.trans ((Cert.ReferenceIdeal.Read.val_main_v108_eq _).trans ?_), e3.trans ((Cert.ReferenceIdeal.Read.val_main_v104_eq _).trans ?_),
    e4.trans ((Cert.ReferenceIdeal.Read.val_main_v99_eq _).trans ?_), k⟩
  · exact ext_grad _ _ (fun t cc hd i j => (Cert.ReferenceIdeal.Sgu.v172_u (reals a h0 h1 h2 h3 h4 h5 h6) _ i hd j).trans (Cert.KernelIdeal.Sgu.arr7_u a t cc hd i j).symm)
      fun t cc hd i j => (Cert.ReferenceIdeal.Sgu.v172_v (reals a h0 h1 h2 h3 h4 h5 h6) _ i hd j).trans (Cert.KernelIdeal.Sgu.arr7_v a t cc hd i j).symm
  · exact ext2 _ _ fun hd j => (Cert.ReferenceIdeal.Sgu.v114_at (reals a h0 h1 h2 h3 h4 h5 h6) hd j).trans (Cert.KernelIdeal.Sgu.out_gain a hd j).symm
  · exact ext2 _ _ fun hd j => (Cert.ReferenceIdeal.Sgu.v108_at (reals a h0 h1 h2 h3 h4 h5 h6) hd j).trans (Cert.KernelIdeal.Sgu.out_offset a hd j).symm
  · exact ext3 _ _ fun hd i j => (Cert.ReferenceIdeal.Sgu.v104_at (reals a h0 h1 h2 h3 h4 h5 h6) hd i j).trans (Cert.KernelIdeal.Sgu.out_weight a hd i j).symm
  · exact ext2 _ _ fun hd i => (Cert.ReferenceIdeal.Sgu.v99_at (reals a h0 h1 h2 h3 h4 h5 h6) i hd).trans (Cert.KernelIdeal.Sgu.out_bias a hd i).symm

end Cert.Sgu
-- ==== Proof.FfnRun.lean ====
module

public import proofs.«01_k».proof.Proof.Gen.Kernel2Ideal.Value
public import Idealize.ShloMosaic.Lib.Pipeline.ValueKit
public import Idealize.ShloMosaic.Lib.Pointwise
public import Idealize.ShloMosaic.Lib.Pipeline.ReadBack
public import proofs.«01_k».proof.Proof.SguRun

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen
open Cert.KernelIdeal.Sgu (canon_hit canon_miss)

/-! What one grid point leaves in the three accumulators and in the output block. -/

variable (m : (ℓ : Loc nD τ sig) → Buf (Elt Ideal) ℓ)

/-- One step of an accumulator: the block product of two input blocks is added. -/
def step (l : Vec Ideal S512x1408 .bf16) (r : Vec Ideal S512x1024 .bf16) (p : Vec Ideal S1408x1024 .f32) : Vec Ideal S1408x1024 .f32 :=
  k0_pay8 p l r

theorem zero_at (i : Fin 1408) (d : Fin 1024) : k0_pay5 (F := Idealize.ShloMosaic.Ideal) (ix2 i d) = 0 := by
  unfold_payloads; pointwise

theorem step_at (l : Vec Ideal S512x1408 .bf16) (r : Vec Ideal S512x1024 .bf16) (p : Vec Ideal S1408x1024 .f32) (i : Fin 1408) (d : Fin 1024) :
    step l r p (ix2 i d) = p (ix2 i d) + ∑ k : Fin 512, l (ix2 k i) * r (ix2 k d) := by
  unfold step; unfold_payloads; pointwise

theorem acc0_A (c : Dev nD) (t : Fin cfg0.N) (h : t.val % 8 = 0) :
    (outsAt0 m c t.val t.isLt).2.1 = step (iblk m c 1 t) (iblk m c 3 t) (k0_pay5 (F := Idealize.ShloMosaic.Ideal)) := by
  rw [outsAt0_A m c t h (by omega)]; frame_open
  simp (disch := decide) only [↓ View.readCov_skip, ↓ View.readCov_cons_toLoadRect, ↓ View.readCov_fill]
  frame_out
  rfl

theorem acc0_B (c : Dev nD) (t : Fin cfg0.N) (h : ¬ t.val % 8 = 0) :
    (outsAt0 m c t.val t.isLt).2.1
      = step (iblk m c 1 t) (iblk m c 3 t) (outsAt0 m c (t.val - 1) (Nat.lt_of_le_of_lt (Nat.sub_le _ _) t.isLt)).2.1 := by
  by_cases h1 : t.val % 8 = 7
  · rw [outsAt0_C m c t h h1]; frame_open
    simp (disch := decide) only [↓ View.readCov_skip, ↓ View.readCov_cons_toLoadRect, ↓ View.readCov_fill]
    frame_out
    exact congrArg (step _ _) (Memref.IsWhole.read_unread _ _)
  · rw [outsAt0_B m c t h h1]; frame_open
    simp (disch := decide) only [↓ View.readCov_skip, ↓ View.readCov_cons_toLoadRect, ↓ View.readCov_fill]
    frame_out
    exact congrArg (step _ _) (Memref.IsWhole.read_unread _ _)

theorem acc1_A (c : Dev nD) (t : Fin cfg0.N) (h : t.val % 8 = 0) :
    (outsAt0 m c t.val t.isLt).2.2.1 = step (iblk m c 2 t) (iblk m c 3 t) (k0_pay5 (F := Idealize.ShloMosaic.Ideal)) := by
  rw [outsAt0_A m c t h (by omega)]; frame_open
  simp (disch := decide) only [↓ View.readCov_skip, ↓ View.readCov_cons_toLoadRect, ↓ View.readCov_fill]
  frame_out
  rfl

theorem acc1_B (c : Dev nD) (t : Fin cfg0.N) (h : ¬ t.val % 8 = 0) :
    (outsAt0 m c t.val t.isLt).2.2.1
      = step (iblk m c 2 t) (iblk m c 3 t) (outsAt0 m c (t.val - 1) (Nat.lt_of_le_of_lt (Nat.sub_le _ _) t.isLt)).2.2.1 := by
  by_cases h1 : t.val % 8 = 7
  · rw [outsAt0_C m c t h h1]; frame_open
    simp (disch := decide) only [↓ View.readCov_skip, ↓ View.readCov_cons_toLoadRect, ↓ View.readCov_fill]
    frame_out
    exact congrArg (step _ _) (Memref.IsWhole.read_unread _ _)
  · rw [outsAt0_B m c t h h1]; frame_open
    simp (disch := decide) only [↓ View.readCov_skip, ↓ View.readCov_cons_toLoadRect, ↓ View.readCov_fill]
    frame_out
    exact congrArg (step _ _) (Memref.IsWhole.read_unread _ _)

theorem acc2_A (c : Dev nD) (t : Fin cfg0.N) (h : t.val % 8 = 0) :
    (outsAt0 m c t.val t.isLt).2.2.2 = step (iblk m c 0 t) (iblk m c 4 t) (k0_pay5 (F := Idealize.ShloMosaic.Ideal)) := by
  rw [outsAt0_A m c t h (by omega)]; frame_open
  simp (disch := decide) only [↓ View.readCov_skip, ↓ View.readCov_cons_toLoadRect, ↓ View.readCov_fill]
  frame_out
  rfl

theorem acc2_B (c : Dev nD) (t : Fin cfg0.N) (h : ¬ t.val % 8 = 0) :
    (outsAt0 m c t.val t.isLt).2.2.2
      = step (iblk m c 0 t) (iblk m c 4 t) (outsAt0 m c (t.val - 1) (Nat.lt_of_le_of_lt (Nat.sub_le _ _) t.isLt)).2.2.2 := by
  by_cases h1 : t.val % 8 = 7
  · rw [outsAt0_C m c t h h1]; frame_open
    simp (disch := decide) only [↓ View.readCov_skip, ↓ View.readCov_cons_toLoadRect, ↓ View.readCov_fill]
    frame_out
    exact congrArg (step _ _) (Memref.IsWhole.read_unread _ _)
  · rw [outsAt0_B m c t h h1]; frame_open
    simp (disch := decide) only [↓ View.readCov_skip, ↓ View.readCov_cons_toLoadRect, ↓ View.readCov_fill]
    frame_out
    exact congrArg (step _ _) (Memref.IsWhole.read_unread _ _)

theorem narrow0_at (X : Vec Ideal S1408x1024 .f32) (i : Fin 1408) (d : Fin 1024) : k0_pay2 X (ix3 0 i d) = X (ix2 i d) := by
  unfold_payloads; pointwise

theorem narrow1_at (X : Vec Ideal S1408x1024 .f32) (i : Fin 1408) (d : Fin 1024) : k0_pay3 X (ix3 0 i d) = X (ix2 i d) := by
  unfold_payloads; pointwise

theorem narrow2_at (X : Vec Ideal S1408x1024 .f32) (i : Fin 1408) (d : Fin 1024) : k0_pay4 X (ix3 0 i d) = X (ix2 i d) := by
  unfold_payloads; pointwise

theorem out0_C (c : Dev nD) (t : Fin cfg0.N) (h : t.val % 8 = 7) (i : Fin 1408) (d : Fin 1024) :
    (outsAt0 m c t.val t.isLt).1 (ix3 0 i d) = (outsAt0 m c t.val t.isLt).2.1 (ix2 i d) := by
  rw [outsAt0_C m c t (by omega) h]; frame_open
  simp (disch := decide) only [↓ View.readCov_skip, ↓ View.readCov_cons_toLoadRect, ↓ View.readCov_fill]
  frame_out
  refine (canon_miss _ _ _ 0 2 1 rfl rfl rfl (Or.inl (by simp [ix3]))).trans ?_
  refine (canon_miss _ _ _ 0 1 1 rfl rfl rfl (Or.inl (by simp [ix3]))).trans ?_
  refine (canon_hit _ _ _ _ (ix3 0 i d) ?_).trans ?_
  · intro a; fin_cases a <;> simp [ix3]
  · exact narrow0_at _ i d

theorem out1_C (c : Dev nD) (t : Fin cfg0.N) (h : t.val % 8 = 7) (i : Fin 1408) (d : Fin 1024) :
    (outsAt0 m c t.val t.isLt).1 (ix3 1 i d) = (outsAt0 m c t.val t.isLt).2.2.1 (ix2 i d) := by
  rw [outsAt0_C m c t (by omega) h]; frame_open
  simp (disch := decide) only [↓ View.readCov_skip, ↓ View.readCov_cons_toLoadRect, ↓ View.readCov_fill]
  frame_out
  refine (canon_miss _ _ _ 0 2 1 rfl rfl rfl (Or.inl (by simp [ix3]))).trans ?_
  refine (canon_hit _ _ _ _ (ix3 0 i d) ?_).trans ?_
  · intro a; fin_cases a <;> simp [ix3]
  · exact narrow1_at _ i d

theorem out2_C (c : Dev nD) (t : Fin cfg0.N) (h : t.val % 8 = 7) (i : Fin 1408) (d : Fin 1024) :
    (outsAt0 m c t.val t.isLt).1 (ix3 2 i d) = (outsAt0 m c t.val t.isLt).2.2.2 (ix2 i d) := by
  rw [outsAt0_C m c t (by omega) h]; frame_open
  simp (disch := decide) only [↓ View.readCov_skip, ↓ View.readCov_cons_toLoadRect, ↓ View.readCov_fill]
  frame_out
  refine (canon_hit _ _ _ _ (ix3 0 i d) ?_).trans ?_
  · intro a; fin_cases a <;> simp [ix3]
  · exact narrow2_at _ i d

end Cert.Kernel2Ideal.Ffn
-- ==== Proof.FfnArr.lean ====
module

public import proofs.«01_k».proof.Proof.FfnRun

@[expose] public section

set_option maxRecDepth 16384

noncomputable section

open Idealize.ShloMosaic Idealize.ShloMosaic.TcCoe Idealize.SL.Sem

/-! A sum taken block by block. -/
namespace Cert.Blocked

variable {M : Type} [AddCommMonoid M]

/-- A function on the first `N` numbers, extended by zero. -/
def ext {N : Nat} (g : Fin N → M) (n : Nat) : M := if h : n < N then g ⟨n, h⟩ else 0

/-- A value that starts at one block's sum and grows by the next block's holds the whole sum at the end. -/
theorem sum_blocks (B n N : Nat) (hN : B * (n + 1) = N) (g : Fin N → M) (x : ∀ k, k ≤ n → M)
    (h0 : x 0 (Nat.zero_le _) = ∑ r : Fin B, ext g r.val)
    (hs : ∀ k (hk : k + 1 ≤ n), x (k + 1) hk = x k (Nat.le_of_succ_le hk) + ∑ r : Fin B, ext g (B * (k + 1) + r.val)) :
    x n le_rfl = ∑ i, g i := by
  have key : ∀ k (hk : k ≤ n), x k hk = ∑ i ∈ Finset.range (B * (k + 1)), ext g i := by
    intro k
    induction k with
    | zero => intro hk; rw [h0, Fin.sum_univ_eq_sum_range (fun i => ext g i)]; simp
    | succ k ih =>
      intro hk
      rw [hs k hk, ih, Fin.sum_univ_eq_sum_range (fun i => ext g (B * (k + 1) + i)), ← Finset.sum_range_add]
      rfl
  rw [key n le_rfl, hN, ← Fin.sum_univ_eq_sum_range (fun i => ext g i)]
  exact Finset.sum_congr rfl fun i _ => dif_pos i.isLt
end Cert.Blocked

namespace Cert.Kernel2Ideal.Ffn

open Cert.Kernel2Ideal Cert.Kernel2Ideal.Gen

/-! The array of weight gradients that the region leaves, as sums over all the rows. -/

variable (m : (ℓ : Loc nD τ sig) → Buf (Elt Ideal) ℓ)

theorem idx : ∀ t : Fin cfg0.N, win0_0.index t = ![t.val % 8, t.val / 8] ∧ win0_1.index t = ![t.val % 8, t.val / 8] ∧ win0_2.index t = ![t.val % 8, t.val / 8]
    ∧ win0_3.index t = ![t.val % 8, 0] ∧ win0_4.index t = ![t.val % 8, 0] :=
  (by decide +kernel : ∀ t : Fin grid0.N, _)

theorem pts_lt (t : Fin cfg0.N) : t.val < 16 := lt_of_lt_of_eq t.isLt (by decide)
/-- The point of column half `j` and row block `k`. -/
def pt (j : Fin 2) (k : Fin 8) : Fin cfg0.N := ⟨8 * j.val + k.val, lt_of_lt_of_eq (b := 16) (by omega) (by decide)⟩
theorem pt_mod (j : Fin 2) (k : Fin 8) : (pt j k).val % 8 = k.val := by simp only [pt]; omega
theorem pt_div (j : Fin 2) (k : Fin 8) : (pt j k).val / 8 = j.val := by simp only [pt]; omega

def row (k : Fin 8) (r : Fin 512) : Fin 4096 := ⟨512 * k.val + r.val, by omega⟩
def col (j : Fin 2) (i : Fin 1408) : Fin 2816 := ⟨1408 * j.val + i.val, by omega⟩

/-- Window 0's array when the region is entered, and its block at a point. -/
abbrev in0 (c : Dev nD) : Vec Ideal S4096x2816 .bf16 := V m c main_v9
theorem blk0 (c : Dev nD) (j : Fin 2) (k : Fin 8) (r : Fin 512) (i : Fin 1408) :
    (iblk m c 0 (pt j k) : Vec Ideal S512x1408 .bf16) (ix2 r i) = in0 m c (ix2 (row k r) (col j i)) := by
  obtain ⟨e0, e1, e2, e3, e4⟩ := idx (pt j k)
  rw [pt_mod, pt_div] at e0
  unfold row col
  blk_ext [iblk, e0]

/-- Window 1's array when the region is entered, and its block at a point. -/
abbrev in1 (c : Dev nD) : Vec Ideal S4096x2816 .bf16 := V m c main_v10
theorem blk1 (c : Dev nD) (j : Fin 2) (k : Fin 8) (r : Fin 512) (i : Fin 1408) :
    (iblk m c 1 (pt j k) : Vec Ideal S512x1408 .bf16) (ix2 r i) = in1 m c (ix2 (row k r) (col j i)) := by
  obtain ⟨e0, e1, e2, e3, e4⟩ := idx (pt j k)
  rw [pt_mod, pt_div] at e1
  unfold row col
  blk_ext [iblk, e1]

/-- Window 2's array when the region is entered, and its block at a point. -/
abbrev in2 (c : Dev nD) : Vec Ideal S4096x2816 .bf16 := V m c main_v11
theorem blk2 (c : Dev nD) (j : Fin 2) (k : Fin 8) (r : Fin 512) (i : Fin 1408) :
    (iblk m c 2 (pt j k) : Vec Ideal S512x1408 .bf16) (ix2 r i) = in2 m c (ix2 (row k r) (col j i)) := by
  obtain ⟨e0, e1, e2, e3, e4⟩ := idx (pt j k)
  rw [pt_mod, pt_div] at e2
  unfold row col
  blk_ext [iblk, e2]

/-- Window 3's array when the region is entered, and its block at a point. -/
abbrev in3 (c : Dev nD) : Vec Ideal S4096x1024 .bf16 := V m c main_v12
theorem blk3 (c : Dev nD) (j : Fin 2) (k : Fin 8) (r : Fin 512) (d : Fin 1024) :
    (iblk m c 3 (pt j k) : Vec Ideal S512x1024 .bf16) (ix2 r d) = in3 m c (ix2 (row k r) d) := by
  obtain ⟨e0, e1, e2, e3, e4⟩ := idx (pt j k)
  rw [pt_mod] at e3
  unfold row
  blk_ext [iblk, e3]

/-- Window 4's array when the region is entered, and its block at a point. -/
abbrev in4 (c : Dev nD) : Vec Ideal S4096x1024 .bf16 := V m c main_v13
theorem blk4 (c : Dev nD) (j : Fin 2) (k : Fin 8) (r : Fin 512) (d : Fin 1024) :
    (iblk m c 4 (pt j k) : Vec Ideal S512x1024 .bf16) (ix2 r d) = in4 m c (ix2 (row k r) d) := by
  obtain ⟨e0, e1, e2, e3, e4⟩ := idx (pt j k)
  rw [pt_mod] at e4
  unfold row
  blk_ext [iblk, e4]

theorem ext_row {M : Type} [AddCommMonoid M] (g : Fin 4096 → M) (k : Fin 8) (r : Fin 512) : Blocked.ext g (512 * k.val + r.val) = g (row k r) :=
  dif_pos (show 512 * k.val + r.val < 4096 by omega)

/-- What `step` adds, block after block, is the product of the whole arrays. -/
theorem sum_steps (L : Vec Ideal S4096x2816 .bf16) (R : Vec Ideal S4096x1024 .bf16) (j : Fin 2)
    (l : Fin 8 → Vec Ideal S512x1408 .bf16) (r : Fin 8 → Vec Ideal S512x1024 .bf16) (x : Fin 8 → Vec Ideal S1408x1024 .f32)
    (hl : ∀ k q i, l k (ix2 q i) = L (ix2 (row k q) (col j i))) (hr : ∀ k q d, r k (ix2 q d) = R (ix2 (row k q) d))
    (h0 : x 0 = step (l 0) (r 0) (k0_pay5 (F := Idealize.ShloMosaic.Ideal)))
    (hs : ∀ (k : Nat) (hk : k + 1 < 8), x ⟨k + 1, hk⟩ = step (l ⟨k + 1, hk⟩) (r ⟨k + 1, hk⟩) (x ⟨k, Nat.lt_of_succ_lt hk⟩))
    (i : Fin 1408) (d : Fin 1024) : x 7 (ix2 i d) = ∑ t : Fin 4096, L (ix2 t (col j i)) * R (ix2 t d) := by
  have e : ∀ k, ∑ q : Fin 512, l k (ix2 q i) * r k (ix2 q d)
      = ∑ q : Fin 512, Blocked.ext (fun t : Fin 4096 => L (ix2 t (col j i)) * R (ix2 t d)) (512 * k.val + q.val) := fun k =>
    Finset.sum_congr rfl fun q _ => by rw [ext_row, hl, hr]
  refine Blocked.sum_blocks 512 7 4096 rfl (fun t : Fin 4096 => L (ix2 t (col j i)) * R (ix2 t d)) (fun k hk => x ⟨k, Nat.lt_succ_of_le hk⟩ (ix2 i d)) ?_ ?_
  · show x 0 (ix2 i d) = _
    rw [h0, step_at, zero_at, zero_add, e]
    simp
  · intro k hk
    rw [hs k (by omega), step_at, e]

theorem acc0_sum (c : Dev nD) (j : Fin 2) (i : Fin 1408) (d : Fin 1024) :
    (outsAt0 m c (pt j 7).val (pt j 7).isLt).2.1 (ix2 i d) = ∑ t : Fin 4096, in1 m c (ix2 t (col j i)) * in3 m c (ix2 t d) :=
  sum_steps (in1 m c) (in3 m c) j (fun k => iblk m c 1 (pt j k)) (fun k => iblk m c 3 (pt j k))
    (fun k => (outsAt0 m c (pt j k).val (pt j k).isLt).2.1) (fun k q i => blk1 m c j k q i) (fun k q d => blk3 m c j k q d)
    (acc0_A m c (pt j 0) (by rw [pt_mod]; rfl))
    (fun k hk => acc0_B m c (pt j ⟨k + 1, hk⟩) (by rw [pt_mod]; exact Nat.succ_ne_zero k)) i d

theorem acc1_sum (c : Dev nD) (j : Fin 2) (i : Fin 1408) (d : Fin 1024) :
    (outsAt0 m c (pt j 7).val (pt j 7).isLt).2.2.1 (ix2 i d) = ∑ t : Fin 4096, in2 m c (ix2 t (col j i)) * in3 m c (ix2 t d) :=
  sum_steps (in2 m c) (in3 m c) j (fun k => iblk m c 2 (pt j k)) (fun k => iblk m c 3 (pt j k))
    (fun k => (outsAt0 m c (pt j k).val (pt j k).isLt).2.2.1) (fun k q i => blk2 m c j k q i) (fun k q d => blk3 m c j k q d)
    (acc1_A m c (pt j 0) (by rw [pt_mod]; rfl))
    (fun k hk => acc1_B m c (pt j ⟨k + 1, hk⟩) (by rw [pt_mod]; exact Nat.succ_ne_zero k)) i d

theorem acc2_sum (c : Dev nD) (j : Fin 2) (i : Fin 1408) (d : Fin 1024) :
    (outsAt0 m c (pt j 7).val (pt j 7).isLt).2.2.2 (ix2 i d) = ∑ t : Fin 4096, in0 m c (ix2 t (col j i)) * in4 m c (ix2 t d) :=
  sum_steps (in0 m c) (in4 m c) j (fun k => iblk m c 0 (pt j k)) (fun k => iblk m c 4 (pt j k))
    (fun k => (outsAt0 m c (pt j k).val (pt j k).isLt).2.2.2) (fun k q i => blk0 m c j k q i) (fun k q d => blk4 m c j k q d)
    (acc2_A m c (pt j 0) (by rw [pt_mod]; rfl))
    (fun k hk => acc2_B m c (pt j ⟨k + 1, hk⟩) (by rw [pt_mod]; exact Nat.succ_ne_zero k)) i d

theorem left_at (c : Dev nD) (b : Fin 3) (j : Fin 2) (i : Fin 1408) (d : Fin 1024) :
    Value.G5 m c (ix3 b (col j i) d) = (outsAt0 m c (pt j 7).val (pt j 7).isLt).1 (ix3 b i d) := by
  have hp : Value.pt5Of (ix3 b (col j i) d) = (pt j 7).val := by
    show 8 * (2 * (b.val / 3 - 0) + 1 * ((1408 * j.val + i.val) / 1408 - 0) + 1 * (d.val / 1024 - 0)) + 7 = 8 * j.val + 7
    omega
  have hl : Value.loc5Of (ix3 b (col j i) d) = ix3 b i d := by
    funext a; apply Fin.ext
    match a with
    | ⟨0, _⟩ => show b.val % 3 = b.val; omega
    | ⟨1, _⟩ => show (1408 * j.val + i.val) % 1408 = i.val; omega
    | ⟨2, _⟩ => show d.val % 1024 = d.val; omega
  unfold Value.G5
  rw [dif_pos (by rw [hp]; exact (pt j 7).isLt), hl, Value.outsAt0_sweep, Value.fold0_congr m c _ _ _ _ hp]

theorem arr_0 (c : Dev nD) (j : Fin 2) (i : Fin 1408) (d : Fin 1024) :
    Value.G5 m c (ix3 0 (col j i) d) = ∑ t : Fin 4096, in1 m c (ix2 t (col j i)) * in3 m c (ix2 t d) :=
  (left_at m c 0 j i d).trans ((out0_C m c (pt j 7) (pt_mod j 7) i d).trans (acc0_sum m c j i d))

theorem arr_1 (c : Dev nD) (j : Fin 2) (i : Fin 1408) (d : Fin 1024) :
    Value.G5 m c (ix3 1 (col j i) d) = ∑ t : Fin 4096, in2 m c (ix2 t (col j i)) * in3 m c (ix2 t d) :=
  (left_at m c 1 j i d).trans ((out1_C m c (pt j 7) (pt_mod j 7) i d).trans (acc1_sum m c j i d))

theorem arr_2 (c : Dev nD) (j : Fin 2) (i : Fin 1408) (d : Fin 1024) :
    Value.G5 m c (ix3 2 (col j i) d) = ∑ t : Fin 4096, in0 m c (ix2 t (col j i)) * in4 m c (ix2 t d) :=
  (left_at m c 2 j i d).trans ((out2_C m c (pt j 7) (pt_mod j 7) i d).trans (acc2_sum m c j i d))

end Cert.Kernel2Ideal.Ffn
-- ==== Proof.FfnRef.lean ====
module

public import proofs.«01_k».proof.Proof.Gen.Reference2Ideal.Read
public import proofs.«01_k».proof.Proof.Gen.Kernel2Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! The gradient of the feed-forward weights, read off the reference at an index, and the arrays the kernel's host
lines hand to the region, told by the reference's. -/

namespace Cert.Reference2Ideal.Ffn

open Cert.Reference2Ideal Cert.Reference2Ideal.Read

variable (y : Vec Ideal S4096x1024 .f32) (wg wu : Vec Ideal S1024x2816 .f32) (wd : Vec Ideal S2816x1024 .f32) (df : Vec Ideal S4096x1024 .f32)

theorem gate_at (f : Fin 2816) (d : Fin 1024) : val_main_v21 (F := Ideal) y wg wu wd df (ix3 0 f d)
    = ∑ t : Fin 4096, val_main_v12 (F := Ideal) y wg wu wd df (ix2 t f) * y (ix2 t d) := by
  unfold val_main_v21 val_main_v20 val_main_v17 val_main_v15 val_main_v14 val_main_v13
  pointwise

theorem up_at (f : Fin 2816) (d : Fin 1024) : val_main_v21 (F := Ideal) y wg wu wd df (ix3 1 f d)
    = ∑ t : Fin 4096, val_main_v8 (F := Ideal) y wg wd df (ix2 t f) * y (ix2 t d) := by
  unfold val_main_v21 val_main_v20 val_main_v18 val_main_v16 val_main_v11 val_main_v10
  pointwise

theorem down_at (f : Fin 2816) (d : Fin 1024) : val_main_v21 (F := Ideal) y wg wu wd df (ix3 2 f d)
    = ∑ t : Fin 4096, val_main_v3 (F := Ideal) y wg wu (ix2 t f) * df (ix2 t d) := by
  unfold val_main_v21 val_main_v20 val_main_v19 val_main_v6 val_main_v5
  pointwise
  exact Finset.sum_congr rfl fun t _ => mul_comm _ _

end Cert.Reference2Ideal.Ffn

namespace Cert.Kernel2Ideal.Ffn

open Cert.Kernel2Ideal Cert.Kernel2Ideal.Gen
open Cert.Reference2Ideal.Read

variable (m : (ℓ : Loc nD τ sig) → Buf (Elt Ideal) ℓ)

theorem V_v9 (c : Dev nD) : V m c main_v9
    = (val_main_v3 (F := Ideal) (m ((c : Thread nD τ).loc main_arg0)) (m ((c : Thread nD τ).loc main_arg1)) (m ((c : Thread nD τ).loc main_arg2)) : S4096x2816.Idx → EReal) := by
  unfold V hostOps0 hostOps0_1 hostOps0_2 hostOps0_3 hostOps0_4
  simp only [List.flatten_cons, List.flatten_nil, List.append_nil, List.cons_append, List.nil_append]
  after_results
  rfl
/-- The host lines multiply by a transposed matrix where the reference contracts the other axis. -/
theorem pulled (df : FVec Ideal S4096x1024 .f32) (wd : FVec Ideal S2816x1024 .f32) :
    (Host.dotGeneral dot_S4096x1024_S1024x2816_S4096x2816_1_0_0_1_n_n none df (transpose S1024x2816 [1, 0] wd transposes_S2816x1024_S1024x2816_1_0 : FVec Ideal S1024x2816 .f32) : FVec Ideal S4096x2816 .f32)
      = val_main_v7 (F := Ideal) wd df := by
  funext q
  obtain ⟨t, f, rfl⟩ : ∃ (t : Fin 4096) (f : Fin 2816), q = ix2 t f := ⟨q 0, q 1, by funext a; fin_cases a <;> rfl⟩
  unfold val_main_v7
  pointwise

theorem V_v10 (c : Dev nD) : V m c main_v10
    = (val_main_v12 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) : S4096x2816.Idx → EReal) := by
  unfold V hostOps0 hostOps0_1 hostOps0_2 hostOps0_3 hostOps0_4
  simp only [List.flatten_cons, List.flatten_nil, List.append_nil, List.cons_append, List.nil_append]
  after_results
  rw [pulled]
  rfl
theorem V_v11 (c : Dev nD) : V m c main_v11
    = (val_main_v8 (F := Ideal) (m ((c : Thread nD τ).loc main_arg0)) (m ((c : Thread nD τ).loc main_arg1))
        (m ((c : Thread nD τ).loc main_arg3)) (m ((c : Thread nD τ).loc main_arg4)) : S4096x2816.Idx → EReal) := by
  unfold V hostOps0 hostOps0_1 hostOps0_2 hostOps0_3 hostOps0_4
  simp only [List.flatten_cons, List.flatten_nil, List.append_nil, List.cons_append, List.nil_append]
  after_results
  rw [pulled]
  rfl
theorem V_v12 (c : Dev nD) : V m c main_v12 = (m ((c : Thread nD τ).loc main_arg0) : S4096x1024.Idx → EReal) := by
  unfold V hostOps0 hostOps0_1 hostOps0_2 hostOps0_3 hostOps0_4
  simp only [List.flatten_cons, List.flatten_nil, List.append_nil, List.cons_append, List.nil_append]
  after_results
  rfl
theorem V_v13 (c : Dev nD) : V m c main_v13 = (m ((c : Thread nD τ).loc main_arg4) : S4096x1024.Idx → EReal) := by
  unfold V hostOps0 hostOps0_1 hostOps0_2 hostOps0_3 hostOps0_4
  simp only [List.flatten_cons, List.flatten_nil, List.append_nil, List.cons_append, List.nil_append]
  after_results
  rfl

end Cert.Kernel2Ideal.Ffn
-- ==== Proof.FfnClaim.lean ====
module

public import proofs.«01_k».proof.Defs
public import proofs.«01_k».proof.Proof.Gen.Kernel2.Frame
public import proofs.«01_k».proof.Proof.Gen.Reference2Ideal.Run
public import proofs.«01_k».proof.Proof.FfnArr
public import proofs.«01_k».proof.Proof.FfnRef
public import Idealize.ShloMosaic.Lib.Quiescent

@[expose] public section

set_option maxRecDepth 16384

noncomputable section

open Idealize.ShloMosaic Idealize.ShloMosaic.TcCoe Idealize.SL.Sem

/-! The claims about the gradient of the feed-forward weights. -/
namespace Cert.Ffn

open Cert.Kernel2Ideal.Ffn (row col)

theorem frame_reference : ∀ (m : (ℓ : Loc Cert.Reference2Ideal.nD Cert.Reference2Ideal.τ Cert.Reference2Ideal.sig) → Buf (Elt Ideal) ℓ) (g : Dev Cert.Reference2Ideal.nD → PrngReg),
    θ_run (Cert.Reference2Ideal.defs (F := Ideal)) (onTc (τ := Cert.Reference2Ideal.τ) (Cert.Reference2Ideal.main (F := Ideal))) ⟨m, fun _ => 0, g⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
        ∧ r.2.sem = fun _ => 0) := fun m g =>
  (θ_run Cert.Reference2Ideal.defs _ _).mono (fun r h => ⟨fun c => (h c).2, sem_eq_zero_of_no_sems rfl r.2⟩) (Cert.Reference2Ideal.Value.run m g)

/-- Stacks of three matrices agree when they agree matrix by matrix and half by half. -/
theorem ext_stack {α : Type} (X Y : Cert.Kernel2Ideal.S3x2816x1024.Idx → α)
    (h : ∀ (b : Fin 3) (j : Fin 2) (i : Fin 1408) (d : Fin 1024), X (ix3 b (col j i) d) = Y (ix3 b (col j i) d)) : X = Y := by
  funext q
  obtain ⟨b, f, d, rfl⟩ : ∃ (b : Fin 3) (f : Fin 2816) (d : Fin 1024), q = ix3 b f d := ⟨q 0, q 1, q 2, by funext a; fin_cases a <;> rfl⟩
  have hf : f = col ⟨f.val / 1408, by omega⟩ ⟨f.val % 1408, by omega⟩ := Fin.ext (by simp only [col]; omega)
  rw [hf]
  exact h _ _ _ _

open Cert.Kernel2Ideal.Ffn Cert.Reference2Ideal.Ffn in
theorem agree (m : (ℓ : Loc Cert.Kernel2Ideal.nD Cert.Kernel2Ideal.τ Cert.Kernel2Ideal.sig) → Buf (Elt Ideal) ℓ) (c : Dev Cert.Kernel2Ideal.nD)
    (y : Vec Ideal Cert.Kernel2Ideal.S4096x1024 .f32) (wg wu : Vec Ideal Cert.Kernel2Ideal.S1024x2816 .f32) (wd : Vec Ideal Cert.Kernel2Ideal.S2816x1024 .f32) (df : Vec Ideal Cert.Kernel2Ideal.S4096x1024 .f32)
    (hy : y = m ((c.tc : Thread Cert.Kernel2Ideal.nD Cert.Kernel2Ideal.τ).loc Cert.Kernel2Ideal.main_arg0))
    (hg : wg = m ((c.tc : Thread Cert.Kernel2Ideal.nD Cert.Kernel2Ideal.τ).loc Cert.Kernel2Ideal.main_arg1))
    (hu : wu = m ((c.tc : Thread Cert.Kernel2Ideal.nD Cert.Kernel2Ideal.τ).loc Cert.Kernel2Ideal.main_arg2))
    (hd : wd = m ((c.tc : Thread Cert.Kernel2Ideal.nD Cert.Kernel2Ideal.τ).loc Cert.Kernel2Ideal.main_arg3))
    (hf : df = m ((c.tc : Thread Cert.Kernel2Ideal.nD Cert.Kernel2Ideal.τ).loc Cert.Kernel2Ideal.main_arg4)) :
    (Cert.Reference2Ideal.Read.val_main_v21 (F := Ideal) y wg wu wd df : Cert.Kernel2Ideal.S3x2816x1024.Idx → EReal) = Cert.Kernel2Ideal.Value.G5 m c := by
  subst hy hg hu hd hf
  refine ext_stack _ _ fun b j i d => ?_
  match b with
  | 0 =>
    refine (gate_at _ _ _ _ _ _ _).trans (Eq.trans ?_ (arr_0 m c j i d).symm)
    exact Finset.sum_congr rfl fun t _ => congrArg₂ (· * · : EReal → EReal → EReal) (congrFun (V_v10 m c) _).symm (congrFun (V_v12 m c) _).symm
  | 1 =>
    refine (up_at _ _ _ _ _ _ _).trans (Eq.trans ?_ (arr_1 m c j i d).symm)
    exact Finset.sum_congr rfl fun t _ => congrArg₂ (· * · : EReal → EReal → EReal) (congrFun (V_v11 m c) _).symm (congrFun (V_v12 m c) _).symm
  | 2 =>
    refine (down_at _ _ _ _ _ _ _).trans (Eq.trans ?_ (arr_2 m c j i d).symm)
    exact Finset.sum_congr rfl fun t _ => congrArg₂ (· * · : EReal → EReal → EReal) (congrFun (V_v9 m c) _).symm (congrFun (V_v13 m c) _).symm

theorem algebraic : algebraic_Kernel2Ideal_Reference2Ideal := by
  intro m g m' g' hpre hargs
  refine ⟨fun c => Cert.Kernel2Ideal.Value.G5 m c, Cert.Kernel2Ideal.Value.run m g, ?_⟩
  refine (θ_run Cert.Reference2Ideal.defs _ _).mono (fun r h c => ?_) (Cert.Reference2Ideal.Value.run m' g')
  obtain ⟨e, k⟩ := h c
  obtain ⟨h0, h1, h2, h3, h4⟩ := hargs c
  exact ⟨e.trans ((Cert.Reference2Ideal.Read.val_main_v21_eq _ c).trans (agree m c _ _ _ _ _ h0 h1 h2 h3 h4)), k⟩

end Cert.Ffn
-- ==== Proof.FwdRun.lean ====
module

public import proofs.«01_k».proof.Proof.Gen.Kernel3Ideal.Value
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem

namespace Cert.Kernel3Ideal.Fwd

open Cert.Kernel3Ideal Cert.Kernel3Ideal.Gen

/-! What one grid point leaves in the normalised block, the accumulator and the output blocks. -/

variable (m : (ℓ : Loc nD τ sig) → Buf (Elt Ideal) ℓ)

/-- The point before. -/
abbrev prev (c : Dev nD) (t : Fin cfg0.N) := outsAt0 m c (t.val - 1) (Nat.lt_of_le_of_lt (Nat.sub_le _ _) t.isLt)
/-- The normalised block at a point. -/
abbrev ys (c : Dev nD) (t : Fin cfg0.N) : Vec Ideal S1024x1024 .bf16 := (outsAt0 m c t.val t.isLt).2.2.2.2.2.1
/-- The accumulator at a point. -/
abbrev acc (c : Dev nD) (t : Fin cfg0.N) : Vec Ideal S1024x1024 .f32 := (outsAt0 m c t.val t.isLt).2.2.2.2.2.2

/-- One step of the accumulator. -/
def step (y : Vec Ideal S1024x1024 .bf16) (wg wu wd : Vec Ideal S1x256x1024 .bf16) (p : Vec Ideal S1024x1024 .f32) : Vec Ideal S1024x1024 .f32 :=
  k0_pay1 (k0_pay12 y wg wu p wd)

theorem y_A (c : Dev nD) (t : Fin cfg0.N) (h : t.val % 11 = 0) : ys m c t = k0_pay4 (iblk m c 0 t) (iblk m c 1 t) := by
  unfold ys
  rw [outsAt0_A m c t h (by omega)]; frame_open
  simp (disch := decide) only [↓ View.readCov_skip, ↓ View.readCov_cons_toLoadRect, ↓ View.readCov_fill]
  frame_out

theorem y_B (c : Dev nD) (t : Fin cfg0.N) (h : ¬ t.val % 11 = 0) : ys m c t = (prev m c t).2.2.2.2.2.1 := by
  unfold ys
  by_cases h1 : t.val % 11 = 10
  · rw [outsAt0_C m c t h h1]; rfl
  · rw [outsAt0_B m c t h h1]; rfl

theorem acc_A (c : Dev nD) (t : Fin cfg0.N) (h : t.val % 11 = 0) :
    acc m c t = step (ys m c t) (iblk m c 2 t) (iblk m c 3 t) (iblk m c 4 t) (k0_pay5 (F := Idealize.ShloMosaic.Ideal)) := by
  rw [y_A m c t h]
  unfold acc
  rw [outsAt0_A m c t h (by omega)]; frame_open
  simp (disch := decide) only [↓ View.readCov_skip, ↓ View.readCov_cons_toLoadRect, ↓ View.readCov_fill]
  frame_out
  rfl

theorem acc_B (c : Dev nD) (t : Fin cfg0.N) (h : ¬ t.val % 11 = 0) :
    acc m c t = step (ys m c t) (iblk m c 2 t) (iblk m c 3 t) (iblk m c 4 t) (prev m c t).2.2.2.2.2.2 := by
  rw [y_B m c t h]
  unfold acc
  by_cases h1 : t.val % 11 = 10
  · rw [outsAt0_C m c t h h1]; frame_open
    simp (disch := decide) only [↓ View.readCov_skip, ↓ View.readCov_cons_toLoadRect, ↓ View.readCov_fill]
    frame_out
    exact congrArg₂ (fun y p => step y _ _ _ p) (Memref.IsWhole.read_unread _ _) (Memref.IsWhole.read_unread _ _)
  · rw [outsAt0_B m c t h h1]; frame_open
    simp (disch := decide) only [↓ View.readCov_skip, ↓ View.readCov_cons_toLoadRect, ↓ View.readCov_fill]
    frame_out
    exact congrArg₂ (fun y p => step y _ _ _ p) (Memref.IsWhole.read_unread _ _) (Memref.IsWhole.read_unread _ _)

theorem g_at (c : Dev nD) (t : Fin cfg0.N) : (outsAt0 m c t.val t.isLt).2.2.1 = k0_pay9 (ys m c t) (iblk m c 2 t) := by
  by_cases h : t.val % 11 = 0
  · rw [y_A m c t h, outsAt0_A m c t h (by omega)]; frame_open
    simp (disch := decide) only [↓ View.readCov_skip, ↓ View.readCov_cons_toLoadRect, ↓ View.readCov_fill]
    frame_out
  · rw [y_B m c t h]
    by_cases h1 : t.val % 11 = 10
    · rw [outsAt0_C m c t h h1]; frame_open
      simp (disch := decide) only [↓ View.readCov_skip, ↓ View.readCov_cons_toLoadRect, ↓ View.readCov_fill]
      frame_out
      exact congrArg (fun y => k0_pay9 y _) (Memref.IsWhole.read_unread _ _)
    · rw [outsAt0_B m c t h h1]; frame_open
      simp (disch := decide) only [↓ View.readCov_skip, ↓ View.readCov_cons_toLoadRect, ↓ View.readCov_fill]
      frame_out
      exact congrArg (fun y => k0_pay9 y _) (Memref.IsWhole.read_unread _ _)

theorem u_at (c : Dev nD) (t : Fin cfg0.N) : (outsAt0 m c t.val t.isLt).2.2.2.1 = k0_pay10 (ys m c t) (iblk m c 3 t) := by
  by_cases h : t.val % 11 = 0
  · rw [y_A m c t h, outsAt0_A m c t h (by omega)]; frame_open
    simp (disch := decide) only [↓ View.readCov_skip, ↓ View.readCov_cons_toLoadRect, ↓ View.readCov_fill]
    frame_out
  · rw [y_B m c t h]
    by_cases h1 : t.val % 11 = 10
    · rw [outsAt0_C m c t h h1]; frame_open
      simp (disch := decide) only [↓ View.readCov_skip, ↓ View.readCov_cons_toLoadRect, ↓ View.readCov_fill]
      frame_out
      exact congrArg (fun y => k0_pay10 y _) (Memref.IsWhole.read_unread _ _)
    · rw [outsAt0_B m c t h h1]; frame_open
      simp (disch := decide) only [↓ View.readCov_skip, ↓ View.readCov_cons_toLoadRect, ↓ View.readCov_fill]
      frame_out
      exact congrArg (fun y => k0_pay10 y _) (Memref.IsWhole.read_unread _ _)

theorem a_at (c : Dev nD) (t : Fin cfg0.N) : (outsAt0 m c t.val t.isLt).2.2.2.2.1 = k0_pay11 (ys m c t) (iblk m c 2 t) (iblk m c 3 t) := by
  by_cases h : t.val % 11 = 0
  · rw [y_A m c t h, outsAt0_A m c t h (by omega)]; frame_open
    simp (disch := decide) only [↓ View.readCov_skip, ↓ View.readCov_cons_toLoadRect, ↓ View.readCov_fill]
    frame_out
  · rw [y_B m c t h]
    by_cases h1 : t.val % 11 = 10
    · rw [outsAt0_C m c t h h1]; frame_open
      simp (disch := decide) only [↓ View.readCov_skip, ↓ View.readCov_cons_toLoadRect, ↓ View.readCov_fill]
      frame_out
      exact congrArg (fun y => k0_pay11 y _ _) (Memref.IsWhole.read_unread _ _)
    · rw [outsAt0_B m c t h h1]; frame_open
      simp (disch := decide) only [↓ View.readCov_skip, ↓ View.readCov_cons_toLoadRect, ↓ View.readCov_fill]
      frame_out
      exact congrArg (fun y => k0_pay11 y _ _) (Memref.IsWhole.read_unread _ _)

theorem fo_C (c : Dev nD) (t : Fin cfg0.N) (h : t.val % 11 = 10) : (outsAt0 m c t.val t.isLt).2.1 = k0_pay2 (acc m c t) := by
  unfold acc
  rw [outsAt0_C m c t (by omega) h]; frame_open
  simp (disch := decide) only [↓ View.readCov_skip, ↓ View.readCov_cons_toLoadRect, ↓ View.readCov_fill]
  frame_out

/-- The row of the modulation that scales the sublayer's output. -/
def gateRow (p : Vec Ideal S8x1024 .f32) : Vec Ideal S1x1024 .f32 := fun q => p (ix2 2 (q 1))

theorem ho_C (c : Dev nD) (t : Fin cfg0.N) (h : t.val % 11 = 10) :
    (outsAt0 m c t.val t.isLt).1 = k0_pay3 (iblk m c 0 t) (gateRow (iblk m c 1 t)) (acc m c t) := by
  unfold acc
  rw [outsAt0_C m c t (by omega) h]; frame_open
  simp (disch := decide) only [↓ View.readCov_skip, ↓ View.readCov_cons_toLoadRect, ↓ View.readCov_fill]
  frame_out
  refine congrArg (fun r => k0_pay3 _ r _) ?_
  funext q
  refine congrArg (iblk m c 1 t : Vec Ideal S8x1024 .f32) ?_
  funext a; apply Fin.ext
  match a with
  | ⟨0, _⟩ =>
    have h0 : (q 0).val < 1 := (q 0).isLt
    show 2 + 1 * (q 0).val = 2
    omega
  | ⟨1, _⟩ => show 0 + 1 * (q 1).val = (q 1).val; omega

end Cert.Kernel3Ideal.Fwd
-- ==== Proof.FwdArr.lean ====
module

public import proofs.«01_k».proof.Proof.FwdRun
public import proofs.«01_k».proof.Proof.FfnArr

@[expose] public section

set_option maxRecDepth 16384

noncomputable section

open Idealize.ShloMosaic Idealize.ShloMosaic.TcCoe Idealize.SL.Sem

/-! The feed-forward sublayer told index by index. -/
namespace Cert.Feed

/-- The normalised and modulated row: the input row, and the rows of shift, scale and gain. -/
def nrm (h sh sc gn : Fin 1024 → EReal) (d : Fin 1024) : EReal :=
  h d * Ideal.rsqrt (Ideal.div (∑ x, h x * h x) (Ideal.ofBits FTy.f32 1149239296#32) + Ideal.ofBits FTy.f32 897988541#32) * gn d * (1 + sc d) + sh d

/-- A row's product with the row of weights of one hidden unit. -/
def pre (y w : Fin 1024 → EReal) : EReal := ∑ x, y x * w x

/-- A hidden unit's activation. -/
def act (g u : EReal) : EReal := g * Ideal.logistic g * u

end Cert.Feed

namespace Cert.Kernel3Ideal.Fwd

open Cert.Kernel3Ideal Cert.Kernel3Ideal.Gen
open Cert.Feed

/-! The arrays the region leaves, as functions of the arrays it is handed. -/

variable (m : (ℓ : Loc nD τ sig) → Buf (Elt Ideal) ℓ)

theorem zero_at (r d : Fin 1024) : k0_pay5 (F := Idealize.ShloMosaic.Ideal) (ix2 r d) = 0 := by
  unfold_payloads; pointwise

theorem nrm_at (h : Vec Ideal S1024x1024 .f32) (p : Vec Ideal S8x1024 .f32) (r d : Fin 1024) :
    k0_pay4 h p (ix2 r d) = nrm (fun x => h (ix2 r x)) (fun x => p (ix2 0 x)) (fun x => p (ix2 1 x)) (fun x => p (ix2 3 x)) d := by
  unfold nrm; unfold_payloads; pointwise

theorem gate_at (y : Vec Ideal S1024x1024 .bf16) (w : Vec Ideal S1x256x1024 .bf16) (r : Fin 1024) (i : Fin 256) :
    k0_pay9 y w (ix2 r i) = pre (fun x => y (ix2 r x)) (fun x => w (ix3 0 i x)) := by
  unfold pre; unfold_payloads; pointwise

theorem up_at (y : Vec Ideal S1024x1024 .bf16) (w : Vec Ideal S1x256x1024 .bf16) (r : Fin 1024) (i : Fin 256) :
    k0_pay10 y w (ix2 r i) = pre (fun x => y (ix2 r x)) (fun x => w (ix3 0 i x)) := by
  unfold pre; unfold_payloads; pointwise

theorem act_at (y : Vec Ideal S1024x1024 .bf16) (wg wu : Vec Ideal S1x256x1024 .bf16) (r : Fin 1024) (i : Fin 256) :
    k0_pay11 y wg wu (ix2 r i) = act (pre (fun x => y (ix2 r x)) (fun x => wg (ix3 0 i x))) (pre (fun x => y (ix2 r x)) (fun x => wu (ix3 0 i x))) := by
  unfold act pre; unfold_payloads; pointwise

theorem step_at (y : Vec Ideal S1024x1024 .bf16) (wg wu wd : Vec Ideal S1x256x1024 .bf16) (p : Vec Ideal S1024x1024 .f32) (r d : Fin 1024) :
    step y wg wu wd p (ix2 r d) = p (ix2 r d)
      + ∑ i : Fin 256, act (pre (fun x => y (ix2 r x)) (fun x => wg (ix3 0 i x))) (pre (fun x => y (ix2 r x)) (fun x => wu (ix3 0 i x))) * wd (ix3 0 i d) := by
  unfold step act pre; unfold_payloads; pointwise

theorem narrow_at (x : Vec Ideal S1024x1024 .f32) (r d : Fin 1024) : k0_pay2 x (ix2 r d) = x (ix2 r d) := by
  unfold_payloads; pointwise

theorem added_at (h : Vec Ideal S1024x1024 .f32) (p : Vec Ideal S1x1024 .f32) (f : Vec Ideal S1024x1024 .f32) (r d : Fin 1024) :
    k0_pay3 h p f (ix2 r d) = h (ix2 r d) + Ideal.ofBits FTy.f32 1056964608#32 * p (ix2 0 d) * f (ix2 r d) := by
  unfold_payloads; pointwise

theorem idx : ∀ t : Fin cfg0.N, win0_0.index t = ![t.val / 11, 0] ∧ win0_1.index t = ![0, 0] ∧ win0_2.index t = ![0, t.val % 11, 0]
    ∧ win0_3.index t = ![1, t.val % 11, 0] ∧ win0_4.index t = ![2, t.val % 11, 0] :=
  (by decide +kernel : ∀ t : Fin grid0.N, _)

/-- The point of row block `j` and block of hidden units `k`. -/
def pt (j : Fin 4) (k : Fin 11) : Fin cfg0.N := ⟨11 * j.val + k.val, lt_of_lt_of_eq (b := 44) (by omega) (by decide)⟩
theorem pt_mod (j : Fin 4) (k : Fin 11) : (pt j k).val % 11 = k.val := by simp only [pt]; omega
theorem pt_div (j : Fin 4) (k : Fin 11) : (pt j k).val / 11 = j.val := by simp only [pt]; omega

def row (j : Fin 4) (r : Fin 1024) : Fin 4096 := ⟨1024 * j.val + r.val, by omega⟩
def unit (k : Fin 11) (i : Fin 256) : Fin 2816 := ⟨256 * k.val + i.val, by omega⟩

/-- The arrays of the windows when the region is entered: the rows, the packed parameters and the stack of weights. -/
abbrev rows (c : Dev nD) : Vec Ideal S4096x1024 .f32 := V m c main_arg0
abbrev par (c : Dev nD) : Vec Ideal S8x1024 .f32 := V m c main_v3
abbrev wts (c : Dev nD) : Vec Ideal S3x2816x1024 .bf16 := V m c main_v12

theorem blk0 (c : Dev nD) (j : Fin 4) (k : Fin 11) (r d : Fin 1024) :
    (iblk m c 0 (pt j k) : Vec Ideal S1024x1024 .f32) (ix2 r d) = rows m c (ix2 (row j r) d) := by
  obtain ⟨e0, e1, e2, e3, e4⟩ := idx (pt j k)
  rw [pt_div] at e0
  unfold row
  blk_ext [iblk, e0]

theorem blk1 (c : Dev nD) (j : Fin 4) (k : Fin 11) (a : Fin 8) (d : Fin 1024) :
    (iblk m c 1 (pt j k) : Vec Ideal S8x1024 .f32) (ix2 a d) = par m c (ix2 a d) := by
  obtain ⟨e0, e1, e2, e3, e4⟩ := idx (pt j k)
  blk_ext [iblk, e1]

theorem blk2 (c : Dev nD) (j : Fin 4) (k : Fin 11) (i : Fin 256) (d : Fin 1024) :
    (iblk m c 2 (pt j k) : Vec Ideal S1x256x1024 .bf16) (ix3 0 i d) = wts m c (ix3 0 (unit k i) d) := by
  obtain ⟨e0, e1, e2, e3, e4⟩ := idx (pt j k)
  rw [pt_mod] at e2
  unfold unit
  blk_ext [iblk, e2]

theorem blk3 (c : Dev nD) (j : Fin 4) (k : Fin 11) (i : Fin 256) (d : Fin 1024) :
    (iblk m c 3 (pt j k) : Vec Ideal S1x256x1024 .bf16) (ix3 0 i d) = wts m c (ix3 1 (unit k i) d) := by
  obtain ⟨e0, e1, e2, e3, e4⟩ := idx (pt j k)
  rw [pt_mod] at e3
  unfold unit
  blk_ext [iblk, e3]

theorem blk4 (c : Dev nD) (j : Fin 4) (k : Fin 11) (i : Fin 256) (d : Fin 1024) :
    (iblk m c 4 (pt j k) : Vec Ideal S1x256x1024 .bf16) (ix3 0 i d) = wts m c (ix3 2 (unit k i) d) := by
  obtain ⟨e0, e1, e2, e3, e4⟩ := idx (pt j k)
  rw [pt_mod] at e4
  unfold unit
  blk_ext [iblk, e4]

/-- The normalised row `t`. -/
def Y (c : Dev nD) (t : Fin 4096) : Fin 1024 → EReal :=
  nrm (fun x => rows m c (ix2 t x)) (fun x => par m c (ix2 0 x)) (fun x => par m c (ix2 1 x)) (fun x => par m c (ix2 3 x))
/-- Row `t` against hidden unit `f`. -/
def G (c : Dev nD) (t : Fin 4096) (f : Fin 2816) : EReal := pre (Y m c t) (fun x => wts m c (ix3 0 f x))
def U (c : Dev nD) (t : Fin 4096) (f : Fin 2816) : EReal := pre (Y m c t) (fun x => wts m c (ix3 1 f x))

theorem ys_eq (c : Dev nD) (j : Fin 4) (r : Fin 1024) : ∀ (k : Nat) (hk : k < 11), (fun x => ys m c (pt j ⟨k, hk⟩) (ix2 r x)) = Y m c (row j r)
  | 0, hk => by
    funext d
    rw [y_A m c _ (pt_mod j ⟨0, hk⟩), nrm_at]
    unfold Y
    simp only [blk0, blk1]
  | k + 1, hk => by
    rw [← ys_eq c j r k (Nat.lt_of_succ_lt hk), y_B m c _ (by rw [pt_mod]; exact Nat.succ_ne_zero k)]
    rfl

theorem gate_pt (c : Dev nD) (j : Fin 4) (k : Fin 11) (r : Fin 1024) (i : Fin 256) :
    pre (fun x => ys m c (pt j k) (ix2 r x)) (fun x => (iblk m c 2 (pt j k) : Vec Ideal S1x256x1024 .bf16) (ix3 0 i x)) = G m c (row j r) (unit k i) := by
  rw [ys_eq m c j r k.val k.isLt]
  simp only [blk2]
  rfl

theorem up_pt (c : Dev nD) (j : Fin 4) (k : Fin 11) (r : Fin 1024) (i : Fin 256) :
    pre (fun x => ys m c (pt j k) (ix2 r x)) (fun x => (iblk m c 3 (pt j k) : Vec Ideal S1x256x1024 .bf16) (ix3 0 i x)) = U m c (row j r) (unit k i) := by
  rw [ys_eq m c j r k.val k.isLt]
  simp only [blk3]
  rfl

theorem ext_unit {M : Type} [AddCommMonoid M] (g : Fin 2816 → M) (k : Fin 11) (i : Fin 256) : Blocked.ext g (256 * k.val + i.val) = g (unit k i) :=
  dif_pos (show 256 * k.val + i.val < 2816 by omega)

/-- The sublayer's output before it is added to the input. -/
def FO (c : Dev nD) (t : Fin 4096) (d : Fin 1024) : EReal := ∑ f : Fin 2816, act (G m c t f) (U m c t f) * wts m c (ix3 2 f d)

theorem step_pt (c : Dev nD) (j : Fin 4) (k : Fin 11) (p : Vec Ideal S1024x1024 .f32) (r d : Fin 1024) :
    step (ys m c (pt j k)) (iblk m c 2 (pt j k)) (iblk m c 3 (pt j k)) (iblk m c 4 (pt j k)) p (ix2 r d)
      = p (ix2 r d) + ∑ i : Fin 256, Blocked.ext (fun f => act (G m c (row j r) f) (U m c (row j r) f) * wts m c (ix3 2 f d)) (256 * k.val + i.val) := by
  rw [step_at]
  refine congrArg (p (ix2 r d) + ·) (Finset.sum_congr rfl fun i _ => ?_)
  rw [ext_unit, gate_pt, up_pt, blk4]

theorem acc_sum (c : Dev nD) (j : Fin 4) (r d : Fin 1024) : acc m c (pt j 10) (ix2 r d) = FO m c (row j r) d := by
  refine Blocked.sum_blocks 256 10 2816 rfl (fun f => act (G m c (row j r) f) (U m c (row j r) f) * wts m c (ix3 2 f d))
    (fun k hk => acc m c (pt j ⟨k, Nat.lt_succ_of_le hk⟩) (ix2 r d)) ?_ ?_
  · show acc m c (pt j 0) (ix2 r d) = _
    rw [acc_A m c _ (pt_mod j 0), step_pt, zero_at, zero_add]
    simp
  · intro k hk
    have hb := acc_B m c (pt j ⟨k + 1, by omega⟩) (by rw [pt_mod]; exact Nat.succ_ne_zero k)
    show acc m c (pt j ⟨k + 1, by omega⟩) (ix2 r d) = _
    rw [hb, step_pt]
    rfl

theorem left5 (c : Dev nD) (j : Fin 4) (r d : Fin 1024) :
    Value.G5 m c (ix2 (row j r) d) = (outsAt0 m c (pt j 10).val (pt j 10).isLt).1 (ix2 r d) := by
  have hp : Value.pt5Of (ix2 (row j r) d) = (pt j 10).val := by
    show 11 * (1 * ((1024 * j.val + r.val) / 1024 - 0) + 1 * (d.val / 1024 - 0)) + 10 = 11 * j.val + 10
    omega
  have hl : Value.loc5Of (ix2 (row j r) d) = ix2 r d := by
    funext a; apply Fin.ext
    match a with
    | ⟨0, _⟩ => show (1024 * j.val + r.val) % 1024 = r.val; omega
    | ⟨1, _⟩ => show d.val % 1024 = d.val; omega
  unfold Value.G5
  rw [dif_pos (by rw [hp]; exact (pt j 10).isLt), hl, Value.outsAt0_sweep, Value.fold0_congr m c _ _ _ _ hp]

theorem left6 (c : Dev nD) (j : Fin 4) (r d : Fin 1024) :
    Value.G6 m c (ix2 (row j r) d) = (outsAt0 m c (pt j 10).val (pt j 10).isLt).2.1 (ix2 r d) := by
  have hp : Value.pt6Of (ix2 (row j r) d) = (pt j 10).val := by
    show 11 * (1 * ((1024 * j.val + r.val) / 1024 - 0) + 1 * (d.val / 1024 - 0)) + 10 = 11 * j.val + 10
    omega
  have hl : Value.loc6Of (ix2 (row j r) d) = ix2 r d := by
    funext a; apply Fin.ext
    match a with
    | ⟨0, _⟩ => show (1024 * j.val + r.val) % 1024 = r.val; omega
    | ⟨1, _⟩ => show d.val % 1024 = d.val; omega
  unfold Value.G6
  rw [dif_pos (by rw [hp]; exact (pt j 10).isLt), hl, Value.outsAt0_sweep, Value.fold0_congr m c _ _ _ _ hp]

/-- The point and the place in its block of an entry of the arrays of hidden units. -/
theorem run_unit (j : Fin 4) (k : Fin 11) (r : Fin 1024) (i : Fin 256) : Value.run7Of (ix2 (row j r) (unit k i)) = (pt j k).val := by
  show 11 * ((1024 * j.val + r.val) / 1024 - 0) + 1 * ((256 * k.val + i.val) / 256 - 0) = 11 * j.val + k.val
  omega
theorem loc_unit (j : Fin 4) (k : Fin 11) (r : Fin 1024) (i : Fin 256) : Value.loc7Of (ix2 (row j r) (unit k i)) = ix2 r i := by
  funext a; apply Fin.ext
  match a with
  | ⟨0, _⟩ => show (1024 * j.val + r.val) % 1024 = r.val; omega
  | ⟨1, _⟩ => show (256 * k.val + i.val) % 256 = i.val; omega

theorem left7 (c : Dev nD) (j : Fin 4) (k : Fin 11) (r : Fin 1024) (i : Fin 256) :
    Value.G7 m c (ix2 (row j r) (unit k i)) = (outsAt0 m c (pt j k).val (pt j k).isLt).2.2.1 (ix2 r i) := by
  have hp : Value.pt7Of (ix2 (row j r) (unit k i)) = (pt j k).val := run_unit j k r i
  have hl : Value.loc7Of (ix2 (row j r) (unit k i)) = ix2 r i := loc_unit j k r i
  unfold Value.G7
  rw [dif_pos (by rw [hp]; exact (pt j k).isLt), hl, Value.outsAt0_sweep, Value.fold0_congr m c _ _ _ _ hp]

theorem left8 (c : Dev nD) (j : Fin 4) (k : Fin 11) (r : Fin 1024) (i : Fin 256) :
    Value.G8 m c (ix2 (row j r) (unit k i)) = (outsAt0 m c (pt j k).val (pt j k).isLt).2.2.2.1 (ix2 r i) := by
  have hp : Value.pt8Of (ix2 (row j r) (unit k i)) = (pt j k).val := run_unit j k r i
  have hl : Value.loc8Of (ix2 (row j r) (unit k i)) = ix2 r i := loc_unit j k r i
  unfold Value.G8
  rw [dif_pos (by rw [hp]; exact (pt j k).isLt), hl, Value.outsAt0_sweep, Value.fold0_congr m c _ _ _ _ hp]

theorem left9 (c : Dev nD) (j : Fin 4) (k : Fin 11) (r : Fin 1024) (i : Fin 256) :
    Value.G9 m c (ix2 (row j r) (unit k i)) = (outsAt0 m c (pt j k).val (pt j k).isLt).2.2.2.2.1 (ix2 r i) := by
  have hp : Value.pt9Of (ix2 (row j r) (unit k i)) = (pt j k).val := run_unit j k r i
  have hl : Value.loc9Of (ix2 (row j r) (unit k i)) = ix2 r i := loc_unit j k r i
  unfold Value.G9
  rw [dif_pos (by rw [hp]; exact (pt j k).isLt), hl, Value.outsAt0_sweep, Value.fold0_congr m c _ _ _ _ hp]

theorem arr5 (c : Dev nD) (j : Fin 4) (r d : Fin 1024) : Value.G5 m c (ix2 (row j r) d)
    = rows m c (ix2 (row j r) d) + Ideal.ofBits FTy.f32 1056964608#32 * par m c (ix2 2 d) * FO m c (row j r) d := by
  rw [left5, ho_C m c _ (pt_mod j 10), added_at, acc_sum, blk0]
  unfold gateRow
  rw [show ((ix2 2 ((ix2 0 d : S1x1024.Idx) 1)) : S8x1024.Idx) = ix2 2 d from rfl, blk1]

theorem arr6 (c : Dev nD) (j : Fin 4) (r d : Fin 1024) : Value.G6 m c (ix2 (row j r) d) = FO m c (row j r) d := by
  rw [left6, fo_C m c _ (pt_mod j 10), narrow_at, acc_sum]

theorem arr7 (c : Dev nD) (j : Fin 4) (k : Fin 11) (r : Fin 1024) (i : Fin 256) : Value.G7 m c (ix2 (row j r) (unit k i)) = G m c (row j r) (unit k i) := by
  rw [left7, g_at, gate_at, gate_pt]

theorem arr8 (c : Dev nD) (j : Fin 4) (k : Fin 11) (r : Fin 1024) (i : Fin 256) : Value.G8 m c (ix2 (row j r) (unit k i)) = U m c (row j r) (unit k i) := by
  rw [left8, u_at, up_at, up_pt]

theorem arr9 (c : Dev nD) (j : Fin 4) (k : Fin 11) (r : Fin 1024) (i : Fin 256) : Value.G9 m c (ix2 (row j r) (unit k i)) = act (G m c (row j r) (unit k i)) (U m c (row j r) (unit k i)) := by
  rw [left9, a_at, act_at, gate_pt, up_pt]

end Cert.Kernel3Ideal.Fwd
-- ==== Proof.FwdRef.lean ====
module

public import proofs.«01_k».proof.Proof.Gen.Reference3Ideal.Read
public import proofs.«01_k».proof.Proof.FwdArr

@[expose] public section

set_option maxRecDepth 16384

noncomputable section

open Idealize.ShloMosaic Idealize.ShloMosaic.TcCoe Idealize.SL.Sem

/-! The feed-forward sublayer read off the reference at an index, and the arrays the kernel's host lines hand to the region. -/

namespace Cert.Reference3Ideal.Fwd

open Cert.Reference3Ideal Cert.Reference3Ideal.Read
open Cert.Feed

variable (h : Vec Ideal S4096x1024 .f32) (md : Vec Ideal S3x1024 .f32) (gn : Vec Ideal S1024 .f32) (wg wu : Vec Ideal S1024x2816 .f32) (wd : Vec Ideal S2816x1024 .f32)

theorem y_at (t : Fin 4096) (d : Fin 1024) : val_main_v24 (F := Ideal) h md gn (ix2 t d)
    = nrm (fun x => h (ix2 t x)) (fun x => md (ix2 0 x)) (fun x => md (ix2 1 x)) (fun x => gn (ix1 x)) d := by
  unfold nrm val_main_v24 val_main_v23 val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_v4 val_main_v3 val_main_v2
    val_main_v1 val_main_v0 val_main_cst val_main_cst_0 val_main_cst_1 val_main_cst_2
  pointwise

theorem g_at (t : Fin 4096) (f : Fin 2816) : val_main_v25 (F := Ideal) h md gn wg (ix2 t f)
    = pre (fun x => val_main_v24 (F := Ideal) h md gn (ix2 t x)) (fun x => wg (ix2 x f)) := by
  unfold pre val_main_v25
  pointwise

theorem u_at (t : Fin 4096) (f : Fin 2816) : val_main_v27 (F := Ideal) h md gn wu (ix2 t f)
    = pre (fun x => val_main_v24 (F := Ideal) h md gn (ix2 t x)) (fun x => wu (ix2 x f)) := by
  unfold pre val_main_v27
  pointwise

theorem a_at (t : Fin 4096) (f : Fin 2816) : val_main_v28 (F := Ideal) h md gn wg wu (ix2 t f)
    = act (val_main_v25 (F := Ideal) h md gn wg (ix2 t f)) (val_main_v27 (F := Ideal) h md gn wu (ix2 t f)) := by
  unfold act Ideal.logistic val_main_v28 val_main_v26 val_main_call0_v5 val_main_call0_v4 val_main_call0_v3 val_main_call0_v2 val_main_call0_v1 val_main_call0_v0
    val_main_call0_cst val_main_call0_cst_0
  pointwise

theorem f_at (t : Fin 4096) (d : Fin 1024) : val_main_v29 (F := Ideal) h md gn wg wu wd (ix2 t d)
    = ∑ f, val_main_v28 (F := Ideal) h md gn wg wu (ix2 t f) * wd (ix2 f d) := by
  unfold val_main_v29
  pointwise

theorem ho_at (t : Fin 4096) (d : Fin 1024) : val_main_v37 (F := Ideal) h md gn wg wu wd (ix2 t d)
    = h (ix2 t d) + Ideal.ofBits FTy.f32 1056964608#32 * md (ix2 2 d) * val_main_v29 (F := Ideal) h md gn wg wu wd (ix2 t d) := by
  unfold val_main_v37 val_main_v36 val_main_v35 val_main_v34 val_main_v33 val_main_v32 val_main_cst_3
  pointwise

end Cert.Reference3Ideal.Fwd

namespace Cert.Kernel3Ideal.Fwd

open Cert.Kernel3Ideal Cert.Kernel3Ideal.Gen

variable (m : (ℓ : Loc nD τ sig) → Buf (Elt Ideal) ℓ)

/-- The arguments at a core. -/
abbrev modl (c : Dev nD) : Vec Ideal S3x1024 .f32 := m ((c : Thread nD τ).loc main_arg1)
abbrev gain (c : Dev nD) : Vec Ideal S1024 .f32 := m ((c : Thread nD τ).loc main_arg2)
abbrev wgate (c : Dev nD) : Vec Ideal S1024x2816 .f32 := m ((c : Thread nD τ).loc main_arg3)
abbrev wup (c : Dev nD) : Vec Ideal S1024x2816 .f32 := m ((c : Thread nD τ).loc main_arg4)
abbrev wdown (c : Dev nD) : Vec Ideal S2816x1024 .f32 := m ((c : Thread nD τ).loc main_arg5)

theorem rows_eq (c : Dev nD) : rows m c = m ((c : Thread nD τ).loc main_arg0) := by
  unfold rows V hostOps0 hostOps0_1 hostOps0_2 hostOps0_3 hostOps0_4
  simp only [List.flatten_cons, List.flatten_nil, List.append_nil, List.cons_append, List.nil_append]
  after_results

theorem par_eq (c : Dev nD) : par m c
    = (addf (pad S8x1024 ![0, 0] ![5, 0] ![0, 0] (modl m c) (sitofp .f32 (constantI S_ 32 0#32)) pads_S3x1024_S8x1024_050_000 h_S_)
        (pad S8x1024 ![3, 0] ![4, 0] ![0, 0] (broadcastInDim S1x1024 ![1] bcast_S1024_S1x1024_1 (gain m c)) (sitofp .f32 (constantI S_ 32 0#32)) pads_S1x1024_S8x1024_340_000 h_S_) : FVec Ideal S8x1024 .f32) := by
  unfold par V hostOps0 hostOps0_1 hostOps0_2 hostOps0_3 hostOps0_4
  simp only [List.flatten_cons, List.flatten_nil, List.append_nil, List.cons_append, List.nil_append]
  after_results
  rfl

/-- What the padding fills in. -/
theorem fill_zero : (FloatOps.sitofp FTy.f32 (0#32 : BitVec 32) : Ideal .f32) = 0 := by
  show (((0#32 : BitVec 32).toInt : ℝ) : EReal) = 0
  simp

theorem par_0 (c : Dev nD) (d : Fin 1024) : par m c (ix2 0 d) = modl m c (ix2 0 d) := by rw [par_eq]; pointwise; exact (congrArg (_ + ·) fill_zero).trans (add_zero _)
theorem par_1 (c : Dev nD) (d : Fin 1024) : par m c (ix2 1 d) = modl m c (ix2 1 d) := by rw [par_eq]; pointwise; exact (congrArg (_ + ·) fill_zero).trans (add_zero _)
theorem par_2 (c : Dev nD) (d : Fin 1024) : par m c (ix2 2 d) = modl m c (ix2 2 d) := by rw [par_eq]; pointwise; exact (congrArg (_ + ·) fill_zero).trans (add_zero _)
theorem par_3 (c : Dev nD) (d : Fin 1024) : par m c (ix2 3 d) = gain m c (ix1 d) := by rw [par_eq]; pointwise; exact (congrArg (· + _) fill_zero).trans (zero_add _)

theorem wts_eq (c : Dev nD) : wts m c
    = (concatenate S3x2816x1024 0 [⟨S1x2816x1024, broadcastInDim S1x2816x1024 ![1, 2] bcast_S2816x1024_S1x2816x1024_1_2 (truncf .bf16 (transpose S2816x1024 [1, 0] (wgate m c) transposes_S1024x2816_S2816x1024_1_0) bitsLt_bf16_f32 : FVec Ideal S2816x1024 .bf16)⟩,
        ⟨S1x2816x1024, broadcastInDim S1x2816x1024 ![1, 2] bcast_S2816x1024_S1x2816x1024_1_2 (truncf .bf16 (transpose S2816x1024 [1, 0] (wup m c) transposes_S1024x2816_S2816x1024_1_0) bitsLt_bf16_f32 : FVec Ideal S2816x1024 .bf16)⟩,
        ⟨S1x2816x1024, broadcastInDim S1x2816x1024 ![1, 2] bcast_S2816x1024_S1x2816x1024_1_2 (truncf .bf16 (wdown m c) bitsLt_bf16_f32 : FVec Ideal S2816x1024 .bf16)⟩]
        concatenates_S1x2816x1024_S1x2816x1024_S1x2816x1024_S3x2816x1024_d0 : FVec Ideal S3x2816x1024 .bf16) := by
  unfold wts V hostOps0 hostOps0_1 hostOps0_2 hostOps0_3 hostOps0_4
  simp only [List.flatten_cons, List.flatten_nil, List.append_nil, List.cons_append, List.nil_append]
  after_results
  rfl

theorem wts_gate (c : Dev nD) (f : Fin 2816) (d : Fin 1024) : wts m c (ix3 0 f d) = wgate m c (ix2 d f) := by rw [wts_eq]; pointwise
theorem wts_up (c : Dev nD) (f : Fin 2816) (d : Fin 1024) : wts m c (ix3 1 f d) = wup m c (ix2 d f) := by rw [wts_eq]; pointwise
theorem wts_down (c : Dev nD) (f : Fin 2816) (d : Fin 1024) : wts m c (ix3 2 f d) = wdown m c (ix2 f d) := by rw [wts_eq]; pointwise

end Cert.Kernel3Ideal.Fwd
-- ==== Proof.FwdClaim.lean ====
module

public import proofs.«01_k».proof.Defs
public import proofs.«01_k».proof.Proof.Gen.Kernel3.Frame
public import proofs.«01_k».proof.Proof.Gen.Reference3Ideal.Run
public import proofs.«01_k».proof.Proof.FwdArr
public import proofs.«01_k».proof.Proof.FwdRef
public import Idealize.ShloMosaic.Lib.Quiescent

@[expose] public section

set_option maxRecDepth 16384

noncomputable section

open Idealize.ShloMosaic Idealize.ShloMosaic.TcCoe Idealize.SL.Sem

/-! The claims about the feed-forward sublayer's forward pass. -/
namespace Cert.Fwd

open Cert.Kernel3Ideal.Fwd (row unit)

theorem frame_reference : ∀ (m : (ℓ : Loc Cert.Reference3Ideal.nD Cert.Reference3Ideal.τ Cert.Reference3Ideal.sig) → Buf (Elt Ideal) ℓ) (g : Dev Cert.Reference3Ideal.nD → PrngReg),
    θ_run (Cert.Reference3Ideal.defs (F := Ideal)) (onTc (τ := Cert.Reference3Ideal.τ) (Cert.Reference3Ideal.main (F := Ideal))) ⟨m, fun _ => 0, g⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
        ∧ r.2.sem = fun _ => 0) := fun m g =>
  (θ_run Cert.Reference3Ideal.defs _ _).mono (fun r h => ⟨fun c => (h c).2.2.2.2.2, sem_eq_zero_of_no_sems rfl r.2⟩) (Cert.Reference3Ideal.Value.run m g)

/-- Arrays of rows agree when they agree row block by row block. -/
theorem ext_rows {α : Type} (X Y : Cert.Kernel3Ideal.S4096x1024.Idx → α)
    (h : ∀ (j : Fin 4) (r d : Fin 1024), X (ix2 (row j r) d) = Y (ix2 (row j r) d)) : X = Y := by
  funext q
  obtain ⟨t, d, rfl⟩ : ∃ (t : Fin 4096) (d : Fin 1024), q = ix2 t d := ⟨q 0, q 1, by funext a; fin_cases a <;> rfl⟩
  rw [show t = row ⟨t.val / 1024, by omega⟩ ⟨t.val % 1024, by omega⟩ from Fin.ext (by simp only [row]; omega)]
  exact h _ _ _

/-- Arrays of hidden units agree when they agree block by block. -/
theorem ext_units {α : Type} (X Y : Cert.Kernel3Ideal.S4096x2816.Idx → α)
    (h : ∀ (j : Fin 4) (k : Fin 11) (r : Fin 1024) (i : Fin 256), X (ix2 (row j r) (unit k i)) = Y (ix2 (row j r) (unit k i))) : X = Y := by
  funext q
  obtain ⟨t, f, rfl⟩ : ∃ (t : Fin 4096) (f : Fin 2816), q = ix2 t f := ⟨q 0, q 1, by funext a; fin_cases a <;> rfl⟩
  rw [show t = row ⟨t.val / 1024, by omega⟩ ⟨t.val % 1024, by omega⟩ from Fin.ext (by simp only [row]; omega),
    show f = unit ⟨f.val / 256, by omega⟩ ⟨f.val % 256, by omega⟩ from Fin.ext (by simp only [unit]; omega)]
  exact h _ _ _ _

section
open Cert.Kernel3Ideal.Fwd
open Cert.Reference3Ideal.Read

variable (m : (ℓ : Loc Cert.Kernel3Ideal.nD Cert.Kernel3Ideal.τ Cert.Kernel3Ideal.sig) → Buf (Elt Ideal) ℓ) (c : Dev Cert.Kernel3Ideal.nD)

theorem y_eq (t : Fin 4096) : Y m c t = fun x => val_main_v24 (F := Ideal) (rows m c) (modl m c) (gain m c) (ix2 t x) := by
  funext d
  rw [Cert.Reference3Ideal.Fwd.y_at]
  unfold Y
  exact congr (congr (congr (congrArg (Cert.Feed.nrm _) (funext (par_0 m c))) (funext (par_1 m c))) (funext (par_3 m c))) rfl

theorem g_eq (t : Fin 4096) (f : Fin 2816) : G m c t f = val_main_v25 (F := Ideal) (rows m c) (modl m c) (gain m c) (wgate m c) (ix2 t f) := by
  rw [Cert.Reference3Ideal.Fwd.g_at, ← y_eq]
  unfold G
  exact congrArg (Cert.Feed.pre _) (funext (wts_gate m c f))

theorem u_eq (t : Fin 4096) (f : Fin 2816) : U m c t f = val_main_v27 (F := Ideal) (rows m c) (modl m c) (gain m c) (wup m c) (ix2 t f) := by
  rw [Cert.Reference3Ideal.Fwd.u_at, ← y_eq]
  unfold U
  exact congrArg (Cert.Feed.pre _) (funext (wts_up m c f))

theorem a_eq (t : Fin 4096) (f : Fin 2816) : Cert.Feed.act (G m c t f) (U m c t f)
    = val_main_v28 (F := Ideal) (rows m c) (modl m c) (gain m c) (wgate m c) (wup m c) (ix2 t f) := by
  rw [Cert.Reference3Ideal.Fwd.a_at, g_eq, u_eq]

theorem f_eq (t : Fin 4096) (d : Fin 1024) : FO m c t d
    = val_main_v29 (F := Ideal) (rows m c) (modl m c) (gain m c) (wgate m c) (wup m c) (wdown m c) (ix2 t d) := by
  rw [Cert.Reference3Ideal.Fwd.f_at]
  unfold FO
  exact Finset.sum_congr rfl fun f _ => by rw [a_eq, wts_down]

theorem agree_ho : (val_main_v37 (F := Ideal) (rows m c) (modl m c) (gain m c) (wgate m c) (wup m c) (wdown m c) : Cert.Kernel3Ideal.S4096x1024.Idx → EReal)
    = Cert.Kernel3Ideal.Value.G5 m c :=
  ext_rows _ _ fun j r d => by
    refine Eq.trans ?_ (arr5 m c j r d).symm
    rw [f_eq, par_2]
    exact Cert.Reference3Ideal.Fwd.ho_at _ _ _ _ _ _ _ _

theorem agree_fo : (val_main_v40 (F := Ideal) (rows m c) (modl m c) (gain m c) (wgate m c) (wup m c) (wdown m c) : Cert.Kernel3Ideal.S4096x1024.Idx → EReal)
    = Cert.Kernel3Ideal.Value.G6 m c :=
  ext_rows _ _ fun j r d => ((arr6 m c j r d).trans (f_eq m c _ _)).symm

theorem agree_g : (val_main_v41 (F := Ideal) (rows m c) (modl m c) (gain m c) (wgate m c) : Cert.Kernel3Ideal.S4096x2816.Idx → EReal)
    = Cert.Kernel3Ideal.Value.G7 m c :=
  ext_units _ _ fun j k r i => ((arr7 m c j k r i).trans (g_eq m c _ _)).symm

theorem agree_u : (val_main_v42 (F := Ideal) (rows m c) (modl m c) (gain m c) (wup m c) : Cert.Kernel3Ideal.S4096x2816.Idx → EReal)
    = Cert.Kernel3Ideal.Value.G8 m c :=
  ext_units _ _ fun j k r i => ((arr8 m c j k r i).trans (u_eq m c _ _)).symm

theorem agree_a : (val_main_v43 (F := Ideal) (rows m c) (modl m c) (gain m c) (wgate m c) (wup m c) : Cert.Kernel3Ideal.S4096x2816.Idx → EReal)
    = Cert.Kernel3Ideal.Value.G9 m c :=
  ext_units _ _ fun j k r i => ((arr9 m c j k r i).trans (a_eq m c _ _)).symm
end

open Cert.Kernel3Ideal.Fwd in
theorem algebraic : algebraic_Kernel3Ideal_Reference3Ideal := by
  intro m g m' g' hpre hargs
  refine ⟨fun c => Cert.Kernel3Ideal.Value.G5 m c, fun c => Cert.Kernel3Ideal.Value.G6 m c, fun c => Cert.Kernel3Ideal.Value.G7 m c,
    fun c => Cert.Kernel3Ideal.Value.G8 m c, fun c => Cert.Kernel3Ideal.Value.G9 m c, Cert.Kernel3Ideal.Value.run m g, ?_⟩
  refine (θ_run Cert.Reference3Ideal.defs _ _).mono (fun r h c => ?_) (Cert.Reference3Ideal.Value.run m' g')
  obtain ⟨e0, e1, e2, e3, e4, k⟩ := h c
  obtain ⟨h0, h1, h2, h3, h4, h5⟩ := hargs c
  have h0' := h0.trans (rows_eq m c).symm
  refine ⟨?_, ?_, ?_, ?_, ?_, k⟩
  · rw [e0, Cert.Reference3Ideal.Read.val_main_v37_eq, h0', h1, h2, h3, h4, h5]; exact agree_ho m c
  · rw [e1, Cert.Reference3Ideal.Read.val_main_v40_eq, h0', h1, h2, h3, h4, h5]; exact agree_fo m c
  · refine (e2.trans (Cert.Reference3Ideal.Read.val_main_v41_eq _ _ _ _)).trans ?_; rw [h0', h1, h2, h3]; exact agree_g m c
  · refine (e3.trans (Cert.Reference3Ideal.Read.val_main_v42_eq _ _ _ _)).trans ?_; rw [h0', h1, h2, h4]; exact agree_u m c
  · rw [e4, Cert.Reference3Ideal.Read.val_main_v43_eq, h0', h1, h2, h3, h4]; exact agree_a m c

end Cert.Fwd
-- ==== Proof.TokStep.lean ====
module

public import proofs.«01_k».proof.Proof.Gen.Kernel4Ideal.Skeleton
public import proofs.«01_k».proof.Proof.Gen.Kernel4Ideal.Frame
public import Idealize.ShloMosaic.Lib.Pipeline.ValueKit
public import Idealize.ShloMosaic.Lib.Pipeline.ReadBack

@[expose] public section

set_option maxRecDepth 16384

noncomputable section

namespace Cert.Kernel4Ideal.Tok

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F]

/-! What the body does to its buffers at one grid point, written as a function: the ten input blocks, the six output
    blocks and the three scratch buffers go in, the outputs and the scratch come out. -/

/-- The ten input blocks of a point. -/
structure Ins (F : FTy → Type) [FloatOps F] where
  dh : Vec F S1024x1024 .f32
  h : Vec F S1024x1024 .f32
  par : Vec F S8x1024 .f32
  fo : Vec F S1024x1024 .bf16
  g : Vec F S1024x256 .bf16
  u : Vec F S1024x256 .bf16
  wg : Vec F S1x256x1024 .bf16
  wu : Vec F S1x256x1024 .bf16
  wd : Vec F S1x256x1024 .bf16
  wdn : Vec F S1x256x1024 .bf16

/-- The six output blocks, and the scratch that the points hand on. -/
structure Outs (F : FTy → Type) [FloatOps F] where
  dhin : Vec F S1024x1024 .f32
  dg : Vec F S1024x256 .bf16
  du : Vec F S1024x256 .bf16
  y : Vec F S1024x1024 .bf16
  dfb : Vec F S1024x1024 .bf16
  dpar : Vec F S8x1024 .f32
  df : Vec F S1024x1024 .bf16
  acc : Vec F S1024x1024 .f32
  da : Vec F S1024x256 .f32

abbrev topR : Rect S1024x256 := Rect.unit (s := S1024x256) ![0, 0] S512x256.size inb_S1024x256_S512x256_0_0
abbrev botR : Rect S1024x256 := Rect.unit (s := S1024x256) ![512, 0] S512x256.size inb_S1024x256_S512x256_512_0
abbrev topW : Rect S1024x1024 := Rect.unit (s := S1024x1024) ![0, 0] S512x1024.size inb_S1024x1024_S512x1024_0_0
abbrev botW : Rect S1024x1024 := Rect.unit (s := S1024x1024) ![512, 0] S512x1024.size inb_S1024x1024_S512x1024_512_0
abbrev row0 : Rect S8x1024 := Rect.unit (s := S8x1024) ![0, 0] S1x1024.size inb_S8x1024_S1x1024_0_0
abbrev row1 : Rect S8x1024 := Rect.unit (s := S8x1024) ![1, 0] S1x1024.size inb_S8x1024_S1x1024_1_0
abbrev row2 : Rect S8x1024 := Rect.unit (s := S8x1024) ![2, 0] S1x1024.size inb_S8x1024_S1x1024_2_0
abbrev row3 : Rect S8x1024 := Rect.unit (s := S8x1024) ![3, 0] S1x1024.size inb_S8x1024_S1x1024_3_0

/-- The contents `d` with the rectangle `r` overwritten by `w`. -/
def put {s : Shape} {e : EltTy} (r : Rect s) (w : r.shape.Idx → Elt F e) (d : s.Idx → Elt F e) : s.Idx → Elt F e :=
  r.overlay d w

/-- The contents `d` with the rectangle `r` overwritten by `f` of what it held. -/
def upd {s : Shape} {e : EltTy} (r : Rect s) (f : (r.shape.Idx → Elt F e) → r.shape.Idx → Elt F e) (d : s.Idx → Elt F e) :
    s.Idx → Elt F e :=
  put r (f (View.ld d r)) d

/-- Two halves, one over the other. -/
def stackW {e : EltTy} (a b : topW.shape.Idx → Elt F e) : S1024x1024.Idx → Elt F e := put botW b (put topW a (View.canon []))
def stackR {e : EltTy} (a b : topR.shape.Idx → Elt F e) : S1024x256.Idx → Elt F e := put botR b (put topR a (View.canon []))

def dgTop (da : Vec F S512x256 .f32) (g u : Vec F S512x256 .bf16) : Vec F S512x256 .bf16 := k0_pay30 (k0_pay28 da g u)
def duTop (da : Vec F S512x256 .f32) (g : Vec F S512x256 .bf16) : Vec F S512x256 .bf16 := k0_pay31 (k0_pay27 da g)

/-- One point: `p` says that it is the first of all, `q` that it is the first of its row, `r` that it is the last of its
    row. -/
def step (p q r : Prop) [Decidable p] [Decidable q] [Decidable r] (x : Ins F) (s : Outs F) : Outs F :=
  let df := if q then k0_pay7 x.dh x.par else s.df
  let acc := if q then k0_pay22 else s.acc
  let da := if q then k0_pay23 (k0_pay6 x.dh x.par) x.wd else s.da
  let dp := if p then k0_pay20 else s.dpar
  let dp := if q then upd row2 (fun v => k0_pay9 x.dh v x.fo) dp else dp
  let acc := stackW (k0_pay32 (k0_pay27 (View.ld da topR) (View.ld x.g topR))
      (k0_pay28 (View.ld da topR) (View.ld x.g topR) (View.ld x.u topR)) (View.ld acc topW) x.wg x.wu)
    (k0_pay40 (View.ld da botR) (View.ld x.g botR) (View.ld x.u botR) (View.ld acc botW) x.wg x.wu)
  { dhin := if r then k0_pay1 (k0_pay16 acc x.h x.par) x.dh else s.dhin
    dg := stackR (dgTop (View.ld da topR) (View.ld x.g topR) (View.ld x.u topR))
      (k0_pay38 (View.ld da botR) (View.ld x.g botR) (View.ld x.u botR))
    du := stackR (duTop (View.ld da topR) (View.ld x.g topR)) (k0_pay39 (View.ld da botR) (View.ld x.g botR))
    y := if q then k0_pay21 (k0_pay5 x.par) x.h (k0_pay10 x.h) k0_pay11 else s.y
    dfb := if q then k0_pay8 x.dh x.par else s.dfb
    dpar := if r then upd row3 (fun v => k0_pay4 (k0_pay19 acc x.h x.par) v)
        (upd row1 (fun v => k0_pay3 (k0_pay18 acc x.h x.par) v) (upd row0 (fun v => k0_pay2 (k0_pay17 acc) v) dp)) else dp
    df := df
    acc := acc
    da := stackR (k0_pay24 (View.ld df topW) x.wdn) (k0_pay33 (View.ld df botW) x.wdn) }

/-! ### Reading pieces back -/

section Pieces
variable {sig : RefSig} {κ : Kind} {sp : Space} {s : Shape} {e : EltTy}

theorem canon_put (r : Rect s) (w : r.shape.Idx → Elt F e) (L : List (View.Piece (Elt F) s e)) :
    View.canon (⟨r, w⟩ :: L) = put r w (View.canon L) := rfl

theorem writes_put (v : View sig κ sp s e) (f : v.ty.Contents (Elt F)) (r : Rect s) (w : r.shape.Idx → Elt F e)
    (L : List (View.Piece (Elt F) s e)) :
    v.read (Elt F) (v.writes (Elt F) f (⟨r, w⟩ :: L)) = put r w (v.read (Elt F) (v.writes (Elt F) f L)) := by
  funext y
  unfold put
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

theorem put_whole {off : Fin s.rank → ℕ} (inb : ∀ a, off a + s.size a ≤ s.size a) (h : ∀ a, off a = 0)
    (w d : s.Idx → Elt F e) : put (Rect.unit off (no_index s.size) inb) w d = w := by
  funext y
  have e : (Rect.unit off s.size inb).emb y = y :=
    (Rect.unit off s.size inb).emb_eq_of_coords (show (Rect.unit off s.size inb).shape.Idx from y) y fun a => by
      show (y a).val = off a + 1 * (y a).val; rw [h a]; omega
  unfold put
  exact (congrArg _ e).symm.trans ((Rect.unit off s.size inb).overlay_emb d w (show (Rect.unit off s.size inb).shape.Idx from y))

theorem ld_put_self (r : Rect s) (w : r.shape.Idx → Elt F e) (d : s.Idx → Elt F e) : View.ld (put r w d) r = w :=
  funext fun x => r.overlay_emb _ _ x

theorem ld_put_of_disjoint (r r' : Rect s) (w : r.shape.Idx → Elt F e) (d : s.Idx → Elt F e)
    (h : LoadRect.disj r r'.toLoadRect = true) : View.ld (put r w d) r' = View.ld d r' :=
  funext fun x => r.overlay_of_not_mem _ _ (LoadRect.idx_not_mem_of_disj h x)
theorem readCov_ld (v : View sig κ sp s e) (L : List (View.Piece (Elt F) s e)) (r : Rect s) :
    v.readCov L r.toLoadRect = View.ld (View.canon L) r :=
  View.readCov_eq_canon' v L r.toLoadRect

/-- Two pieces that leave no row out leave nothing of what was there. -/
theorem put_put_of_cover (r r' : Rect s) (w : r.shape.Idx → Elt F e) (w' : r'.shape.Idx → Elt F e) (d d' : s.Idx → Elt F e)
    (h : ∀ y, y ∈ r.set ∨ y ∈ r'.set) : put r w (put r' w' d) = put r w (put r' w' d') := by
  funext y
  unfold put
  rcases h y with hy | hy
  · obtain ⟨x, rfl⟩ : ∃ x, r.emb x = y := r.exists_idx_of_mem hy
    rw [Rect.overlay_emb, Rect.overlay_emb]
  · by_cases hr : y ∈ r.set
    · obtain ⟨x, rfl⟩ : ∃ x, r.emb x = y := r.exists_idx_of_mem hr
      rw [Rect.overlay_emb, Rect.overlay_emb]
    · rw [Rect.overlay_of_not_mem _ _ _ hr, Rect.overlay_of_not_mem _ _ _ hr]
      obtain ⟨x, rfl⟩ : ∃ x, r'.emb x = y := r'.exists_idx_of_mem hy
      rw [Rect.overlay_emb, Rect.overlay_emb]
end Pieces

/-- An index of a matrix of 1024 rows is in its lower or in its upper half. -/
theorem mem_halves {n : ℕ} (i1 : ∀ a, (![512, 0] : Fin 2 → ℕ) a + (![512, n] : Fin 2 → ℕ) a ≤ (⟨2, ![1024, n]⟩ : Shape).size a)
    (i0 : ∀ a, (![0, 0] : Fin 2 → ℕ) a + (![512, n] : Fin 2 → ℕ) a ≤ (⟨2, ![1024, n]⟩ : Shape).size a)
    (y : (⟨2, ![1024, n]⟩ : Shape).Idx) :
    y ∈ (Rect.unit (s := ⟨2, ![1024, n]⟩) ![512, 0] ![512, n] i1).set ∨ y ∈ (Rect.unit (s := ⟨2, ![1024, n]⟩) ![0, 0] ![512, n] i0).set := by
  have h0 : (y 0).val < 1024 := (y 0).isLt
  have h1 : (y 1).val < n := (y 1).isLt
  by_cases h : (y 0).val < 512
  · right; rw [LoadRect.mem_set]; intro a
    match a with
    | 0 => exact ⟨(y 0).val, h, by show (y 0).val = 0 + 1 * (y 0).val; omega⟩
    | 1 => exact ⟨(y 1).val, h1, by show (y 1).val = 0 + 1 * (y 1).val; omega⟩
  · left; rw [LoadRect.mem_set]; intro a
    match a with
    | 0 => exact ⟨(y 0).val - 512, by show (y 0).val - 512 < 512; omega, by show (y 0).val = 512 + 1 * ((y 0).val - 512); omega⟩
    | 1 => exact ⟨(y 1).val, h1, by show (y 1).val = 0 + 1 * (y 1).val; omega⟩

theorem stackW_of {e : EltTy} (i1 i0) (a b) (d : S1024x1024.Idx → Elt F e) :
    put (Rect.unit (s := S1024x1024) ![512, 0] ![512, 1024] i1) b (put (Rect.unit (s := S1024x1024) ![0, 0] ![512, 1024] i0) a d)
      = stackW a b :=
  put_put_of_cover _ _ _ _ _ _ (mem_halves i1 i0)

theorem stackR_of {e : EltTy} (i1 i0) (a b) (d : S1024x256.Idx → Elt F e) :
    put (Rect.unit (s := S1024x256) ![512, 0] ![512, 256] i1) b (put (Rect.unit (s := S1024x256) ![0, 0] ![512, 256] i0) a d)
      = stackR a b :=
  put_put_of_cover _ _ _ _ _ _ (mem_halves i1 i0)

end Cert.Kernel4Ideal.Tok

end
-- ==== Proof.TokRun.lean ====
module

public import proofs.«01_k».proof.Proof.TokStep

@[expose] public section

set_option maxRecDepth 16384

noncomputable section

namespace Cert.Kernel4Ideal.Tok

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-! The body runs, from any contents of its buffers, to the contents `step` names. -/

/-- The buffers of the body, each a whole one. -/
structure Mem where
  m2 : Memref sig .tc .vmem S1024x1024 .f32
  h2 : m2.IsWhole
  m3 : Memref sig .tc .vmem S1024x1024 .f32
  h3 : m3.IsWhole
  m4 : Memref sig .tc .vmem S8x1024 .f32
  h4 : m4.IsWhole
  m5 : Memref sig .tc .vmem S1024x1024 .bf16
  h5 : m5.IsWhole
  m6 : Memref sig .tc .vmem S1024x256 .bf16
  h6 : m6.IsWhole
  m7 : Memref sig .tc .vmem S1024x256 .bf16
  h7 : m7.IsWhole
  m8 : Memref sig .tc .vmem S1x256x1024 .bf16
  h8 : m8.IsWhole
  m9 : Memref sig .tc .vmem S1x256x1024 .bf16
  h9 : m9.IsWhole
  m10 : Memref sig .tc .vmem S1x256x1024 .bf16
  h10 : m10.IsWhole
  m11 : Memref sig .tc .vmem S1x256x1024 .bf16
  h11 : m11.IsWhole
  m12 : Memref sig .tc .vmem S1024x1024 .f32
  h12 : m12.IsWhole
  m13 : Memref sig .tc .vmem S1024x256 .bf16
  h13 : m13.IsWhole
  m14 : Memref sig .tc .vmem S1024x256 .bf16
  h14 : m14.IsWhole
  m15 : Memref sig .tc .vmem S1024x1024 .bf16
  h15 : m15.IsWhole
  m16 : Memref sig .tc .vmem S1024x1024 .bf16
  h16 : m16.IsWhole
  m17 : Memref sig .tc .vmem S8x1024 .f32
  h17 : m17.IsWhole
  m18 : Memref sig .tc .vmem S1024x1024 .bf16
  h18 : m18.IsWhole
  m19 : Memref sig .tc .vmem S1024x1024 .f32
  h19 : m19.IsWhole
  m20 : Memref sig .tc .vmem S1024x256 .f32
  h20 : m20.IsWhole

/-- The body on the buffers `M`. -/
abbrev Mem.body (M : Mem) (i : grid0.Coords) : Prog (TpuEff nD τ sig (Elt F) Λ₀ .tc) PUnit :=
  cc0_ffn_bwd_tok i M.m2 M.h2 M.m3 M.h3 M.m4 M.h4 M.m5 M.h5 M.m6 M.h6 M.m7 M.h7 M.m8 M.h8 M.m9 M.h9 M.m10 M.h10 M.m11 M.h11
    M.m12 M.h12 M.m13 M.h13 M.m14 M.h14 M.m15 M.h15 M.m16 M.h16 M.m17 M.h17 M.m18 M.h18 M.m19 M.h19 M.m20 M.h20

/-- The buffers `M` hold the blocks `x` and the outputs and scratch `s`. -/
def Mem.held (M : Mem) (c : Dev nD) (x : Ins F) (s : Outs F) : sProp 𝕄 :=
  iprop(owns (c : Thread nD τ) M.m2 fullShare x.dh ∗ owns (c : Thread nD τ) M.m3 fullShare x.h
    ∗ owns (c : Thread nD τ) M.m4 fullShare x.par ∗ owns (c : Thread nD τ) M.m5 fullShare x.fo
    ∗ owns (c : Thread nD τ) M.m6 fullShare x.g ∗ owns (c : Thread nD τ) M.m7 fullShare x.u
    ∗ owns (c : Thread nD τ) M.m8 fullShare x.wg ∗ owns (c : Thread nD τ) M.m9 fullShare x.wu
    ∗ owns (c : Thread nD τ) M.m10 fullShare x.wd ∗ owns (c : Thread nD τ) M.m11 fullShare x.wdn
    ∗ owns (c : Thread nD τ) M.m12 fullShare s.dhin ∗ owns (c : Thread nD τ) M.m13 fullShare s.dg
    ∗ owns (c : Thread nD τ) M.m14 fullShare s.du ∗ owns (c : Thread nD τ) M.m15 fullShare s.y
    ∗ owns (c : Thread nD τ) M.m16 fullShare s.dfb ∗ owns (c : Thread nD τ) M.m17 fullShare s.dpar
    ∗ owns (c : Thread nD τ) M.m18 fullShare s.df ∗ owns (c : Thread nD τ) M.m19 fullShare s.acc
    ∗ owns (c : Thread nD τ) M.m20 fullShare s.da)

set_option maxHeartbeats 4000000 in
/-- On buffers that hold `x` and `s` the body ends, and leaves them as `step` says. -/
theorem body_run (c : Dev nD) (i : grid0.Coords) (M : Mem) (x : Ins F) (s : Outs F)
    (h01 : k0_cond1 i = 1#1 → k0_cond2 i = 1#1) (h12 : k0_cond2 i = 1#1 → ¬ k0_cond3 i = 1#1) (E : Set ℕ) (K : PUnit → sProp 𝕄) :
    iprop(M.held c x s ∗ (M.held c x (step (k0_cond1 i = 1#1) (k0_cond2 i = 1#1) (k0_cond3 i = 1#1) x s) -∗ K ⟨⟩))
      ⊢ wp frame (wpE (defs₀ (F := F)) Variants.none c none) E (M.body i) K := by
  obtain ⟨arg2, harg2, arg3, harg3, arg4, harg4, arg5, harg5, arg6, harg6, arg7, harg7, arg8, harg8, arg9, harg9, arg10, harg10,
    arg11, harg11, arg12, harg12, arg13, harg13, arg14, harg14, arg15, harg15, arg16, harg16, arg17, harg17, arg18, harg18,
    arg19, harg19, arg20, harg20⟩ := M
  obtain ⟨x0, x1, x2, x3, x4, x5, x6, x7, x8, x9⟩ := x
  obtain ⟨y0, y1, y2, y3, y4, y5, s0, s1, s2⟩ := s
  unfold Mem.held Mem.body
  simp only []
  simp only [cc0_ffn_bwd_tok_eq_skeleton]; unfold cc0_ffn_bwd_tok_skel
  simp only [k0_part3_eq_skeleton, k0_part1_eq_skeleton, k0_part4_eq_skeleton, k0_part5_eq_skeleton, k0_part2_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
  by_cases hc0 : k0_cond1 i = 1#1 <;> by_cases hc1 : k0_cond2 i = 1#1 <;> by_cases hc2 : k0_cond3 i = 1#1
  all_goals first | exact absurd (h01 hc0) hc1 | exact absurd hc2 (h12 hc1) | skip
  all_goals
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro; frame_open
      simp (disch := decide) only [step, upd, dgTop, duTop, hc0, hc1, hc2, if_true, if_false, writes_put, View.writes_nil, Memref.IsWhole.read_unread, readCov_ld, canon_put, View.readAt_eq_ld, put_whole, ld_put_self, ld_put_of_disjoint, View.ld_unit_lit', stackW_of, stackR_of]
      try rfl
    isplitl [H11]
    · iexists _; isplitr; swap; · iexact H11
      ipureintro; frame_open
      simp (disch := decide) only [step, upd, dgTop, duTop, hc0, hc1, hc2, if_true, if_false, writes_put, View.writes_nil, Memref.IsWhole.read_unread, readCov_ld, canon_put, View.readAt_eq_ld, put_whole, ld_put_self, ld_put_of_disjoint, View.ld_unit_lit', stackW_of, stackR_of]
      try rfl
    isplitl [H12]
    · iexists _; isplitr; swap; · iexact H12
      ipureintro; frame_open
      simp (disch := decide) only [step, upd, dgTop, duTop, hc0, hc1, hc2, if_true, if_false, writes_put, View.writes_nil, Memref.IsWhole.read_unread, readCov_ld, canon_put, View.readAt_eq_ld, put_whole, ld_put_self, ld_put_of_disjoint, View.ld_unit_lit', stackW_of, stackR_of]
      try rfl
    isplitl [H13]
    · iexists _; isplitr; swap; · iexact H13
      ipureintro; frame_open
      simp (disch := decide) only [step, upd, dgTop, duTop, hc0, hc1, hc2, if_true, if_false, writes_put, View.writes_nil, Memref.IsWhole.read_unread, readCov_ld, canon_put, View.readAt_eq_ld, put_whole, ld_put_self, ld_put_of_disjoint, View.ld_unit_lit', stackW_of, stackR_of]
      try rfl
    isplitl [H14]
    · iexists _; isplitr; swap; · iexact H14
      ipureintro; frame_open
      simp (disch := decide) only [step, upd, dgTop, duTop, hc0, hc1, hc2, if_true, if_false, writes_put, View.writes_nil, Memref.IsWhole.read_unread, readCov_ld, canon_put, View.readAt_eq_ld, put_whole, ld_put_self, ld_put_of_disjoint, View.ld_unit_lit', stackW_of, stackR_of]
      try rfl
    isplitl [H15]
    · iexists _; isplitr; swap; · iexact H15
      ipureintro; frame_open
      simp (disch := decide) only [step, upd, dgTop, duTop, hc0, hc1, hc2, if_true, if_false, writes_put, View.writes_nil, Memref.IsWhole.read_unread, readCov_ld, canon_put, View.readAt_eq_ld, put_whole, ld_put_self, ld_put_of_disjoint, View.ld_unit_lit', stackW_of, stackR_of]
      try rfl
    isplitl [H16]
    · iexists _; isplitr; swap; · iexact H16
      ipureintro; frame_open
      simp (disch := decide) only [step, upd, dgTop, duTop, hc0, hc1, hc2, if_true, if_false, writes_put, View.writes_nil, Memref.IsWhole.read_unread, readCov_ld, canon_put, View.readAt_eq_ld, put_whole, ld_put_self, ld_put_of_disjoint, View.ld_unit_lit', stackW_of, stackR_of]
      try rfl
    isplitl [H17]
    · iexists _; isplitr; swap; · iexact H17
      ipureintro; frame_open
      simp (disch := decide) only [step, upd, dgTop, duTop, hc0, hc1, hc2, if_true, if_false, writes_put, View.writes_nil, Memref.IsWhole.read_unread, readCov_ld, canon_put, View.readAt_eq_ld, put_whole, ld_put_self, ld_put_of_disjoint, View.ld_unit_lit', stackW_of, stackR_of]
      try rfl
    iexists _; isplitr; swap; · iexact H18
    ipureintro; frame_open
    simp (disch := decide) only [step, upd, dgTop, duTop, hc0, hc1, hc2, if_true, if_false, writes_put, View.writes_nil, Memref.IsWhole.read_unread, readCov_ld, canon_put, View.readAt_eq_ld, put_whole, ld_put_self, ld_put_of_disjoint, View.ld_unit_lit', stackW_of, stackR_of]
    try rfl

end Cert.Kernel4Ideal.Tok

end
-- ==== Proof.TokFrame.lean ====
module

public import proofs.«01_k».proof.Proof.TokRun
public import proofs.«01_k».proof.Proof.Gen.Kernel4Ideal.Launch
public import proofs.«01_k».proof.Proof.Gen.Kernel4Ideal.Points
public import Idealize.ShloMosaic.Lib.Pipeline.FrameBody
public import Idealize.ShloMosaic.Lib.Tactic
public import Idealize.ShloMosaic.Lib.WordCmp

@[expose] public section

set_option maxRecDepth 16384

noncomputable section

namespace Cert.Kernel4Ideal.Tok

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions of the body, by the point's number -/

theorem first_iff (t : Fin cfg0.N) : k0_cond1 (grid0.coords t) = 1#1 ↔ t.val % 44 = 0 := by
  have ht : t.val < 44 := Nat.lt_of_lt_of_eq t.isLt N_0
  have e0 : (grid0.coords t 0).val = t.val / 11 % 4 := Pipeline.Grid.coords_val t 0 (by decide) rfl
  have e1 : (grid0.coords t 1).val = t.val / 1 % 11 := Pipeline.Grid.coords_val t 1 (by decide) rfl
  simp only [k0_cond1, e0, e1]
  word_cmp

theorem start_iff (t : Fin cfg0.N) : k0_cond2 (grid0.coords t) = 1#1 ↔ t.val % 11 = 0 := by
  have ht : t.val < 44 := Nat.lt_of_lt_of_eq t.isLt N_0
  have e0 : (grid0.coords t 0).val = t.val / 11 % 4 := Pipeline.Grid.coords_val t 0 (by decide) rfl
  have e1 : (grid0.coords t 1).val = t.val / 1 % 11 := Pipeline.Grid.coords_val t 1 (by decide) rfl
  simp only [k0_cond2, e0, e1]
  word_cmp

theorem stop_iff (t : Fin cfg0.N) : k0_cond3 (grid0.coords t) = 1#1 ↔ t.val % 11 = 10 := by
  have ht : t.val < 44 := Nat.lt_of_lt_of_eq t.isLt N_0
  have e0 : (grid0.coords t 0).val = t.val / 11 % 4 := Pipeline.Grid.coords_val t 0 (by decide) rfl
  have e1 : (grid0.coords t 1).val = t.val / 1 % 11 := Pipeline.Grid.coords_val t 1 (by decide) rfl
  simp only [k0_cond3, e0, e1]
  word_cmp

/-! ## What the buffers hold before each point -/

/-- The buffers the body is given at point `t`. -/
abbrev mem (t : Fin cfg0.N) : Mem :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2), win0_3.stage (cfg0.slots t 3), hstage0_3 ((cfg0.slots t 3).cast nbuf0_3),
    win0_4.stage (cfg0.slots t 4), hstage0_4 ((cfg0.slots t 4).cast nbuf0_4), win0_5.stage (cfg0.slots t 5), hstage0_5 ((cfg0.slots t 5).cast nbuf0_5),
    win0_6.stage (cfg0.slots t 6), hstage0_6 ((cfg0.slots t 6).cast nbuf0_6), win0_7.stage (cfg0.slots t 7), hstage0_7 ((cfg0.slots t 7).cast nbuf0_7),
    win0_8.stage (cfg0.slots t 8), hstage0_8 ((cfg0.slots t 8).cast nbuf0_8), win0_9.stage (cfg0.slots t 9), hstage0_9 ((cfg0.slots t 9).cast nbuf0_9),
    win0_10.stage (cfg0.slots t 10), hstage0_10 ((cfg0.slots t 10).cast nbuf0_10), win0_11.stage (cfg0.slots t 11), hstage0_11 ((cfg0.slots t 11).cast nbuf0_11),
    win0_12.stage (cfg0.slots t 12), hstage0_12 ((cfg0.slots t 12).cast nbuf0_12), win0_13.stage (cfg0.slots t 13), hstage0_13 ((cfg0.slots t 13).cast nbuf0_13),
    win0_14.stage (cfg0.slots t 14), hstage0_14 ((cfg0.slots t 14).cast nbuf0_14), win0_15.stage (cfg0.slots t 15), hstage0_15 ((cfg0.slots t 15).cast nbuf0_15),
    Memref.whole cc0_scratch0, Memref.isWhole_whole _, Memref.whole cc0_scratch1, Memref.isWhole_whole _, Memref.whole cc0_scratch2, Memref.isWhole_whole _⟩

theorem body_eq (t : Fin cfg0.N) : bodyAt0 (F := F) t = (mem t).body (grid0.coords t) := rfl

/-- The blocks the body is given at point `t`. -/
abbrev ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- What the body leaves at point `t` of buffers that hold `s`. -/
def next (c : Dev nD) (t : Fin cfg0.N) (s : Outs F) : Outs F :=
  step (t.val % 44 = 0) (t.val % 11 = 0) (t.val % 11 = 10) (ins m c t) s

/-- The outputs and scratch before point `n`. -/
def st (c : Dev nD) : ℕ → Outs F
  | 0 => ⟨View.canon [], View.canon [], View.canon [], View.canon [], View.canon [], View.canon [], View.canon [], View.canon [], View.canon []⟩
  | n + 1 => if h : n < cfg0.N then next m c ⟨n, h⟩ (st c n) else st c n

theorem st_succ (c : Dev nD) (t : Fin cfg0.N) : st m c (t.val + 1) = next m c t (st m c t.val) := dif_pos t.isLt

/-- The point's result depends on what it finds only in what it keeps. -/
theorem next_agree (c : Dev nD) (t : Fin cfg0.N) (s s' : Outs F) (hp : t.val ≠ 0 → s.dpar = s'.dpar)
    (hq : t.val % 11 ≠ 0 → s.df = s'.df ∧ s.acc = s'.acc ∧ s.da = s'.da ∧ s.y = s'.y ∧ s.dfb = s'.dfb) :
    next m c t s = { next m c t s' with dhin := if t.val % 11 = 10 then (next m c t s').dhin else s.dhin } := by
  have ht : t.val < 44 := Nat.lt_of_lt_of_eq t.isLt N_0
  obtain ⟨a0, a1, a2, a3, a4, a5, a6, a7, a8⟩ := s
  obtain ⟨b0, b1, b2, b3, b4, b5, b6, b7, b8⟩ := s'
  simp only at hp hq
  by_cases h1 : t.val % 11 = 0
  · have h3 : ¬ t.val % 11 = 10 := by omega
    by_cases h0 : t.val % 44 = 0
    · simp only [next, step, if_pos h0, if_pos h1, if_neg h3]
    · obtain rfl := hp (by omega)
      simp only [next, step, if_neg h0, if_pos h1, if_neg h3]
  · obtain ⟨rfl, rfl, rfl, rfl, rfl⟩ := hq h1
    obtain rfl := hp (by omega)
    have h0 : ¬ t.val % 44 = 0 := by omega
    by_cases h3 : t.val % 11 = 10
    · simp only [next, step, if_neg h0, if_neg h1, if_pos h3]
    · simp only [next, step, if_neg h0, if_neg h1, if_neg h3]

/-! ## The proof data -/

/-- The invariant before point `n`: the scratch as `st` has it, unless a row of blocks starts there. -/
def inv (c : Dev nD) (n : ℕ) : sProp 𝕄 :=
  iprop(∃ s : Outs F, ⌜n % 11 ≠ 0 → s.df = (st m c n).df ∧ s.acc = (st m c n).acc ∧ s.da = (st m c n).da⌝
    ∗ owns (c : Thread nD τ) (Memref.whole cc0_scratch0) fullShare s.df ∗ owns (c : Thread nD τ) (Memref.whole cc0_scratch1) fullShare s.acc
    ∗ owns (c : Thread nD τ) (Memref.whole cc0_scratch2) fullShare s.da ∗ (∃ r, prngReg c r))

def dats (_ : Fin 1) (c : Dev nD) : Dat τ (Elt F) Unit ℕ (UR sig nD τ) ℕ cfg0 c where
  A w := V m c (Pipeline.arrRef spec0 w)
  after := fun
    | 0 => iblk m c 0
    | 1 => iblk m c 1
    | 2 => iblk m c 2
    | 3 => iblk m c 3
    | 4 => iblk m c 4
    | 5 => iblk m c 5
    | 6 => iblk m c 6
    | 7 => iblk m c 7
    | 8 => iblk m c 8
    | 9 => iblk m c 9
    | 10 => fun t => (st m c (t.val + 1)).dhin
    | 11 => fun t => (st m c (t.val + 1)).dg
    | 12 => fun t => (st m c (t.val + 1)).du
    | 13 => fun t => (st m c (t.val + 1)).y
    | 14 => fun t => (st m c (t.val + 1)).dfb
    | 15 => fun t => (st m c (t.val + 1)).dpar
    | ⟨_ + 16, h⟩ => absurd h (Nat.not_lt.2 (Nat.le_add_left _ _))
  Φ n := inv m c n.val
  q w := Pipeline.shareOf spec0 w
  owed _ := 0

theorem A_eq (c : Dev nD) (w : Fin cfg0.W) : (dats m 0 c).A w = V m c (Pipeline.arrRef spec0 w) := by
  dsimp only [dats]

theorem after_10 (c : Dev nD) (t : Fin cfg0.N) : (dats m 0 c).after 10 t = (st m c (t.val + 1)).dhin := by dsimp only [dats]
theorem after_11 (c : Dev nD) (t : Fin cfg0.N) : (dats m 0 c).after 11 t = (st m c (t.val + 1)).dg := by dsimp only [dats]
theorem after_12 (c : Dev nD) (t : Fin cfg0.N) : (dats m 0 c).after 12 t = (st m c (t.val + 1)).du := by dsimp only [dats]
theorem after_13 (c : Dev nD) (t : Fin cfg0.N) : (dats m 0 c).after 13 t = (st m c (t.val + 1)).y := by dsimp only [dats]
theorem after_14 (c : Dev nD) (t : Fin cfg0.N) : (dats m 0 c).after 14 t = (st m c (t.val + 1)).dfb := by dsimp only [dats]
theorem after_15 (c : Dev nD) (t : Fin cfg0.N) : (dats m 0 c).after 15 t = (st m c (t.val + 1)).dpar := by dsimp only [dats]

/-- An output kept through the points that do not store it is found as `st` has it, where the point before
    did not write it back. -/
theorem before_kept (c : Dev nD) (w : Fin cfg0.W) (val : Outs F → (cfg0.win w).block.Idx → Elt F (cfg0.win w).elt)
    (hf : ∀ t, (cfg0.win w).fetch t = false) (hkept : ∀ t d, (dats m 0 c).kept w t d = val (st m c (t.val + 1)))
    (hi : ∀ t, cfg0.idle w (cfg0.grid.coords t) = true → val (st m c (t.val + 1)) = val (st m c t.val) ∧ t.val ≠ 0
      ∧ ∀ h : t.val - 1 < cfg0.N, (cfg0.win w).flush ⟨t.val - 1, h⟩ = false) (n : ℕ) :
    ∀ (t : Fin cfg0.N), t.val = n + 1 → (∀ h : t.val - 1 < cfg0.N, (cfg0.win w).flush ⟨t.val - 1, h⟩ = false) →
      ∀ d, (dats m 0 c).before w t d = val (st m c t.val) := by
  induction n with
  | zero =>
    intro t ht hfl d
    rw [Dat.before_of_pos _ w t (by omega) (hf t), hfl, if_neg Bool.false_ne_true]
    unfold Dat.left
    split
    · next h => exact absurd (show t.val - 1 = 0 by omega) (hi _ h).2.1
    · next h => rw [hkept]; exact congrArg (fun k => val (st m c k)) (show t.val - 1 + 1 = t.val by omega)
  | succ n ih =>
    intro t ht hfl d
    rw [Dat.before_of_pos _ w t (by omega) (hf t), hfl, if_neg Bool.false_ne_true]
    unfold Dat.left
    have e : t.val - 1 + 1 = t.val := by omega
    split
    · next h =>
      obtain ⟨h1, h2, h3⟩ := hi _ h
      rw [ih ⟨t.val - 1, _⟩ (show t.val - 1 = n + 1 by omega) h3 d, ← h1]
      exact congrArg (fun k => val (st m c k)) e
    · next h => rw [hkept]; exact congrArg (fun k => val (st m c k)) e

theorem idle_row (t : Fin cfg0.N) (h : (!(k0_cond2 (grid0.coords t) == 1#1)) = true) : t.val % 11 ≠ 0 := by
  rw [Bool.not_eq_true', beq_eq_false_iff_ne] at h
  exact fun e => h ((start_iff t).mpr e)

theorem idle_par (t : Fin cfg0.N) (h : (!(k0_cond1 (grid0.coords t) == 1#1) && !(k0_cond2 (grid0.coords t) == 1#1) && !(k0_cond3 (grid0.coords t) == 1#1)) = true) :
    t.val % 44 ≠ 0 ∧ t.val % 11 ≠ 0 ∧ t.val % 11 ≠ 10 := by
  simp only [Bool.and_eq_true, Bool.not_eq_true', beq_eq_false_iff_ne] at h
  exact ⟨fun e => h.1.1 ((first_iff t).mpr e), fun e => h.1.2 ((start_iff t).mpr e), fun e => h.2 ((stop_iff t).mpr e)⟩

theorem not_of_iff {b : Bool} {p : Prop} (h : b = true ↔ p) (hp : ¬ p) : b = false := by
  cases b
  · rfl
  · exact absurd (h.mp rfl) hp

theorem st_y (c : Dev nD) (t : Fin cfg0.N) (h : t.val % 11 ≠ 0) : (st m c (t.val + 1)).y = (st m c t.val).y := by
  rw [st_succ]; simp only [next, step, if_neg h]
theorem st_dfb (c : Dev nD) (t : Fin cfg0.N) (h : t.val % 11 ≠ 0) : (st m c (t.val + 1)).dfb = (st m c t.val).dfb := by
  rw [st_succ]; simp only [next, step, if_neg h]
theorem st_dpar (c : Dev nD) (t : Fin cfg0.N) (h0 : t.val % 44 ≠ 0) (h : t.val % 11 ≠ 0) (h2 : t.val % 11 ≠ 10) :
    (st m c (t.val + 1)).dpar = (st m c t.val).dpar := by
  rw [st_succ]; simp only [next, step, if_neg h, if_neg h0, if_neg h2]

theorem before_13 (c : Dev nD) (t : Fin cfg0.N) (h : t.val % 11 ≠ 0) (d) : (dats m 0 c).before 13 t d = (st m c t.val).y :=
  before_kept m c 13 Outs.y (fun _ => rfl) (fun t d => after_13 m c t)
    (fun t hi => by
      have := idle_row t hi
      exact ⟨st_y m c t this, by omega, fun h => not_of_iff (flush0_13 _) (show ¬ (t.val - 1) % 11 = 10 by omega)⟩)
    (t.val - 1) t (by omega) (fun _ => not_of_iff (flush0_13 _) (show ¬ (t.val - 1) % 11 = 10 by omega)) d

theorem before_14 (c : Dev nD) (t : Fin cfg0.N) (h : t.val % 11 ≠ 0) (d) : (dats m 0 c).before 14 t d = (st m c t.val).dfb :=
  before_kept m c 14 Outs.dfb (fun _ => rfl) (fun t d => after_14 m c t)
    (fun t hi => by
      have := idle_row t hi
      exact ⟨st_dfb m c t this, by omega, fun h => not_of_iff (flush0_14 _) (show ¬ (t.val - 1) % 11 = 10 by omega)⟩)
    (t.val - 1) t (by omega) (fun _ => not_of_iff (flush0_14 _) (show ¬ (t.val - 1) % 11 = 10 by omega)) d

theorem before_15 (c : Dev nD) (t : Fin cfg0.N) (h : t.val ≠ 0) (d) : (dats m 0 c).before 15 t d = (st m c t.val).dpar :=
  before_kept m c 15 Outs.dpar (fun _ => rfl) (fun t d => after_15 m c t)
    (fun t hi => by
      have := idle_par t hi
      have ht : t.val < 44 := Nat.lt_of_lt_of_eq t.isLt N_0
      exact ⟨st_dpar m c t this.1 this.2.1 this.2.2, by omega, fun h => not_of_iff (flush0_15 _) (show ¬ (t.val - 1) % 44 = 43 by omega)⟩)
    (t.val - 1) t (by omega)
    (fun _ => by
      have ht : t.val < 44 := Nat.lt_of_lt_of_eq t.isLt N_0
      exact not_of_iff (flush0_15 _) (show ¬ (t.val - 1) % 44 = 43 by omega)) d

/-- A buffer is handed back: at what it was found to hold where the body is idle and nothing is written back,
    else at what the proof data name. -/
theorem hand_back (c : Dev nD) (w : Fin cfg0.W) (t : Fin cfg0.N) (X : (cfg0.win w).block.Idx → Elt F (cfg0.win w).elt)
    (hi : cfg0.idle w (cfg0.grid.coords t) = true → (cfg0.win w).flush t = false → ∃ d, X = (dats m 0 c).before w t d)
    (ha : cfg0.idle w (cfg0.grid.coords t) = false ∨ (cfg0.win w).flush t = true → X = (dats m 0 c).after w t) :
    owns (c : Thread nD τ) ((cfg0.win w).stage (cfg0.slots t w)) fullShare X ⊢ ((dats m 0 c).leavesExact w t : sProp 𝕄) := by
  unfold Dat.leavesExact
  split
  · next h =>
    split
    · next h' =>
      obtain ⟨d, e⟩ := hi h h'
      rw [e]
      iintro H
      iexists d
      iexact H
    · next h' => rw [ha (.inr h')]
  · next h => rw [ha (.inl h)]

/-! ## The body at a point -/

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (mem t).m2 fullShare ((dats m 0 c).before 0 t d))
    ∗ (∃ d, owns (c : Thread nD τ) (mem t).m3 fullShare ((dats m 0 c).before 1 t d))
    ∗ (∃ d, owns (c : Thread nD τ) (mem t).m4 fullShare ((dats m 0 c).before 2 t d))
    ∗ (∃ d, owns (c : Thread nD τ) (mem t).m5 fullShare ((dats m 0 c).before 3 t d))
    ∗ (∃ d, owns (c : Thread nD τ) (mem t).m6 fullShare ((dats m 0 c).before 4 t d))
    ∗ (∃ d, owns (c : Thread nD τ) (mem t).m7 fullShare ((dats m 0 c).before 5 t d))
    ∗ (∃ d, owns (c : Thread nD τ) (mem t).m8 fullShare ((dats m 0 c).before 6 t d))
    ∗ (∃ d, owns (c : Thread nD τ) (mem t).m9 fullShare ((dats m 0 c).before 7 t d))
    ∗ (∃ d, owns (c : Thread nD τ) (mem t).m10 fullShare ((dats m 0 c).before 8 t d))
    ∗ (∃ d, owns (c : Thread nD τ) (mem t).m11 fullShare ((dats m 0 c).before 9 t d))
    ∗ (∃ d, owns (c : Thread nD τ) (mem t).m12 fullShare ((dats m 0 c).before 10 t d))
    ∗ (∃ d, owns (c : Thread nD τ) (mem t).m13 fullShare ((dats m 0 c).before 11 t d))
    ∗ (∃ d, owns (c : Thread nD τ) (mem t).m14 fullShare ((dats m 0 c).before 12 t d))
    ∗ (∃ d, owns (c : Thread nD τ) (mem t).m15 fullShare ((dats m 0 c).before 13 t d))
    ∗ (∃ d, owns (c : Thread nD τ) (mem t).m16 fullShare ((dats m 0 c).before 14 t d))
    ∗ (∃ d, owns (c : Thread nD τ) (mem t).m17 fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t
    ∗ (dats m 0 c).leavesExact 12 t ∗ (dats m 0 c).leavesExact 13 t ∗ (dats m 0 c).leavesExact 14 t ∗ (dats m 0 c).leavesExact 15 t)

/-- The buffers the body returns, from what they hold. -/
theorem give_back (c : Dev nD) (t : Fin cfg0.N) (e d10 : (cfg0.win 10).block.Idx → Elt F (cfg0.win 10).elt)
    (he : e = if t.val % 11 = 10 then (next m c t (st m c t.val)).dhin else (dats m 0 c).before 10 t d10)
    (d13 : (cfg0.win 13).block.Idx → Elt F (cfg0.win 13).elt) (d14 : (cfg0.win 14).block.Idx → Elt F (cfg0.win 14).elt)
    (d15 : (cfg0.win 15).block.Idx → Elt F (cfg0.win 15).elt) :
    (mem t).held c (ins m c t) { next m c t (st m c t.val) with dhin := e }
      ⊢ (iprop((dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t
    ∗ (dats m 0 c).leavesExact 12 t ∗ (dats m 0 c).leavesExact 13 t ∗ (dats m 0 c).leavesExact 14 t ∗ (dats m 0 c).leavesExact 15 t
    ∗ owns (c : Thread nD τ) (Memref.whole cc0_scratch0) fullShare (st m c (t.val + 1)).df
    ∗ owns (c : Thread nD τ) (Memref.whole cc0_scratch1) fullShare (st m c (t.val + 1)).acc
    ∗ owns (c : Thread nD τ) (Memref.whole cc0_scratch2) fullShare (st m c (t.val + 1)).da) : sProp 𝕄) := by
  have ht : t.val < 44 := Nat.lt_of_lt_of_eq t.isLt N_0
  rw [← st_succ] at he ⊢
  unfold Mem.held
  dsimp only
  refine BIClass.sep_mono (hand_back m c 0 t _ (fun h => nomatch h) fun _ => by dsimp only [dats]) ?_
  refine BIClass.sep_mono (hand_back m c 1 t _ (fun h => nomatch h) fun _ => by dsimp only [dats]) ?_
  refine BIClass.sep_mono (hand_back m c 2 t _ (fun h => nomatch h) fun _ => by dsimp only [dats]) ?_
  refine BIClass.sep_mono (hand_back m c 3 t _ (fun h => nomatch h) fun _ => by dsimp only [dats]) ?_
  refine BIClass.sep_mono (hand_back m c 4 t _ (fun h => nomatch h) fun _ => by dsimp only [dats]) ?_
  refine BIClass.sep_mono (hand_back m c 5 t _ (fun h => nomatch h) fun _ => by dsimp only [dats]) ?_
  refine BIClass.sep_mono (hand_back m c 6 t _ (fun h => nomatch h) fun _ => by dsimp only [dats]) ?_
  refine BIClass.sep_mono (hand_back m c 7 t _ (fun h => nomatch h) fun _ => by dsimp only [dats]) ?_
  refine BIClass.sep_mono (hand_back m c 8 t _ (fun h => nomatch h) fun _ => by dsimp only [dats]) ?_
  refine BIClass.sep_mono (hand_back m c 9 t _ (fun h => nomatch h) fun _ => by dsimp only [dats]) ?_
  refine BIClass.sep_mono (hand_back m c 10 t _ (fun _ h => ⟨d10, by
    rw [he, if_neg (fun h' => Bool.false_ne_true (h.symm.trans ((flush0_10 t).mpr h')))]⟩) fun h => by
      have h' : t.val % 11 = 10 := h.elim
        (fun h => (stop_iff t).mp (by simpa using (show (!(k0_cond3 (grid0.coords t) == 1#1)) = false from h))) (flush0_10 t).mp
      rw [he, if_pos h', after_10]) ?_
  refine BIClass.sep_mono (hand_back m c 11 t _ (fun h => nomatch h) fun _ => (after_11 m c t).symm) ?_
  refine BIClass.sep_mono (hand_back m c 12 t _ (fun h => nomatch h) fun _ => (after_12 m c t).symm) ?_
  refine BIClass.sep_mono (hand_back m c 13 t _ (fun h _ => ⟨d13, by
    rw [before_13 m c t (idle_row t h)]; exact st_y m c t (idle_row t h)⟩) fun _ => (after_13 m c t).symm) ?_
  refine BIClass.sep_mono (hand_back m c 14 t _ (fun h _ => ⟨d14, by
    rw [before_14 m c t (idle_row t h)]; exact st_dfb m c t (idle_row t h)⟩) fun _ => (after_14 m c t).symm) ?_
  refine BIClass.sep_mono (hand_back m c 15 t _ (fun h _ => ⟨d15, by
    have := idle_par t h
    rw [before_15 m c t (by omega)]; exact st_dpar m c t this.1 this.2.1 this.2.2⟩) fun _ => (after_15 m c t).symm) ?_
  exact .rfl

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9]
  rw [show (dats m 0 c).Φ t.castSucc = inv m c t.val from rfl, show (dats m 0 c).Φ t.succ = inv m c (t.val + 1) from rfl, body_eq]
  unfold inv
  iintro ⟨⟨%s, %hs, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hn := next_agree m c t ⟨(dats m 0 c).before 10 t d10, (dats m 0 c).before 11 t d11, (dats m 0 c).before 12 t d12,
      (dats m 0 c).before 13 t d13, (dats m 0 c).before 14 t d14, (dats m 0 c).before 15 t d15, s.df, s.acc, s.da⟩ (st m c t.val)
    (fun h => before_15 m c t h d15) (fun h => ⟨(hs h).1, (hs h).2.1, (hs h).2.2, before_13 m c t h d13, before_14 m c t h d14⟩)
  iapply (body_run c (grid0.coords t) (mem t) (ins m c t) ⟨(dats m 0 c).before 10 t d10, (dats m 0 c).before 11 t d11, (dats m 0 c).before 12 t d12,
      (dats m 0 c).before 13 t d13, (dats m 0 c).before 14 t d14, (dats m 0 c).before 15 t d15, s.df, s.acc, s.da⟩
    (fun h => (start_iff t).mpr (by have := (first_iff t).mp h; omega))
    (fun h h' => by have h1 := (start_iff t).mp h; have h2 := (stop_iff t).mp h'; omega) Set.univ _)
  have hstep : step (k0_cond1 (grid0.coords t) = 1#1) (k0_cond2 (grid0.coords t) = 1#1) (k0_cond3 (grid0.coords t) = 1#1) (ins m c t)
      ⟨(dats m 0 c).before 10 t d10, (dats m 0 c).before 11 t d11, (dats m 0 c).before 12 t d12,
        (dats m 0 c).before 13 t d13, (dats m 0 c).before 14 t d14, (dats m 0 c).before 15 t d15, s.df, s.acc, s.da⟩
      = next m c t ⟨(dats m 0 c).before 10 t d10, (dats m 0 c).before 11 t d11, (dats m 0 c).before 12 t d12,
        (dats m 0 c).before 13 t d13, (dats m 0 c).before 14 t d14, (dats m 0 c).before 15 t d15, s.df, s.acc, s.da⟩ := by
    unfold next; congr 1 <;> simp only [first_iff, start_iff, stop_iff]
  rw [hstep, hn]
  isplitl [H0 H1 H2 H3 H4 H5 H6 H7 H8 H9 H10 H11 H12 H13 H14 H15 HS0 HS1 HS2]
  · unfold Mem.held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    iexact HS2
  iintro H
  ihave H' := (give_back m c t _ d10 rfl d13 d14 d15) $$ H
  icases H' with ⟨H0, H1, H2, H3, H4, H5, H6, H7, H8, H9, H10, H11, H12, H13, H14, H15, HS0, HS1, HS2⟩
  isplitl [HS0 HS1 HS2 Hg]
  · iexists (st m c (t.val + 1))
    isplitr
    · ipureintro; exact fun _ => ⟨rfl, rfl, rfl⟩
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-! ## The run -/

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem ΦA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = inv m c 0 from rfl, ΦA_eq]
  unfold inv
  iintro ⟨⟨⟨%a, HS0⟩, ⟨%b, HS1⟩, ⟨%d, HS2⟩⟩, Hg⟩
  iexists { st m c 0 with df := a, acc := b, da := d }
  isplitr
  · ipureintro; exact fun h => absurd rfl h
  isplitl [HS0]; · iexact HS0
  isplitl [HS1]; · iexact HS1
  isplitl [HS2]; · iexact HS2
  iexact Hg

theorem hout (c : Dev nD) : (dats m 0 c).Φ (Fin.last cfg0.N) ⊢ Pipeline.ΦA spec0 c := by
  rw [show (dats m 0 c).Φ (Fin.last cfg0.N) = inv m c (Fin.last cfg0.N).val from rfl, ΦA_eq]
  unfold inv
  iintro ⟨%s, %hs, HS0, HS1, HS2, Hg⟩
  isplitl [HS0 HS1 HS2]
  · isplitl [HS0]
    · iexists _; iexact HS0
    isplitl [HS1]
    · iexists _; iexact HS1
    iexists _; iexact HS2
  iexact Hg

-- the launch theorem's implicit arguments are found by unfolding plain definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

end Cert.Kernel4Ideal.Tok

end
-- ==== Proof.TokReal.lean ====
module

public import proofs.«01_k».proof.Proof.SguReal

@[expose] public section

set_option maxRecDepth 16384

noncomputable section

open Idealize.ShloMosaic

/-! The feed-forward sublayer's gradient over the real numbers, token by token. -/
namespace TokR

/-- The arguments: the rows and their gradient, the rows of shift, scale, gate and gain, and the three weights, one row a
    hidden unit. -/
structure Data where
  (H D : Fin 4096 → Fin 1024 → ℝ)
  (S C A N : Fin 1024 → ℝ)
  (Wg Wu Wd : Fin 2816 → Fin 1024 → ℝ)

/-- The logistic function. -/
def sg (x : ℝ) : ℝ := (1 + Real.exp (-x))⁻¹

variable (x : Data)

def ms (t : Fin 4096) : ℝ := (∑ d, x.H t d * x.H t d) / 1024 + SguR.eps
def rs (t : Fin 4096) : ℝ := (Real.sqrt (ms x t))⁻¹
def xh (t : Fin 4096) (d : Fin 1024) : ℝ := x.H t d * rs x t
def n (t : Fin 4096) (d : Fin 1024) : ℝ := xh x t d * x.N d
def y (t : Fin 4096) (d : Fin 1024) : ℝ := n x t d * (1 + x.C d) + x.S d
def g (t : Fin 4096) (f : Fin 2816) : ℝ := ∑ d, y x t d * x.Wg f d
def u (t : Fin 4096) (f : Fin 2816) : ℝ := ∑ d, y x t d * x.Wu f d
def fo (t : Fin 4096) (d : Fin 1024) : ℝ := ∑ f, g x t f * sg (g x t f) * u x t f * x.Wd f d
def df (t : Fin 4096) (d : Fin 1024) : ℝ := 1 / 2 * x.A d * x.D t d
def da (t : Fin 4096) (f : Fin 2816) : ℝ := ∑ d, df x t d * x.Wd f d
def du (t : Fin 4096) (f : Fin 2816) : ℝ := da x t f * (g x t f * sg (g x t f))
def dg (t : Fin 4096) (f : Fin 2816) : ℝ := da x t f * u x t f * (sg (g x t f) * (1 + g x t f * (1 - sg (g x t f))))
def dy (t : Fin 4096) (d : Fin 1024) : ℝ := ∑ f, (dg x t f * x.Wg f d + du x t f * x.Wu f d)
def dn (t : Fin 4096) (d : Fin 1024) : ℝ := dy x t d * (1 + x.C d)
def dxh (t : Fin 4096) (d : Fin 1024) : ℝ := dn x t d * x.N d
def dhin (t : Fin 4096) (d : Fin 1024) : ℝ :=
  x.D t d + rs x t * (dxh x t d - xh x t d * ((∑ d, dxh x t d * xh x t d) / 1024))
/-- The gradients of shift, scale, gate and gain. -/
def pS (d : Fin 1024) : ℝ := ∑ t, dy x t d
def pC (d : Fin 1024) : ℝ := ∑ t, dy x t d * n x t d
def pA (d : Fin 1024) : ℝ := ∑ t, 1 / 2 * (x.D t d * fo x t d)
def pN (d : Fin 1024) : ℝ := ∑ t, dn x t d * xh x t d

theorem ms_pos (t : Fin 4096) : 0 < ms x t :=
  add_pos_of_nonneg_of_pos (div_nonneg (Finset.sum_nonneg fun _ _ => mul_self_nonneg _) (by norm_num)) SguR.eps_pos

theorem rs_sq (t : Fin 4096) : rs x t / ms x t = rs x t * (rs x t * rs x t) := by
  have e : rs x t * rs x t = (ms x t)⁻¹ := by
    unfold rs
    rw [← mul_inv, Real.mul_self_sqrt (ms_pos x t).le]
  rw [e, div_eq_mul_inv]

/-- The gradient through the normalisation: what differentiating the mean of squares gives is the closed form. -/
theorem norm_grad (t : Fin 4096) (d : Fin 1024) :
    dxh x t d * rs x t + x.H t d * ((∑ d, x.H t d * dxh x t d) * (-(1 / 2) * (rs x t / ms x t)) / 1024)
        + (∑ d, x.H t d * dxh x t d) * (-(1 / 2) * (rs x t / ms x t)) / 1024 * x.H t d
      = rs x t * (dxh x t d - xh x t d * ((∑ d, dxh x t d * xh x t d) / 1024)) := by
  have h : ∑ d, dxh x t d * xh x t d = rs x t * ∑ d, x.H t d * dxh x t d := by
    rw [Finset.mul_sum]
    exact Finset.sum_congr rfl fun d _ => by unfold xh; ring
  rw [h, rs_sq]
  unfold xh
  ring

/-- The gradient of the gate's input, as the product rule gives it. -/
theorem dg_eq (t : Fin 4096) (f : Fin 2816) :
    da x t f * u x t f * sg (g x t f) + g x t f * (da x t f * u x t f) * (sg (g x t f) * (1 - sg (g x t f))) = dg x t f := by
  unfold dg; ring

/-! The operations at coerced reals. -/
theorem c1024_at : Ideal.ofBits .f32 1149239296#32 = ((1024 : ℝ) : EReal) := by
  simp [Ideal.ofBits, Ideal.ieee, -EReal.coe_mul]; norm_num
theorem neg_half_at : Ideal.ofBits .f32 3204448256#32 = ((-(1 / 2) : ℝ) : EReal) := by
  simp [Ideal.ofBits, Ideal.ieee, -EReal.coe_mul]; norm_num
theorem div_at (x y : ℝ) (h : y ≠ 0) : Ideal.div (x : EReal) (y : EReal) = ((x / y : ℝ) : EReal) := by
  rw [Ideal.div_coe h, ← EReal.coe_mul]; congr 1; ring
theorem div1024_at (x : ℝ) : Ideal.div (x : EReal) ((1024 : ℝ) : EReal) = ((x / 1024 : ℝ) : EReal) := div_at _ _ (by norm_num)
theorem rs_at (t : Fin 4096) : Ideal.rsqrt (((∑ d, x.H t d * x.H t d) / 1024 + SguR.eps : ℝ) : EReal) = (rs x t : EReal) :=
  SguR.rsqrt_at _ (ms_pos x t)
theorem sg_at (x : ℝ) : Ideal.logistic (x : EReal) = (sg x : EReal) := Ideal.logistic_coe x
theorem sg_div (x : ℝ) : Ideal.div 1 (1 + Ideal.exp (-(x : EReal))) = (sg x : EReal) := sg_at x

end TokR
-- ==== Proof.TokTile.lean ====
module

public import proofs.«01_k».proof.Proof.TokStep
public import proofs.«01_k».proof.Proof.TokReal
public import Idealize.ShloMosaic.Lib.Pointwise

@[expose] public section

set_option maxRecDepth 16384

noncomputable section

open Idealize.ShloMosaic Idealize.ShloMosaic.TcCoe Idealize.SL.Sem

/-! One grid point's values, when the blocks it reads hold real numbers. -/
namespace Cert.Kernel4Ideal.Tok

open Cert.Kernel4Ideal Cert.Kernel4Ideal.Gen
open SguR (sum_at half_at eps_at one_at)
open TokR

def row (j : Fin 4) (r : Fin 1024) : Fin 4096 := ⟨1024 * j.val + r.val, by omega⟩
def unit (k : Fin 11) (i : Fin 256) : Fin 2816 := ⟨256 * k.val + i.val, by omega⟩
def lo (r : Fin 512) : Fin 1024 := ⟨r.val, by omega⟩
def hi (r : Fin 512) : Fin 1024 := ⟨512 + r.val, by omega⟩
/-- The block of hidden units after `k`, or the last. -/
def nxt (k : Fin 11) : Fin 11 := ⟨min (k.val + 1) 10, by omega⟩

theorem halves (P : Fin 1024 → Prop) (h0 : ∀ r, P (lo r)) (h1 : ∀ r, P (hi r)) (r : Fin 1024) : P r := by
  by_cases h : r.val < 512
  · exact h0 ⟨r.val, h⟩
  · rw [show r = hi ⟨r.val - 512, by omega⟩ from Fin.ext (by simp only [hi]; omega)]
    exact h1 _

/-! ### Halves -/

section
variable {e : EltTy}
theorem topW_emb (r : Fin 512) (d : Fin 1024) : topW.emb (ix2 r d : S512x1024.Idx) = ix2 (lo r) d :=
  topW.emb_eq_of_coords _ _ fun a => by
    match a with
    | ⟨0, _⟩ => show r.val = 0 + 1 * r.val; omega
    | ⟨1, _⟩ => show d.val = 0 + 1 * d.val; omega
theorem botW_emb (r : Fin 512) (d : Fin 1024) : botW.emb (ix2 r d : S512x1024.Idx) = ix2 (hi r) d :=
  botW.emb_eq_of_coords _ _ fun a => by
    match a with
    | ⟨0, _⟩ => show 512 + r.val = 512 + 1 * r.val; omega
    | ⟨1, _⟩ => show d.val = 0 + 1 * d.val; omega
theorem topR_emb (r : Fin 512) (i : Fin 256) : topR.emb (ix2 r i : S512x256.Idx) = ix2 (lo r) i :=
  topR.emb_eq_of_coords _ _ fun a => by
    match a with
    | ⟨0, _⟩ => show r.val = 0 + 1 * r.val; omega
    | ⟨1, _⟩ => show i.val = 0 + 1 * i.val; omega
theorem botR_emb (r : Fin 512) (i : Fin 256) : botR.emb (ix2 r i : S512x256.Idx) = ix2 (hi r) i :=
  botR.emb_eq_of_coords _ _ fun a => by
    match a with
    | ⟨0, _⟩ => show 512 + r.val = 512 + 1 * r.val; omega
    | ⟨1, _⟩ => show i.val = 0 + 1 * i.val; omega

theorem ld_topW (X : S1024x1024.Idx → Elt Ideal e) (r : Fin 512) (d : Fin 1024) : View.ld X topW (ix2 r d : S512x1024.Idx) = X (ix2 (lo r) d) := congrArg X (topW_emb r d)
theorem ld_botW (X : S1024x1024.Idx → Elt Ideal e) (r : Fin 512) (d : Fin 1024) : View.ld X botW (ix2 r d : S512x1024.Idx) = X (ix2 (hi r) d) := congrArg X (botW_emb r d)
theorem ld_topR (X : S1024x256.Idx → Elt Ideal e) (r : Fin 512) (i : Fin 256) : View.ld X topR (ix2 r i : S512x256.Idx) = X (ix2 (lo r) i) := congrArg X (topR_emb r i)
theorem ld_botR (X : S1024x256.Idx → Elt Ideal e) (r : Fin 512) (i : Fin 256) : View.ld X botR (ix2 r i : S512x256.Idx) = X (ix2 (hi r) i) := congrArg X (botR_emb r i)

theorem stackW_hi (a b : S512x1024.Idx → Elt Ideal e) (r : Fin 512) (d : Fin 1024) : stackW (F := Ideal) a b (ix2 (hi r) d) = b (ix2 r d) :=
  (congrArg _ (botW_emb r d)).symm.trans (botW.overlay_emb _ _ _)
theorem stackR_hi (a b : S512x256.Idx → Elt Ideal e) (r : Fin 512) (i : Fin 256) : stackR (F := Ideal) a b (ix2 (hi r) i) = b (ix2 r i) :=
  (congrArg _ (botR_emb r i)).symm.trans (botR.overlay_emb _ _ _)
theorem stackW_lo (a b : S512x1024.Idx → Elt Ideal e) (r : Fin 512) (d : Fin 1024) : stackW (F := Ideal) a b (ix2 (lo r) d) = a (ix2 r d) := by
  refine (botW.overlay_of_not_mem _ _ ?_).trans ((congrArg _ (topW_emb r d)).symm.trans (topW.overlay_emb _ _ _))
  rw [LoadRect.mem_set]
  intro h
  obtain ⟨k, hk, e⟩ := h 0
  have e : r.val = 512 + 1 * k := e
  omega
theorem stackR_lo (a b : S512x256.Idx → Elt Ideal e) (r : Fin 512) (i : Fin 256) : stackR (F := Ideal) a b (ix2 (lo r) i) = a (ix2 r i) := by
  refine (botR.overlay_of_not_mem _ _ ?_).trans ((congrArg _ (topR_emb r i)).symm.trans (topR.overlay_emb _ _ _))
  rw [LoadRect.mem_set]
  intro h
  obtain ⟨k, hk, e⟩ := h 0
  have e : r.val = 512 + 1 * k := e
  omega
end

/-! ### Rows of the parameters' gradient -/

section
variable (b : ℕ) (hb : b < 8) (inb : ∀ a, (![b, 0] : Fin 2 → ℕ) a + S1x1024.size a ≤ S8x1024.size a)
  (f : (S1x1024.Idx → Elt Ideal .f32) → S1x1024.Idx → Elt Ideal .f32) (X : S8x1024.Idx → Elt Ideal .f32)

theorem row_emb (d : Fin 1024) : (Rect.unit (s := S8x1024) ![b, 0] S1x1024.size inb).emb (ix2 0 d : S1x1024.Idx) = ix2 ⟨b, hb⟩ d :=
  (Rect.unit (s := S8x1024) ![b, 0] S1x1024.size inb).emb_eq_of_coords _ _ fun a => by
    match a with
    | ⟨0, _⟩ => show b = b + 1 * 0; omega
    | ⟨1, _⟩ => show d.val = 0 + 1 * d.val; omega
theorem ld_row (d : Fin 1024) : View.ld X (Rect.unit (s := S8x1024) ![b, 0] S1x1024.size inb) (ix2 0 d : S1x1024.Idx) = X (ix2 ⟨b, hb⟩ d) :=
  congrArg X (row_emb b hb inb d)
theorem upd_row (d : Fin 1024) : upd (F := Ideal) (e := .f32) (Rect.unit (s := S8x1024) ![b, 0] S1x1024.size inb) f X (ix2 ⟨b, hb⟩ d)
    = f (View.ld X (Rect.unit (s := S8x1024) ![b, 0] S1x1024.size inb)) (ix2 0 d) :=
  (congrArg _ (row_emb b hb inb d)).symm.trans (Rect.overlay_emb _ _ _ _)
theorem upd_other (b' : Fin 8) (hne : b'.val ≠ b) (d : Fin 1024) :
    upd (F := Ideal) (e := .f32) (Rect.unit (s := S8x1024) ![b, 0] S1x1024.size inb) f X (ix2 b' d) = X (ix2 b' d) := by
  refine Rect.overlay_of_not_mem _ _ _ ?_
  rw [LoadRect.mem_set]
  intro h
  obtain ⟨k, hk, e⟩ := h 0
  have hk : k < 1 := hk
  have e : b'.val = b + 1 * k := e
  omega
end

/-! ### The blocks -/

/-- The blocks of row block `j` and block of hidden units `k` hold the real numbers `a`. -/
structure Holds (x : Ins Ideal) (a : Data) (j : Fin 4) (k : Fin 11) : Prop where
  hD : ∀ r d, x.dh (ix2 r d) = (a.D (row j r) d : EReal)
  hH : ∀ r d, x.h (ix2 r d) = (a.H (row j r) d : EReal)
  hS : ∀ d, x.par (ix2 0 d) = (a.S d : EReal)
  hC : ∀ d, x.par (ix2 1 d) = (a.C d : EReal)
  hA : ∀ d, x.par (ix2 2 d) = (a.A d : EReal)
  hN : ∀ d, x.par (ix2 3 d) = (a.N d : EReal)
  hf : ∀ r d, x.fo (ix2 r d) = (fo a (row j r) d : EReal)
  hg : ∀ r i, x.g (ix2 r i) = (g a (row j r) (unit k i) : EReal)
  hu : ∀ r i, x.u (ix2 r i) = (u a (row j r) (unit k i) : EReal)
  hwg : ∀ i d, x.wg (ix3 0 i d) = (a.Wg (unit k i) d : EReal)
  hwu : ∀ i d, x.wu (ix3 0 i d) = (a.Wu (unit k i) d : EReal)
  hwd : ∀ i d, x.wd (ix3 0 i d) = (a.Wd (unit k i) d : EReal)
  hwn : ∀ i d, x.wdn (ix3 0 i d) = (a.Wd (unit (nxt k) i) d : EReal)

variable {x : Ins Ideal} {a : Data} {j : Fin 4} {k : Fin 11} (h : Holds x a j k)
include h

theorem y_at (r d : Fin 1024) : k0_pay21 (k0_pay5 x.par) x.h (k0_pay10 x.h) k0_pay11 (ix2 r d) = (y a (row j r) d : EReal) := by
  unfold_payloads; pointwise
  simp only [h.hH, h.hS, h.hC, h.hN, ← EReal.coe_mul, sum_at, c1024_at, div1024_at, eps_at, one_at, ← EReal.coe_add, rs_at]
  rfl

theorem dfb_at (r d : Fin 1024) : k0_pay8 x.dh x.par (ix2 r d) = (df a (row j r) d : EReal) := by
  unfold_payloads; pointwise
  simp only [h.hA, h.hD, half_at, ← EReal.coe_mul]
  rfl
theorem df_at (r d : Fin 1024) : k0_pay7 x.dh x.par (ix2 r d) = (df a (row j r) d : EReal) := dfb_at h r d

theorem da_first (r : Fin 1024) (i : Fin 256) : k0_pay23 (k0_pay6 x.dh x.par) x.wd (ix2 r i) = (da a (row j r) (unit k i) : EReal) := by
  unfold_payloads; pointwise
  simp only [h.hA, h.hD, h.hwd, half_at, ← EReal.coe_mul, sum_at]
  rfl

theorem da_next (X : Vec Ideal S1024x1024 .bf16) (hX : ∀ r d, X (ix2 r d) = (df a (row j r) d : EReal)) (r : Fin 1024) (i : Fin 256) :
    stackR (F := Ideal) (e := .f32) (k0_pay24 (View.ld X topW) x.wdn) (k0_pay33 (View.ld X botW) x.wdn) (ix2 r i) = (da a (row j r) (unit (nxt k) i) : EReal) := by
  refine halves (fun r => stackR (F := Ideal) (e := .f32) _ _ (ix2 r i) = (da a (row j r) (unit (nxt k) i) : EReal)) (fun r => ?_) (fun r => ?_) r
  · rw [stackR_lo]
    unfold_payloads; pointwise
    simp only [ld_topW, hX, h.hwn, ← EReal.coe_mul, sum_at]
    rfl
  · rw [stackR_hi]
    unfold_payloads; pointwise
    simp only [ld_botW, hX, h.hwn, ← EReal.coe_mul, sum_at]
    rfl

section
variable (Da : Vec Ideal S1024x256 .f32) (hDa : ∀ r i, Da (ix2 r i) = (da a (row j r) (unit k i) : EReal))
include hDa

theorem dg_lo (r : Fin 512) (i : Fin 256) : k0_pay28 (View.ld Da topR) (View.ld x.g topR) (View.ld x.u topR) (ix2 r i) = (dg a (row j (lo r)) (unit k i) : EReal) := by
  unfold_payloads; pointwise
  simp only [ld_topR, hDa, h.hg, h.hu, sg_at, one_at, ← EReal.coe_mul, ← EReal.coe_sub, ← EReal.coe_add]
  rfl
theorem dg_hi (r : Fin 512) (i : Fin 256) : k0_pay37 (View.ld Da botR) (View.ld x.g botR) (View.ld x.u botR) (ix2 r i) = (dg a (row j (hi r)) (unit k i) : EReal) := by
  unfold_payloads; pointwise
  simp only [ld_botR, hDa, h.hg, h.hu, sg_at, one_at, ← EReal.coe_mul, ← EReal.coe_sub, ← EReal.coe_add]
  rfl
theorem du_lo (r : Fin 512) (i : Fin 256) : k0_pay27 (View.ld Da topR) (View.ld x.g topR) (ix2 r i) = (du a (row j (lo r)) (unit k i) : EReal) := by
  unfold_payloads; pointwise
  simp only [ld_topR, hDa, h.hg, sg_at, ← EReal.coe_mul]
  rfl
theorem du_hi (r : Fin 512) (i : Fin 256) : k0_pay36 (View.ld Da botR) (View.ld x.g botR) (ix2 r i) = (du a (row j (hi r)) (unit k i) : EReal) := by
  unfold_payloads; pointwise
  simp only [ld_botR, hDa, h.hg, sg_at, ← EReal.coe_mul]
  rfl

theorem dg_at (r : Fin 1024) (i : Fin 256) :
    stackR (F := Ideal) (e := .bf16) (dgTop (View.ld Da topR) (View.ld x.g topR) (View.ld x.u topR)) (k0_pay38 (View.ld Da botR) (View.ld x.g botR) (View.ld x.u botR)) (ix2 r i)
      = (dg a (row j r) (unit k i) : EReal) := by
  refine halves (fun r => stackR (F := Ideal) (e := .bf16) _ _ (ix2 r i) = (dg a (row j r) (unit k i) : EReal)) (fun r => ?_) (fun r => ?_) r
  · rw [stackR_lo, ← dg_lo h Da hDa]
    unfold dgTop k0_pay30 k0_pay29; pointwise
  · rw [stackR_hi, ← dg_hi h Da hDa]
    unfold k0_pay38; pointwise
theorem du_at (r : Fin 1024) (i : Fin 256) :
    stackR (F := Ideal) (e := .bf16) (duTop (View.ld Da topR) (View.ld x.g topR)) (k0_pay39 (View.ld Da botR) (View.ld x.g botR)) (ix2 r i)
      = (du a (row j r) (unit k i) : EReal) := by
  refine halves (fun r => stackR (F := Ideal) (e := .bf16) _ _ (ix2 r i) = (du a (row j r) (unit k i) : EReal)) (fun r => ?_) (fun r => ?_) r
  · rw [stackR_lo, ← du_lo h Da hDa]
    unfold duTop k0_pay31; pointwise
  · rw [stackR_hi, ← du_hi h Da hDa]
    unfold k0_pay39; pointwise

/-- One block of hidden units' part of the gradient of the normalised rows. -/
theorem acc_at (P : Vec Ideal S1024x1024 .f32) (r d : Fin 1024) (p : ℝ) (hP : P (ix2 r d) = (p : EReal)) :
    stackW (F := Ideal) (e := .f32) (k0_pay32 (k0_pay27 (View.ld Da topR) (View.ld x.g topR)) (k0_pay28 (View.ld Da topR) (View.ld x.g topR) (View.ld x.u topR)) (View.ld P topW) x.wg x.wu)
        (k0_pay40 (View.ld Da botR) (View.ld x.g botR) (View.ld x.u botR) (View.ld P botW) x.wg x.wu) (ix2 r d)
      = ((p + ∑ i, (dg a (row j r) (unit k i) * a.Wg (unit k i) d + du a (row j r) (unit k i) * a.Wu (unit k i) d) : ℝ) : EReal) := by
  revert r
  refine halves _ (fun r hP => ?_) (fun r hP => ?_)
  · rw [stackW_lo]
    unfold k0_pay32 k0_pay29; pointwise
    simp only [ld_topW, hP, dg_lo h Da hDa, du_lo h Da hDa, h.hwg, h.hwu, ← EReal.coe_mul, sum_at, ← EReal.coe_add, Finset.sum_add_distrib]
    exact (congrArg (· + _) hP).trans (EReal.coe_add _ _).symm
  · rw [stackW_hi]
    unfold k0_pay40; pointwise
    simp only [ld_botW, hP, dg_hi h Da hDa, du_hi h Da hDa, h.hwg, h.hwu, ← EReal.coe_mul, sum_at, ← EReal.coe_add, Finset.sum_add_distrib]
    exact (congrArg (· + _) hP).trans (EReal.coe_add _ _).symm
end

/-! ### The last block of a row -/

section
variable (Y : Vec Ideal S1024x1024 .f32) (hY : ∀ r d, Y (ix2 r d) = (dy a (row j r) d : EReal))
include hY

theorem dhin_at (r d : Fin 1024) : k0_pay1 (k0_pay16 Y x.h x.par) x.dh (ix2 r d) = (dhin a (row j r) d : EReal) := by
  unfold_payloads; pointwise
  simp only [hY, h.hH, h.hC, h.hN, h.hD, ← EReal.coe_mul, sum_at, c1024_at, div1024_at, eps_at, one_at, ← EReal.coe_add, ← EReal.coe_sub, rs_at]
  rfl
omit h in
theorem shift_at (v : Vec Ideal S1x1024 .f32) (d : Fin 1024) : k0_pay2 (k0_pay17 Y) v (ix2 0 d) = v (ix2 0 d) + ((∑ r, dy a (row j r) d : ℝ) : EReal) := by
  unfold_payloads; pointwise
  simp only [hY, sum_at]
theorem scale_at (v : Vec Ideal S1x1024 .f32) (d : Fin 1024) : k0_pay3 (k0_pay18 Y x.h x.par) v (ix2 0 d) = v (ix2 0 d) + ((∑ r, dy a (row j r) d * n a (row j r) d : ℝ) : EReal) := by
  unfold_payloads; pointwise
  simp only [hY, h.hH, h.hN, ← EReal.coe_mul, sum_at, c1024_at, div1024_at, eps_at, ← EReal.coe_add, rs_at]
  rfl
theorem gain_at (v : Vec Ideal S1x1024 .f32) (d : Fin 1024) : k0_pay4 (k0_pay19 Y x.h x.par) v (ix2 0 d) = v (ix2 0 d) + ((∑ r, dn a (row j r) d * xh a (row j r) d : ℝ) : EReal) := by
  unfold_payloads; pointwise
  simp only [hY, h.hH, h.hC, ← EReal.coe_mul, sum_at, c1024_at, div1024_at, eps_at, one_at, ← EReal.coe_add, rs_at]
  rfl
end

theorem gate_at (v : Vec Ideal S1x1024 .f32) (d : Fin 1024) : k0_pay9 x.dh v x.fo (ix2 0 d)
    = v (ix2 0 d) + ((∑ r, 1 / 2 * (a.D (row j r) d * fo a (row j r) d) : ℝ) : EReal) := by
  unfold_payloads; pointwise
  simp only [h.hD, h.hf, half_at, ← EReal.coe_mul, sum_at, Finset.mul_sum]

omit h in
theorem fill_acc (q : S1024x1024.Idx) : k0_pay22 (F := Ideal) q = 0 := by unfold_payloads; pointwise
omit h in
theorem fill_par (q : S8x1024.Idx) : k0_pay20 (F := Ideal) q = 0 := by unfold_payloads; pointwise

end Cert.Kernel4Ideal.Tok
-- ==== Proof.TokState.lean ====
module

public import proofs.«01_k».proof.Proof.TokFrame
public import proofs.«01_k».proof.Proof.TokTile
public import proofs.«01_k».proof.Proof.FfnArr

@[expose] public section

set_option maxRecDepth 16384

noncomputable section

open Idealize.ShloMosaic Idealize.ShloMosaic.TcCoe Idealize.SL.Sem

/-! What the buffers hold after each point, when the arrays hold real numbers. -/
namespace Cert.Kernel4Ideal.Tok

open Cert.Kernel4Ideal Cert.Kernel4Ideal.Gen
open TokR

/-- The part of the gradient of a normalised row that the first `k` blocks of hidden units give. -/
def part (a : Data) (t : Fin 4096) (d : Fin 1024) (k : ℕ) : ℝ :=
  ∑ k' ∈ Finset.range k, ∑ i : Fin 256, Blocked.ext (fun f => dg a t f * a.Wg f d + du a t f * a.Wu f d) (256 * k' + i.val)

theorem part_all (a : Data) (t : Fin 4096) (d : Fin 1024) : part a t d 11 = dy a t d :=
  Blocked.sum_blocks 256 10 2816 rfl (fun f => dg a t f * a.Wg f d + du a t f * a.Wu f d) (fun k _ => part a t d (k + 1))
    (by unfold part; rw [Finset.sum_range_one]; simp) fun k hk => by unfold part; rw [Finset.sum_range_succ]

theorem ext_unit (g : Fin 2816 → ℝ) (k : Fin 11) (i : Fin 256) : Blocked.ext g (256 * k.val + i.val) = g (unit k i) :=
  dif_pos (show 256 * k.val + i.val < 2816 by omega)

theorem part_succ (a : Data) (t : Fin 4096) (d : Fin 1024) (k : Fin 11) :
    part a t d (k.val + 1) = part a t d k.val + ∑ i, (dg a t (unit k i) * a.Wg (unit k i) d + du a t (unit k i) * a.Wu (unit k i) d) := by
  unfold part
  rw [Finset.sum_range_succ]
  exact congrArg _ (Finset.sum_congr rfl fun i _ => ext_unit _ k i)

/-- A sum over the rows of the first `n` row blocks. -/
def upto (g : Fin 4096 → ℝ) (n : ℕ) : ℝ := ∑ j ∈ Finset.range n, ∑ r : Fin 1024, Blocked.ext g (1024 * j + r.val)

theorem upto_all (g : Fin 4096 → ℝ) : upto g 4 = ∑ t, g t :=
  Blocked.sum_blocks 1024 3 4096 rfl g (fun k _ => upto g (k + 1))
    (by unfold upto; rw [Finset.sum_range_one]; simp) fun k hk => by unfold upto; rw [Finset.sum_range_succ]

theorem upto_succ (g : Fin 4096 → ℝ) (j : Fin 4) : upto g (j.val + 1) = upto g j.val + ∑ r, g (row j r) := by
  unfold upto
  rw [Finset.sum_range_succ]
  exact congrArg _ (Finset.sum_congr rfl fun r _ => dif_pos (show 1024 * j.val + r.val < 4096 by omega))

/-- What the buffers hold after `k` points of row block `j`. -/
structure Row (a : Data) (j : Fin 4) (k : ℕ) (s : Outs Ideal) : Prop where
  y : ∀ r d, s.y (ix2 r d) = (y a (row j r) d : EReal)
  dfb : ∀ r d, s.dfb (ix2 r d) = (df a (row j r) d : EReal)
  df : ∀ r d, s.df (ix2 r d) = (df a (row j r) d : EReal)
  acc : ∀ r d, s.acc (ix2 r d) = (part a (row j r) d k : EReal)
  da : ∀ (hk : k < 11) r i, s.da (ix2 r i) = (da a (row j r) (unit ⟨k, hk⟩ i) : EReal)

/-- What a point adds to a row of the parameters' gradient, after `n` and `n'` row blocks. -/
structure Par (a : Data) (n n' : ℕ) (X : Vec Ideal S8x1024 .f32) : Prop where
  shift : ∀ d, X (ix2 0 d) = (upto (fun t => dy a t d) n : EReal)
  scale : ∀ d, X (ix2 1 d) = (upto (fun t => dy a t d * TokR.n a t d) n : EReal)
  gate : ∀ d, X (ix2 2 d) = (upto (fun t => 1 / 2 * (a.D t d * fo a t d)) n' : EReal)
  gain : ∀ d, X (ix2 3 d) = (upto (fun t => dn a t d * xh a t d) n : EReal)
  rest : ∀ (b : Fin 8) (hb : 4 ≤ b.val) d, X (ix2 b d) = 0

section
variable {x : Ins Ideal} {a : Data} {j : Fin 4} {k : Fin 11} (h : Holds x a j k) {s : Outs Ideal} {p q r : Prop} [Decidable p] [Decidable q] [Decidable r]
include h

/-- The gradient of the activation that a point works with. -/
theorem da_used (hq : q → k.val = 0) (hs : ¬ q → Row a j k.val s) (l : Fin 1024) (i : Fin 256) :
    (if q then k0_pay23 (k0_pay6 x.dh x.par) x.wd else s.da) (ix2 l i) = (da a (row j l) (unit k i) : EReal) := by
  by_cases hc : q
  · rw [if_pos hc]; exact da_first h l i
  · rw [if_neg hc]; exact (hs hc).da k.isLt l i

theorem df_used (hs : ¬ q → Row a j k.val s) (l d : Fin 1024) :
    (if q then k0_pay7 x.dh x.par else s.df) (ix2 l d) = (df a (row j l) d : EReal) := by
  by_cases hc : q
  · rw [if_pos hc]; exact df_at h l d
  · rw [if_neg hc]; exact (hs hc).df l d

omit h in
theorem acc_used (hq : q → k.val = 0) (hs : ¬ q → Row a j k.val s) (l d : Fin 1024) :
    (if q then k0_pay22 (F := Ideal) else s.acc) (ix2 l d) = (part a (row j l) d k.val : EReal) := by
  by_cases hc : q
  · rw [if_pos hc, hq hc, fill_acc]
    unfold part
    simp
  · rw [if_neg hc]; exact (hs hc).acc l d

theorem row_step (hq : q → k.val = 0) (hs : ¬ q → Row a j k.val s) : Row a j (k.val + 1) (step p q r x s) where
  y l d := by
    show (if q then k0_pay21 (k0_pay5 x.par) x.h (k0_pay10 x.h) k0_pay11 else s.y) (ix2 l d) = _
    by_cases hc : q
    · rw [if_pos hc]; exact y_at h l d
    · rw [if_neg hc]; exact (hs hc).y l d
  dfb l d := by
    show (if q then k0_pay8 x.dh x.par else s.dfb) (ix2 l d) = _
    by_cases hc : q
    · rw [if_pos hc]; exact dfb_at h l d
    · rw [if_neg hc]; exact (hs hc).dfb l d
  df l d := df_used h hs l d
  acc l d := by
    rw [part_succ]
    exact acc_at h _ (da_used h hq hs) _ l d _ (acc_used hq hs l d)
  da hk l i := by
    rw [show (⟨k.val + 1, hk⟩ : Fin 11) = nxt k from Fin.ext (by simp only [nxt]; omega)]
    exact da_next h _ (df_used h hs) l i

theorem step_dg (hq : q → k.val = 0) (hs : ¬ q → Row a j k.val s) (l : Fin 1024) (i : Fin 256) :
    (step p q r x s).dg (ix2 l i) = (dg a (row j l) (unit k i) : EReal) := dg_at h _ (da_used h hq hs) l i
theorem step_du (hq : q → k.val = 0) (hs : ¬ q → Row a j k.val s) (l : Fin 1024) (i : Fin 256) :
    (step p q r x s).du (ix2 l i) = (du a (row j l) (unit k i) : EReal) := du_at h _ (da_used h hq hs) l i

theorem acc_last (hk : k.val = 10) (hq : q → k.val = 0) (hs : ¬ q → Row a j k.val s) (l d : Fin 1024) :
    (step p q r x s).acc (ix2 l d) = (dy a (row j l) d : EReal) := by
  rw [(row_step h hq hs).acc l d, hk, part_all]

theorem step_dhin (hr : r) (hk : k.val = 10) (hq : q → k.val = 0) (hs : ¬ q → Row a j k.val s) (l d : Fin 1024) :
    (step p q r x s).dhin (ix2 l d) = (dhin a (row j l) d : EReal) := by
  show (if r then k0_pay1 (k0_pay16 (step p q r x s).acc x.h x.par) x.dh else s.dhin) (ix2 l d) = _
  rw [if_pos hr]
  exact dhin_at h _ (acc_last h hk hq hs) l d

/-- The parameters' gradient at the first point of a row of blocks. -/
theorem par_gate {n : ℕ} {X : Vec Ideal S8x1024 .f32} (hX : Par a n j.val X) :
    Par a n (j.val + 1) (upd (F := Ideal) (e := .f32) row2 (fun v => k0_pay9 x.dh v x.fo) X) where
  shift d := (upd_other 2 _ _ X 0 (by decide) d).trans (hX.shift d)
  scale d := (upd_other 2 _ _ X 1 (by decide) d).trans (hX.scale d)
  gain d := (upd_other 2 _ _ X 3 (by decide) d).trans (hX.gain d)
  rest b hb d := (upd_other 2 _ _ X b (by omega) d).trans (hX.rest b hb d)
  gate d := by
    refine (upd_row 2 (by decide) _ _ X d).trans ((gate_at h _ d).trans ?_)
    rw [ld_row 2 (by decide), upto_succ, EReal.coe_add]
    exact congrArg (· + _) (hX.gate d)

/-- The parameters' gradient at the last point of a row of blocks. -/
theorem par_rest {n : ℕ} {X : Vec Ideal S8x1024 .f32} (Y : Vec Ideal S1024x1024 .f32) (hY : ∀ r d, Y (ix2 r d) = (dy a (row j r) d : EReal))
    (hX : Par a j.val n X) :
    Par a (j.val + 1) n (upd (F := Ideal) (e := .f32) row3 (fun v => k0_pay4 (k0_pay19 Y x.h x.par) v)
      (upd (F := Ideal) (e := .f32) row1 (fun v => k0_pay3 (k0_pay18 Y x.h x.par) v) (upd (F := Ideal) (e := .f32) row0 (fun v => k0_pay2 (k0_pay17 Y) v) X))) where
  shift d := by
    refine (upd_other 3 _ _ _ 0 (by decide) d).trans ((upd_other 1 _ _ _ 0 (by decide) d).trans ((upd_row 0 (by decide) _ _ X d).trans
      ((shift_at Y hY _ d).trans ?_)))
    rw [ld_row 0 (by decide), upto_succ, EReal.coe_add]
    exact congrArg (· + _) (hX.shift d)
  scale d := by
    refine (upd_other 3 _ _ _ 1 (by decide) d).trans ((upd_row 1 (by decide) _ _ _ d).trans ((scale_at h Y hY _ d).trans ?_))
    rw [ld_row 1 (by decide), upto_succ, EReal.coe_add]
    exact congrArg (· + _) ((upd_other 0 _ _ X 1 (by decide) d).trans (hX.scale d))
  gain d := by
    refine (upd_row 3 (by decide) _ _ _ d).trans ((gain_at h Y hY _ d).trans ?_)
    rw [ld_row 3 (by decide), upto_succ, EReal.coe_add]
    exact congrArg (· + _) ((upd_other 1 _ _ _ 3 (by decide) d).trans ((upd_other 0 _ _ X 3 (by decide) d).trans (hX.gain d)))
  gate d := (upd_other 3 _ _ _ 2 (by decide) d).trans ((upd_other 1 _ _ _ 2 (by decide) d).trans ((upd_other 0 _ _ X 2 (by decide) d).trans (hX.gate d)))
  rest b hb d := (upd_other 3 _ _ _ b (by omega) d).trans ((upd_other 1 _ _ _ b (by omega) d).trans ((upd_other 0 _ _ X b (by omega) d).trans (hX.rest b hb d)))

omit h in
theorem par_zero : Par a 0 0 (k0_pay20 (F := Ideal)) where
  shift d := by rw [fill_par]; simp [upto]
  scale d := by rw [fill_par]; simp [upto]
  gate d := by rw [fill_par]; simp [upto]
  gain d := by rw [fill_par]; simp [upto]
  rest b hb d := fill_par _

/-- The parameters' gradient at a first point, a last point, and one in between. -/
theorem par_first (hq : q) (hr : ¬ r) {n : ℕ} (hX : Par a n j.val (if p then k0_pay20 (F := Ideal) else s.dpar)) : Par a n (j.val + 1) (step p q r x s).dpar := by
  have e : (step p q r x s).dpar = upd (F := Ideal) (e := .f32) row2 (fun v => k0_pay9 x.dh v x.fo) (if p then k0_pay20 (F := Ideal) else s.dpar) := by
    simp only [step, if_pos hq, if_neg hr]
  rw [e]
  exact par_gate h hX
omit h in
theorem par_middle (hp : ¬ p) (hq : ¬ q) (hr : ¬ r) : (step p q r x s).dpar = s.dpar := by
  simp only [step, if_neg hp, if_neg hq, if_neg hr]
theorem par_last (hp : ¬ p) (hq : ¬ q) (hr : r) (hk : k.val = 10) (hs : Row a j k.val s) {n : ℕ} (hX : Par a j.val n s.dpar) :
    Par a (j.val + 1) n (step p q r x s).dpar := by
  have e : (step p q r x s).dpar = upd (F := Ideal) (e := .f32) row3 (fun v => k0_pay4 (k0_pay19 (step p q r x s).acc x.h x.par) v)
      (upd (F := Ideal) (e := .f32) row1 (fun v => k0_pay3 (k0_pay18 (step p q r x s).acc x.h x.par) v)
        (upd (F := Ideal) (e := .f32) row0 (fun v => k0_pay2 (k0_pay17 (step p q r x s).acc) v) s.dpar)) := by
    simp only [step, if_neg hp, if_neg hq, if_pos hr]
  rw [e]
  exact par_rest h _ (acc_last h hk (fun c => absurd c hq) fun _ => hs) hX
end

/-! ### Along the grid -/

/-- The point of row block `j` and block of hidden units `k`. -/
def pt (j : Fin 4) (k : Fin 11) : Fin cfg0.N := ⟨11 * j.val + k.val, lt_of_lt_of_eq (b := 44) (by omega) (by decide)⟩
theorem pt_val (j : Fin 4) (k : Fin 11) : (pt j k).val = 11 * j.val + k.val := rfl
theorem pt_start (j : Fin 4) (k : Fin 11) : (pt j k).val % 11 = 0 ↔ k.val = 0 := by rw [pt_val]; omega
theorem pt_stop (j : Fin 4) (k : Fin 11) : (pt j k).val % 11 = 10 ↔ k.val = 10 := by rw [pt_val]; omega
theorem pt_first (j : Fin 4) (k : Fin 11) : (pt j k).val % 44 = 0 ↔ j.val = 0 ∧ k.val = 0 := by rw [pt_val]; omega

variable (m : (ℓ : Loc nD τ sig) → Buf (Elt Ideal) ℓ) (c : Dev nD) {a : Data} (h : ∀ j k, Holds (ins m c (pt j k)) a j k)
include h

theorem row_after (j : Fin 4) : ∀ (k : ℕ) (hk : k < 11), Row a j (k + 1) (st m c ((pt j ⟨k, hk⟩).val + 1))
  | 0, hk => by
    rw [st_succ]
    exact row_step (h j ⟨0, hk⟩) (fun _ => rfl) fun hq => absurd ((pt_start j ⟨0, hk⟩).mpr rfl) hq
  | k + 1, hk => by
    rw [st_succ]
    exact row_step (h j ⟨k + 1, hk⟩) (fun hq => (pt_start j ⟨k + 1, hk⟩).mp hq) fun _ => row_after j k (by omega)

/-- What a point finds, unless it starts a row of blocks. -/
theorem row_before (j : Fin 4) (k : Fin 11) (hk : ¬ (pt j k).val % 11 = 0) : Row a j k.val (st m c (pt j k).val) := by
  obtain ⟨k, hlt⟩ := k
  match k, hlt, hk with
  | 0, hlt, hk => exact absurd ((pt_start j ⟨0, hlt⟩).mpr rfl) hk
  | k + 1, hlt, _ => exact row_after m c h j k (by omega)

theorem st_dg (j : Fin 4) (k : Fin 11) (l : Fin 1024) (i : Fin 256) : (st m c ((pt j k).val + 1)).dg (ix2 l i) = (dg a (row j l) (unit k i) : EReal) := by
  rw [st_succ]
  exact step_dg (h j k) (pt_start j k).mp (row_before m c h j k) l i
theorem st_du (j : Fin 4) (k : Fin 11) (l : Fin 1024) (i : Fin 256) : (st m c ((pt j k).val + 1)).du (ix2 l i) = (du a (row j l) (unit k i) : EReal) := by
  rw [st_succ]
  exact step_du (h j k) (pt_start j k).mp (row_before m c h j k) l i
theorem st_dhin (j : Fin 4) (l d : Fin 1024) : (st m c ((pt j 10).val + 1)).dhin (ix2 l d) = (dhin a (row j l) d : EReal) := by
  rw [st_succ]
  exact step_dhin (h j 10) ((pt_stop j 10).mpr rfl) rfl (pt_start j 10).mp (row_before m c h j 10) l d

theorem par_after : ∀ (j : ℕ) (hj : j < 4) (k : ℕ) (hk : k < 11), Par a (if k = 10 then j + 1 else j) (j + 1) (st m c ((pt ⟨j, hj⟩ ⟨k, hk⟩).val + 1)).dpar
  | j, hj, 0, hk => by
    rw [st_succ, if_neg (by decide)]
    refine par_first (h ⟨j, hj⟩ ⟨0, hk⟩) ((pt_start _ _).mpr rfl) (fun hr => absurd ((pt_stop ⟨j, hj⟩ ⟨0, hk⟩).mp hr) (show ¬ (0 : ℕ) = 10 by decide)) ?_
    match j, hj with
    | 0, hj => rw [if_pos ((pt_first ⟨0, hj⟩ ⟨0, hk⟩).mpr ⟨rfl, rfl⟩)]; exact par_zero
    | j + 1, hj =>
      rw [if_neg fun hp => absurd ((pt_first ⟨j + 1, hj⟩ ⟨0, hk⟩).mp hp).1 (Nat.succ_ne_zero j)]
      exact par_after j (by omega) 10 (by decide)
  | j, hj, k + 1, hk => by
    have ih := par_after j hj k (by omega)
    rw [if_neg (by omega)] at ih
    rw [st_succ]
    have hp : ¬ (pt ⟨j, hj⟩ ⟨k + 1, hk⟩).val % 44 = 0 := fun hp => absurd ((pt_first _ _).mp hp).2 (Nat.succ_ne_zero k)
    have hq : ¬ (pt ⟨j, hj⟩ ⟨k + 1, hk⟩).val % 11 = 0 := fun hq => absurd ((pt_start _ _).mp hq) (Nat.succ_ne_zero k)
    by_cases hr : k + 1 = 10
    · rw [if_pos hr]
      exact par_last (h ⟨j, hj⟩ ⟨k + 1, hk⟩) hp hq ((pt_stop _ _).mpr hr) hr (row_before m c h _ _ hq) ih
    · rw [if_neg hr]
      have e : (next m c (pt ⟨j, hj⟩ ⟨k + 1, hk⟩) (st m c (pt ⟨j, hj⟩ ⟨k + 1, hk⟩).val)).dpar = (st m c (pt ⟨j, hj⟩ ⟨k + 1, hk⟩).val).dpar :=
        par_middle hp hq fun hr' => hr ((pt_stop ⟨j, hj⟩ ⟨k + 1, hk⟩).mp hr')
      rw [e]
      exact ih
termination_by j _ k _ => (j, k)

end Cert.Kernel4Ideal.Tok
-- ==== Proof.TokRef.lean ====
module

public import proofs.«01_k».proof.Proof.Gen.Reference4Ideal.Read
public import proofs.«01_k».proof.Proof.SguRef
public import proofs.«01_k».proof.Proof.TokReal

@[expose] public section

set_option maxRecDepth 16384

noncomputable section

open Idealize.ShloMosaic Idealize.ShloMosaic.TcCoe Idealize.SL.Sem

/-! What the reference computes when its arguments are real. -/
namespace Cert.Reference4Ideal.Tok

open Cert.Reference4Ideal Cert.Reference4Ideal.Gen Cert.Reference4Ideal.Read
open SguR (sum_at half_at eps_at one_at)
open TokR
open Cert.ReferenceIdeal.Sgu (sum_fiber)

/-- The arguments hold the real numbers `a`. -/
structure Holds (x0 : Vec Ideal S4096x1024 .f32) (x1 : Vec Ideal S3x1024 .f32) (x2 : Vec Ideal S1024 .f32) (x3 x4 : Vec Ideal S1024x2816 .f32)
    (x5 : Vec Ideal S2816x1024 .f32) (x6 : Vec Ideal S4096x1024 .f32) (a : Data) : Prop where
  hH : ∀ t d, x0 (ix2 t d) = (a.H t d : EReal)
  hS : ∀ d, x1 (ix2 0 d) = (a.S d : EReal)
  hC : ∀ d, x1 (ix2 1 d) = (a.C d : EReal)
  hA : ∀ d, x1 (ix2 2 d) = (a.A d : EReal)
  hN : ∀ d, x2 (ix1 d) = (a.N d : EReal)
  hg : ∀ d f, x3 (ix2 d f) = (a.Wg f d : EReal)
  hu : ∀ d f, x4 (ix2 d f) = (a.Wu f d : EReal)
  hd : ∀ f d, x5 (ix2 f d) = (a.Wd f d : EReal)
  hD : ∀ t d, x6 (ix2 t d) = (a.D t d : EReal)

variable {x0 : Vec Ideal S4096x1024 .f32} {x1 : Vec Ideal S3x1024 .f32} {x2 : Vec Ideal S1024 .f32} {x3 x4 : Vec Ideal S1024x2816 .f32}
    {x5 : Vec Ideal S2816x1024 .f32} {x6 : Vec Ideal S4096x1024 .f32} {a : Data} (h : Holds x0 x1 x2 x3 x4 x5 x6 a)
include h

theorem v118_at (t : Fin 4096) (d : Fin 1024) : val_main_v118 (F := Ideal) x0 x1 x2 (ix2 t d) = (y a t d : EReal) := by
  unfold val_main_v118 val_main_v117 val_main_v116 val_main_v115 val_main_v114 val_main_v113 val_main_v112 val_main_v111 val_main_v110 val_main_v109
    val_main_v108 val_main_v107 val_main_v106 val_main_v105 val_main_v104 val_main_v103 val_main_v102 val_main_v101 val_main_v100 val_main_v99
    val_main_v98 val_main_v97 val_main_v96 val_main_v95 val_main_v94 val_main_cst_20 val_main_cst_21 val_main_cst_22 val_main_cst_23
  pointwise
  simp only [h.hH, h.hS, h.hC, h.hN, ← EReal.coe_mul, sum_at, c1024_at, div1024_at, eps_at, one_at, ← EReal.coe_add, rs_at]
  rfl

theorem v119_at (t : Fin 4096) (f : Fin 2816) : val_main_v119 (F := Ideal) x0 x1 x2 x3 (ix2 t f) = (g a t f : EReal) := by
  unfold val_main_v119
  pointwise
  simp only [v118_at h, h.hg, ← EReal.coe_mul, sum_at]
  rfl

theorem v121_at (t : Fin 4096) (f : Fin 2816) : val_main_v121 (F := Ideal) x0 x1 x2 x4 (ix2 t f) = (u a t f : EReal) := by
  unfold val_main_v121
  pointwise
  simp only [v118_at h, h.hu, ← EReal.coe_mul, sum_at]
  rfl

theorem v123_at (t : Fin 4096) (d : Fin 1024) : val_main_v123 (F := Ideal) x0 x1 x2 x3 x4 x5 (ix2 t d) = (fo a t d : EReal) := by
  unfold val_main_v123 val_main_v122 val_main_v120 val_main_call2_v5 val_main_call2_v4 val_main_call2_v3 val_main_call2_v2 val_main_call2_v1
    val_main_call2_v0 val_main_call2_cst val_main_call2_cst_0
  pointwise
  simp only [v119_at h, v121_at h, h.hd, sg_div, ← EReal.coe_mul, sum_at]
  rfl

/-! The same over again where the gradient starts from its own forward pass. -/
theorem v27_at (t : Fin 4096) (d : Fin 1024) : val_main_v27 (F := Ideal) x0 x1 x2 (ix2 t d) = (y a t d : EReal) := v118_at h t d
theorem v28_at (t : Fin 4096) (f : Fin 2816) : val_main_v28 (F := Ideal) x0 x1 x2 x3 (ix2 t f) = (g a t f : EReal) := v119_at h t f
theorem v30_at (t : Fin 4096) (f : Fin 2816) : val_main_v30 (F := Ideal) x0 x1 x2 x4 (ix2 t f) = (u a t f : EReal) := v121_at h t f
theorem v32_at (t : Fin 4096) (d : Fin 1024) : val_main_v32 (F := Ideal) x0 x1 x2 x3 x4 x5 (ix2 t d) = (fo a t d : EReal) := v123_at h t d

theorem v29_2_at (t : Fin 4096) (f : Fin 2816) : val_main_v29_2 (F := Ideal) x0 x1 x2 x3 (ix2 t f) = (sg (g a t f) : EReal) := by
  unfold val_main_v29_2 val_main_call0_v4 val_main_call0_v3 val_main_call0_v2 val_main_call0_v1 val_main_call0_v0 val_main_call0_cst val_main_call0_cst_0
  pointwise
  simp only [v28_at h, sg_div]

theorem v131_at (t : Fin 4096) (d : Fin 1024) : val_main_v131 (F := Ideal) x1 x6 (ix2 t d) = (df a t d : EReal) := by
  unfold val_main_v131 val_main_v130 val_main_v126 val_main_v125 val_main_v124 val_main_cst_24
  pointwise
  simp only [h.hA, h.hD, half_at, ← EReal.coe_mul]
  rfl

theorem v137_at (t : Fin 4096) (f : Fin 2816) : val_main_v137 (F := Ideal) x1 x5 x6 (ix2 t f) = (da a t f : EReal) := by
  unfold val_main_v137
  pointwise
  simp only [v131_at h, h.hd, ← EReal.coe_mul, sum_at]
  rfl

omit h in
theorem v39_eq (x6 : Vec Ideal S4096x1024 .f32) : val_main_v39 (F := Ideal) x6 = x6 := by
  funext i
  obtain ⟨t, d, rfl⟩ : ∃ (t : Fin 4096) (d : Fin 1024), i = ix2 t d := ⟨i 0, i 1, by funext b; fin_cases b <;> rfl⟩
  unfold val_main_v39
  pointwise

theorem v48_at (t : Fin 4096) (f : Fin 2816) : val_main_v48 (F := Ideal) x1 x5 x6 (ix2 t f) = (da a t f : EReal) := by
  unfold val_main_v48 val_main_v41 val_main_v40 val_main_v35 val_main_v34 val_main_v33 val_main_cst_4
  rw [v39_eq]
  pointwise
  simp only [h.hA, h.hD, h.hd, half_at, ← EReal.coe_mul, sum_at]
  rfl

theorem v138_at (t : Fin 4096) (f : Fin 2816) : val_main_v138 (F := Ideal) x0 x1 x2 x3 x5 x6 (ix2 t f) = (du a t f : EReal) := by
  unfold val_main_v138
  pointwise
  have e : val_main_v134_0 (F := Ideal) x0 x1 x2 x3 (ix2 t f) = ((g a t f * sg (g a t f) : ℝ) : EReal) := by
    refine (?_ : val_main_v29_0 (F := Ideal) x0 x1 x2 x3 (ix2 t f) = _)
    unfold val_main_v29_0
    pointwise
    rw [v28_at h, v29_2_at h, ← EReal.coe_mul]
  rw [e, v137_at h, ← EReal.coe_mul, mul_comm]
  rfl

theorem v49_at (t : Fin 4096) (f : Fin 2816) : val_main_v49 (F := Ideal) x0 x1 x2 x3 x5 x6 (ix2 t f) = (du a t f : EReal) := by
  unfold val_main_v49 val_main_v29_0
  pointwise
  rw [v28_at h, v29_2_at h, v48_at h, ← EReal.coe_mul, ← EReal.coe_mul, mul_comm]
  rfl

theorem v52_at (t : Fin 4096) (f : Fin 2816) : val_main_v52 (F := Ideal) x0 x1 x2 x3 x4 x5 x6 (ix2 t f) = (dg a t f : EReal) := by
  unfold val_main_v52 val_main_call1_v2 val_main_call1_v1 val_main_call1_v0 val_main_v50 val_main_v29_1 val_main_call0_v7 val_main_call0_v6
    val_main_call0_cst_1
  pointwise
  simp only [v28_at h, v29_2_at h, v30_at h, v48_at h, one_at, ← EReal.coe_mul, ← EReal.coe_sub, ← EReal.coe_add]
  rw [dg_eq]

theorem v140_at (t : Fin 4096) (f : Fin 2816) : val_main_v140 (F := Ideal) x0 x1 x2 x3 x4 x5 x6 (ix2 t f) = (dg a t f : EReal) := by
  unfold val_main_v140 val_main_call4_v2 val_main_call4_v1 val_main_call4_v0 val_main_v139 val_main_v134_1 val_main_call3_v7 val_main_call3_v6
    val_main_call3_cst_1
  pointwise
  have e : val_main_v134_2 (F := Ideal) x0 x1 x2 x3 (ix2 t f) = (sg (g a t f) : EReal) := v29_2_at h t f
  have e1 : val_main_v132 (F := Ideal) x0 x1 x2 x3 (ix2 t f) = (g a t f : EReal) := v119_at h t f
  have e2 : val_main_v133 (F := Ideal) x0 x1 x2 x4 (ix2 t f) = (u a t f : EReal) := v121_at h t f
  simp only [e, e1, e2, v137_at h, one_at, ← EReal.coe_mul, ← EReal.coe_sub, ← EReal.coe_add]
  rw [dg_eq]

theorem v54_at (t : Fin 4096) (d : Fin 1024) : val_main_v54 (F := Ideal) x0 x1 x2 x3 x4 x5 x6 (ix2 t d) = (dy a t d : EReal) := by
  unfold val_main_v54 val_main_v53 val_main_v51
  pointwise
  simp only [v49_at h, v52_at h, h.hg, h.hu, ← EReal.coe_mul, sum_at, ← EReal.coe_add]
  unfold dy
  rw [Finset.sum_add_distrib, add_comm]

theorem v55_at (t : Fin 4096) (d : Fin 1024) : val_main_v55 (F := Ideal) x0 x1 x2 x3 x4 x5 x6 (ix3 0 t d) = (dy a t d : EReal) := by
  unfold val_main_v55
  pointwise
  exact v54_at h t d

theorem v0_at (t : Fin 4096) (d : Fin 1024) : val_main_v0 (F := Ideal) x0 (ix3 0 t d) = (a.H t d : EReal) := by
  unfold val_main_v0
  pointwise
  exact h.hH t d

theorem v7_at (t : Fin 4096) : val_main_v7 (F := Ideal) x0 (ix3 0 t 0) = (ms a t : EReal) := by
  unfold val_main_v7 val_main_v6 val_main_v5 val_main_v4 val_main_v3 val_main_v2 val_main_v1 val_main_cst val_main_cst_0 val_main_cst_1
  pointwise
  simp only [v0_at h, ← EReal.coe_mul, sum_at, c1024_at, div1024_at, eps_at, ← EReal.coe_add]
  rfl

theorem v8_at (t : Fin 4096) : val_main_v8 (F := Ideal) x0 (ix3 0 t 0) = (rs a t : EReal) := by
  unfold val_main_v8
  pointwise
  rw [v7_at h]
  exact rs_at a t

theorem v11_at (t : Fin 4096) : val_main_v11 (F := Ideal) x0 (ix3 0 t 0) = ((-(1 / 2) * (rs a t / ms a t) : ℝ) : EReal) := by
  unfold val_main_v11 val_main_v10 val_main_v9 val_main_cst_2
  pointwise
  rw [v7_at h, v8_at h, div_at _ _ (ms_pos a t).ne', neg_half_at, ← EReal.coe_mul]

theorem v13_at (t : Fin 4096) (d : Fin 1024) : val_main_v13 (F := Ideal) x0 (ix3 0 t d) = (xh a t d : EReal) := by
  unfold val_main_v13 val_main_v12
  pointwise
  rw [v0_at h, v8_at h, ← EReal.coe_mul]
  rfl

theorem v16_at (t : Fin 4096) (d : Fin 1024) : val_main_v16 (F := Ideal) x0 x2 (ix3 0 t d) = (n a t d : EReal) := by
  unfold val_main_v16 val_main_v15 val_main_v14
  pointwise
  rw [v13_at h, h.hN, ← EReal.coe_mul]
  rfl

theorem v64_at (t : Fin 4096) (d : Fin 1024) : val_main_v64 (F := Ideal) x0 x1 x2 x3 x4 x5 x6 (ix3 0 t d) = (dn a t d : EReal) := by
  unfold val_main_v64 val_main_v63 val_main_v21 val_main_v20 val_main_v19 val_main_v18 val_main_cst_3
  pointwise
  simp only [v55_at h, h.hC, one_at, ← EReal.coe_add, ← EReal.coe_mul]
  rfl

theorem v75_at (t : Fin 4096) (d : Fin 1024) : val_main_v75 (F := Ideal) x0 x1 x2 x3 x4 x5 x6 (ix3 0 t d) = (dxh a t d : EReal) := by
  unfold val_main_v75 val_main_v74 val_main_v14
  pointwise
  rw [v64_at h, h.hN, ← EReal.coe_mul]
  rfl

/-! Sums over axes of length one. -/
omit h in
theorem sum85 (X : Vec Ideal S1x4096x1 .f32) (t : Fin 4096) : Ideal.hostReduceAdd reducesTo_S1x4096x1_S4096_d0_2 X 0 (ix1 t) = X (ix3 0 t 0) := by
  refine (sum_fiber _ X _ (fun p : Unit => (ix3 0 t 0 : S1x4096x1.Idx)) (fun p q e => rfl) fun k => ⟨fun e => ⟨(), ?_⟩, ?_⟩).trans (by simp)
  · funext b
    match b with
    | ⟨0, _⟩ => exact Subsingleton.elim (α := Fin 1) _ _
    | ⟨1, _⟩ => exact (Fin.ext (congrArg Fin.val (congrFun e 0))).symm
    | ⟨2, _⟩ => exact Subsingleton.elim (α := Fin 1) _ _
  · rintro ⟨p, rfl⟩
    funext b
    fin_cases b <;> rfl
omit h in
theorem sum58 (X : Vec Ideal S1x1x1024 .f32) (d : Fin 1024) : Ideal.hostReduceAdd reducesTo_S1x1x1024_S1024_d0_1 X 0 (ix1 d) = X (ix3 0 0 d) := by
  refine (sum_fiber _ X _ (fun p : Unit => (ix3 0 0 d : S1x1x1024.Idx)) (fun p q e => rfl) fun k => ⟨fun e => ⟨(), ?_⟩, ?_⟩).trans (by simp)
  · funext b
    match b with
    | ⟨0, _⟩ => exact Subsingleton.elim (α := Fin 1) _ _
    | ⟨1, _⟩ => exact Subsingleton.elim (α := Fin 1) _ _
    | ⟨2, _⟩ => exact (Fin.ext (congrArg Fin.val (congrFun e 0))).symm
  · rintro ⟨p, rfl⟩
    funext b
    fin_cases b <;> rfl

/-- The gradient of the sublayer's input. -/
theorem v85_at (t : Fin 4096) : val_main_v85 (F := Ideal) x0 x1 x2 x3 x4 x5 x6 (ix1 t)
    = (((∑ d, a.H t d * dxh a t d) * (-(1 / 2) * (rs a t / ms a t)) / 1024 : ℝ) : EReal) := by
  unfold val_main_v85 val_main_cst_18
  pointwise
  rw [sum85]
  unfold val_main_v84 val_main_v83 val_main_v82 val_main_v79 val_main_v78 val_main_v77 val_main_cst_16 val_main_cst_17
  pointwise
  simp only [v0_at h, v75_at h, v11_at h, ← EReal.coe_mul, sum_at, c1024_at, div1024_at]

theorem v93_at (t : Fin 4096) (d : Fin 1024) : val_main_v93 (F := Ideal) x0 x1 x2 x3 x4 x5 x6 (ix2 t d) = (dhin a t d : EReal) := by
  unfold val_main_v93 val_main_v92 val_main_v91 val_main_v90 val_main_v89 val_main_v88 val_main_v87 val_main_v86 val_main_v81 val_main_v80 val_main_cst_19
  pointwise
  rw [Fin.sum_univ_one]
  simp only [h.hD, v0_at h, v75_at h, v8_at h, v85_at h, ← EReal.coe_mul, ← EReal.coe_add]
  rw [norm_grad]
  rfl

/-! The gradients of the modulation and of the gain. -/
theorem v58_at (d : Fin 1024) : val_main_v58 (F := Ideal) x0 x1 x2 x3 x4 x5 x6 (ix1 d) = (pS a d : EReal) := by
  unfold val_main_v58 val_main_cst_9
  pointwise
  rw [sum58]
  unfold val_main_v57 val_main_v56 val_main_cst_8
  pointwise
  simp only [v55_at h, sum_at]
  rfl

theorem v65_at (d : Fin 1024) : val_main_v65 (F := Ideal) x0 x1 x2 x3 x4 x5 x6 (ix1 d) = (pC a d : EReal) := by
  unfold val_main_v65 val_main_cst_11
  pointwise
  rw [sum58]
  unfold val_main_v62 val_main_v61 val_main_v60 val_main_cst_10
  pointwise
  simp only [v55_at h, v16_at h, ← EReal.coe_mul, sum_at, mul_comm (n _ _ _)]
  rfl

theorem v76_at (d : Fin 1024) : val_main_v76 (F := Ideal) x0 x1 x2 x3 x4 x5 x6 (ix1 d) = (pN a d : EReal) := by
  unfold val_main_v76 val_main_cst_15
  pointwise
  rw [sum58]
  unfold val_main_v73 val_main_v72 val_main_v71 val_main_cst_14
  pointwise
  simp only [v13_at h, v64_at h, ← EReal.coe_mul, sum_at, mul_comm (xh _ _ _)]
  rfl

theorem v46_at (d : Fin 1024) : val_main_v46 (F := Ideal) x0 x1 x2 x3 x4 x5 x6 (ix2 0 d) = (pA a d : EReal) := by
  unfold val_main_v46 val_main_v45 val_main_v44 val_main_v43 val_main_v42 val_main_cst_5 val_main_cst_6
  rw [v39_eq]
  pointwise
  simp only [h.hD, v32_at h, half_at, ← EReal.coe_mul, sum_at, Finset.mul_sum]
  rfl

theorem v143_0 (d : Fin 1024) : val_main_v143 (F := Ideal) x0 x1 x2 x3 x4 x5 x6 (ix2 0 d) = (pS a d : EReal) := by
  unfold val_main_v143 val_main_v70 val_main_v69 val_main_v68 val_main_v67 val_main_v59 val_main_v47 val_main_cst_7 val_main_cst_12 val_main_cst_13
  pointwise
  exact v58_at h d
theorem v143_1 (d : Fin 1024) : val_main_v143 (F := Ideal) x0 x1 x2 x3 x4 x5 x6 (ix2 1 d) = (pC a d : EReal) := by
  unfold val_main_v143 val_main_v70 val_main_v69 val_main_v68 val_main_v67 val_main_v66 val_main_v47 val_main_cst_7 val_main_cst_12 val_main_cst_13
  pointwise
  exact v65_at h d
theorem v143_2 (d : Fin 1024) : val_main_v143 (F := Ideal) x0 x1 x2 x3 x4 x5 x6 (ix2 2 d) = (pA a d : EReal) := by
  unfold val_main_v143 val_main_v70 val_main_v69 val_main_v68 val_main_v67 val_main_v47 val_main_cst_7 val_main_cst_12 val_main_cst_13
  pointwise
  exact v46_at h d
theorem v143_3 (d : Fin 1024) : val_main_v143 (F := Ideal) x0 x1 x2 x3 x4 x5 x6 (ix2 3 d) = (pN a d : EReal) := by
  unfold val_main_v143 val_main_v141
  pointwise
  exact v76_at h d
omit h in
theorem v143_4 (b : Fin 8) (hb : 4 ≤ b.val) (d : Fin 1024) : val_main_v143 (F := Ideal) x0 x1 x2 x3 x4 x5 x6 (ix2 b d) = 0 := by
  unfold val_main_v143
  pointwise
  rw [dif_neg (by omega), dif_neg (by omega)]
  unfold val_main_v142 val_main_cst_25
  pointwise

end Cert.Reference4Ideal.Tok
-- ==== Proof.TokHost.lean ====
module

public import proofs.«01_k».proof.Proof.TokState
public import proofs.«01_k».proof.Proof.TokRef
public import proofs.«01_k».proof.Proof.FwdRef

@[expose] public section

set_option maxRecDepth 16384

noncomputable section

open Idealize.ShloMosaic Idealize.ShloMosaic.TcCoe Idealize.SL.Sem

/-! The arrays the kernel's host lines hand to the region, and what a point reads of them. -/
namespace Cert.Kernel4Ideal.Tok

open Cert.Kernel4Ideal Cert.Kernel4Ideal.Gen
open Cert.Kernel3Ideal.Fwd (fill_zero)
open Cert.Reference4Ideal.Read (val_main_v119 val_main_v121 val_main_v123)
open TokR

variable (m : (ℓ : Loc nD τ sig) → Buf (Elt Ideal) ℓ)

/-- The arguments at a core. -/
abbrev rows (c : Dev nD) : Vec Ideal S4096x1024 .f32 := m ((c : Thread nD τ).loc main_arg0)
abbrev modl (c : Dev nD) : Vec Ideal S3x1024 .f32 := m ((c : Thread nD τ).loc main_arg1)
abbrev gain (c : Dev nD) : Vec Ideal S1024 .f32 := m ((c : Thread nD τ).loc main_arg2)
abbrev wgate (c : Dev nD) : Vec Ideal S1024x2816 .f32 := m ((c : Thread nD τ).loc main_arg3)
abbrev wup (c : Dev nD) : Vec Ideal S1024x2816 .f32 := m ((c : Thread nD τ).loc main_arg4)
abbrev wdown (c : Dev nD) : Vec Ideal S2816x1024 .f32 := m ((c : Thread nD τ).loc main_arg5)
abbrev dho (c : Dev nD) : Vec Ideal S4096x1024 .f32 := m ((c : Thread nD τ).loc main_arg6)

/-- The arrays of the windows when the region is entered: the packed parameters and the stack of weights. -/
abbrev par (c : Dev nD) : Vec Ideal S8x1024 .f32 := V m c main_v3
abbrev wts (c : Dev nD) : Vec Ideal S3x2816x1024 .bf16 := V m c main_v12

theorem par_eq (c : Dev nD) : par m c
    = (addf (pad S8x1024 ![0, 0] ![5, 0] ![0, 0] (modl m c) (sitofp .f32 (constantI S_ 32 0#32)) pads_S3x1024_S8x1024_050_000 h_S_)
        (pad S8x1024 ![3, 0] ![4, 0] ![0, 0] (broadcastInDim S1x1024 ![1] bcast_S1024_S1x1024_1 (gain m c)) (sitofp .f32 (constantI S_ 32 0#32)) pads_S1x1024_S8x1024_340_000 h_S_) : FVec Ideal S8x1024 .f32) := by
  unfold par V hostOps0 hostOps0_1 hostOps0_2 hostOps0_3 hostOps0_4 hostOps0_5 hostOps0_6
  simp only [List.flatten_cons, List.flatten_nil, List.append_nil, List.cons_append, List.nil_append]
  after_results
  rfl

theorem par_0 (c : Dev nD) (d : Fin 1024) : par m c (ix2 0 d) = modl m c (ix2 0 d) := by rw [par_eq]; pointwise; exact (congrArg (_ + ·) fill_zero).trans (add_zero _)
theorem par_1 (c : Dev nD) (d : Fin 1024) : par m c (ix2 1 d) = modl m c (ix2 1 d) := by rw [par_eq]; pointwise; exact (congrArg (_ + ·) fill_zero).trans (add_zero _)
theorem par_2 (c : Dev nD) (d : Fin 1024) : par m c (ix2 2 d) = modl m c (ix2 2 d) := by rw [par_eq]; pointwise; exact (congrArg (_ + ·) fill_zero).trans (add_zero _)
theorem par_3 (c : Dev nD) (d : Fin 1024) : par m c (ix2 3 d) = gain m c (ix1 d) := by rw [par_eq]; pointwise; exact (congrArg (· + _) fill_zero).trans (zero_add _)

theorem wts_eq (c : Dev nD) : wts m c
    = (concatenate S3x2816x1024 0 [⟨S1x2816x1024, broadcastInDim S1x2816x1024 ![1, 2] bcast_S2816x1024_S1x2816x1024_1_2 (truncf .bf16 (transpose S2816x1024 [1, 0] (wgate m c) transposes_S1024x2816_S2816x1024_1_0) bitsLt_bf16_f32 : FVec Ideal S2816x1024 .bf16)⟩,
        ⟨S1x2816x1024, broadcastInDim S1x2816x1024 ![1, 2] bcast_S2816x1024_S1x2816x1024_1_2 (truncf .bf16 (transpose S2816x1024 [1, 0] (wup m c) transposes_S1024x2816_S2816x1024_1_0) bitsLt_bf16_f32 : FVec Ideal S2816x1024 .bf16)⟩,
        ⟨S1x2816x1024, broadcastInDim S1x2816x1024 ![1, 2] bcast_S2816x1024_S1x2816x1024_1_2 (truncf .bf16 (wdown m c) bitsLt_bf16_f32 : FVec Ideal S2816x1024 .bf16)⟩]
        concatenates_S1x2816x1024_S1x2816x1024_S1x2816x1024_S3x2816x1024_d0 : FVec Ideal S3x2816x1024 .bf16) := by
  unfold wts V hostOps0 hostOps0_1 hostOps0_2 hostOps0_3 hostOps0_4 hostOps0_5 hostOps0_6
  simp only [List.flatten_cons, List.flatten_nil, List.append_nil, List.cons_append, List.nil_append]
  after_results
  rfl

theorem wts_gate (c : Dev nD) (f : Fin 2816) (d : Fin 1024) : wts m c (ix3 0 f d) = wgate m c (ix2 d f) := by rw [wts_eq]; pointwise
theorem wts_up (c : Dev nD) (f : Fin 2816) (d : Fin 1024) : wts m c (ix3 1 f d) = wup m c (ix2 d f) := by rw [wts_eq]; pointwise
theorem wts_down (c : Dev nD) (f : Fin 2816) (d : Fin 1024) : wts m c (ix3 2 f d) = wdown m c (ix2 f d) := by rw [wts_eq]; pointwise

/-- What the forward pass saved: the sublayer's output, and the two rows of hidden units. -/
abbrev fos (c : Dev nD) : Vec Ideal S4096x1024 .bf16 := V m c main_v45
abbrev gts (c : Dev nD) : Vec Ideal S4096x2816 .bf16 := V m c main_v46
abbrev ups (c : Dev nD) : Vec Ideal S4096x2816 .bf16 := V m c main_v47

theorem gts_eq (c : Dev nD) : gts m c = (val_main_v119 (F := Ideal) (rows m c) (modl m c) (gain m c) (wgate m c) : S4096x2816.Idx → EReal) := by
  unfold gts V hostOps0 hostOps0_1 hostOps0_2 hostOps0_3 hostOps0_4 hostOps0_5 hostOps0_6
  simp only [List.flatten_cons, List.flatten_nil, List.append_nil, List.cons_append, List.nil_append]
  after_results
  rfl
theorem ups_eq (c : Dev nD) : ups m c = (val_main_v121 (F := Ideal) (rows m c) (modl m c) (gain m c) (wup m c) : S4096x2816.Idx → EReal) := by
  unfold ups V hostOps0 hostOps0_1 hostOps0_2 hostOps0_3 hostOps0_4 hostOps0_5 hostOps0_6
  simp only [List.flatten_cons, List.flatten_nil, List.append_nil, List.cons_append, List.nil_append]
  after_results
  rfl
theorem fos_eq (c : Dev nD) : fos m c = (val_main_v123 (F := Ideal) (rows m c) (modl m c) (gain m c) (wgate m c) (wup m c) (wdown m c) : S4096x1024.Idx → EReal) := by
  unfold fos V hostOps0 hostOps0_1 hostOps0_2 hostOps0_3 hostOps0_4 hostOps0_5 hostOps0_6
  simp only [List.flatten_cons, List.flatten_nil, List.append_nil, List.cons_append, List.nil_append]
  after_results
  rfl

/-! ### What a point reads -/

theorem idx : ∀ t : Fin cfg0.N, win0_0.index t = ![t.val / 11, 0] ∧ win0_1.index t = ![t.val / 11, 0] ∧ win0_2.index t = ![0, 0]
    ∧ win0_3.index t = ![t.val / 11, 0] ∧ win0_4.index t = ![t.val / 11, t.val % 11] ∧ win0_5.index t = ![t.val / 11, t.val % 11]
    ∧ win0_6.index t = ![0, t.val % 11, 0] ∧ win0_7.index t = ![1, t.val % 11, 0] ∧ win0_8.index t = ![2, t.val % 11, 0]
    ∧ win0_9.index t = ![2, min (t.val % 11 + 1) 10, 0] :=
  (by decide +kernel : ∀ t : Fin grid0.N, _)
theorem pt_mod (j : Fin 4) (k : Fin 11) : (pt j k).val % 11 = k.val := by rw [pt_val]; omega
theorem pt_div (j : Fin 4) (k : Fin 11) : (pt j k).val / 11 = j.val := by rw [pt_val]; omega

section
variable (c : Dev nD) (j : Fin 4) (k : Fin 11)

theorem blk0 (r d : Fin 1024) : (iblk m c 0 (pt j k) : Vec Ideal S1024x1024 .f32) (ix2 r d) = V m c main_arg6 (ix2 (row j r) d) := by
  obtain ⟨e, -⟩ := idx (pt j k)
  rw [pt_div] at e
  unfold row
  blk_ext [iblk, e]
theorem blk1 (r d : Fin 1024) : (iblk m c 1 (pt j k) : Vec Ideal S1024x1024 .f32) (ix2 r d) = V m c main_arg0 (ix2 (row j r) d) := by
  obtain ⟨-, e, -⟩ := idx (pt j k)
  rw [pt_div] at e
  unfold row
  blk_ext [iblk, e]
theorem blk2 (b : Fin 8) (d : Fin 1024) : (iblk m c 2 (pt j k) : Vec Ideal S8x1024 .f32) (ix2 b d) = par m c (ix2 b d) := by
  obtain ⟨-, -, e, -⟩ := idx (pt j k)
  blk_ext [iblk, e]
theorem blk3 (r d : Fin 1024) : (iblk m c 3 (pt j k) : Vec Ideal S1024x1024 .bf16) (ix2 r d) = fos m c (ix2 (row j r) d) := by
  obtain ⟨-, -, -, e, -⟩ := idx (pt j k)
  rw [pt_div] at e
  unfold row
  blk_ext [iblk, e]
theorem blk4 (r : Fin 1024) (i : Fin 256) : (iblk m c 4 (pt j k) : Vec Ideal S1024x256 .bf16) (ix2 r i) = gts m c (ix2 (row j r) (unit k i)) := by
  obtain ⟨-, -, -, -, e, -⟩ := idx (pt j k)
  rw [pt_div, pt_mod] at e
  unfold row unit
  blk_ext [iblk, e]
theorem blk5 (r : Fin 1024) (i : Fin 256) : (iblk m c 5 (pt j k) : Vec Ideal S1024x256 .bf16) (ix2 r i) = ups m c (ix2 (row j r) (unit k i)) := by
  obtain ⟨-, -, -, -, -, e, -⟩ := idx (pt j k)
  rw [pt_div, pt_mod] at e
  unfold row unit
  blk_ext [iblk, e]
theorem blk6 (i : Fin 256) (d : Fin 1024) : (iblk m c 6 (pt j k) : Vec Ideal S1x256x1024 .bf16) (ix3 0 i d) = wts m c (ix3 0 (unit k i) d) := by
  obtain ⟨-, -, -, -, -, -, e, -⟩ := idx (pt j k)
  rw [pt_mod] at e
  unfold unit
  blk_ext [iblk, e]
theorem blk7 (i : Fin 256) (d : Fin 1024) : (iblk m c 7 (pt j k) : Vec Ideal S1x256x1024 .bf16) (ix3 0 i d) = wts m c (ix3 1 (unit k i) d) := by
  obtain ⟨-, -, -, -, -, -, -, e, -⟩ := idx (pt j k)
  rw [pt_mod] at e
  unfold unit
  blk_ext [iblk, e]
theorem blk8 (i : Fin 256) (d : Fin 1024) : (iblk m c 8 (pt j k) : Vec Ideal S1x256x1024 .bf16) (ix3 0 i d) = wts m c (ix3 2 (unit k i) d) := by
  obtain ⟨-, -, -, -, -, -, -, -, e, -⟩ := idx (pt j k)
  rw [pt_mod] at e
  unfold unit
  blk_ext [iblk, e]
theorem blk9 (i : Fin 256) (d : Fin 1024) : (iblk m c 9 (pt j k) : Vec Ideal S1x256x1024 .bf16) (ix3 0 i d) = wts m c (ix3 2 (unit (nxt k) i) d) := by
  obtain ⟨-, -, -, -, -, -, -, -, -, e⟩ := idx (pt j k)
  rw [pt_mod] at e
  unfold unit nxt
  blk_ext [iblk, e]
end

/-- The arguments at a core hold the real numbers `a`. -/
abbrev Args (c : Dev nD) (a : Data) : Prop :=
  Cert.Reference4Ideal.Tok.Holds (rows m c) (modl m c) (gain m c) (wgate m c) (wup m c) (wdown m c) (dho m c) a

section
variable {m} {c : Dev nD} {a : Data} (h : Args m c a) (j : Fin 4) (k : Fin 11)
include h

theorem dh_at (r d : Fin 1024) : (ins m c (pt j k)).dh (ix2 r d) = (a.D (row j r) d : EReal) :=
  (blk0 m c j k r d).trans ((congrFun (V_main_arg6 m c) _).trans (h.hD _ d))
theorem h_at (r d : Fin 1024) : (ins m c (pt j k)).h (ix2 r d) = (a.H (row j r) d : EReal) :=
  (blk1 m c j k r d).trans ((congrFun (V_main_arg0 m c) _).trans (h.hH _ d))
theorem shift_row (d : Fin 1024) : (ins m c (pt j k)).par (ix2 0 d) = (a.S d : EReal) := (blk2 m c j k 0 d).trans ((par_0 m c d).trans (h.hS d))
theorem scale_row (d : Fin 1024) : (ins m c (pt j k)).par (ix2 1 d) = (a.C d : EReal) := (blk2 m c j k 1 d).trans ((par_1 m c d).trans (h.hC d))
theorem gate_row (d : Fin 1024) : (ins m c (pt j k)).par (ix2 2 d) = (a.A d : EReal) := (blk2 m c j k 2 d).trans ((par_2 m c d).trans (h.hA d))
theorem gain_row (d : Fin 1024) : (ins m c (pt j k)).par (ix2 3 d) = (a.N d : EReal) := (blk2 m c j k 3 d).trans ((par_3 m c d).trans (h.hN d))
theorem fo_at (r d : Fin 1024) : (ins m c (pt j k)).fo (ix2 r d) = (fo a (row j r) d : EReal) :=
  (blk3 m c j k r d).trans ((congrFun (fos_eq m c) _).trans (Cert.Reference4Ideal.Tok.v123_at h _ d))
theorem g_at (r : Fin 1024) (i : Fin 256) : (ins m c (pt j k)).g (ix2 r i) = (g a (row j r) (unit k i) : EReal) :=
  (blk4 m c j k r i).trans ((congrFun (gts_eq m c) _).trans (Cert.Reference4Ideal.Tok.v119_at h _ _))
theorem u_at (r : Fin 1024) (i : Fin 256) : (ins m c (pt j k)).u (ix2 r i) = (u a (row j r) (unit k i) : EReal) :=
  (blk5 m c j k r i).trans ((congrFun (ups_eq m c) _).trans (Cert.Reference4Ideal.Tok.v121_at h _ _))
theorem wg_at (i : Fin 256) (d : Fin 1024) : (ins m c (pt j k)).wg (ix3 0 i d) = (a.Wg (unit k i) d : EReal) :=
  (blk6 m c j k i d).trans ((wts_gate m c _ d).trans (h.hg d _))
theorem wu_at (i : Fin 256) (d : Fin 1024) : (ins m c (pt j k)).wu (ix3 0 i d) = (a.Wu (unit k i) d : EReal) :=
  (blk7 m c j k i d).trans ((wts_up m c _ d).trans (h.hu d _))
theorem wd_at (i : Fin 256) (d : Fin 1024) : (ins m c (pt j k)).wd (ix3 0 i d) = (a.Wd (unit k i) d : EReal) :=
  (blk8 m c j k i d).trans ((wts_down m c _ d).trans (h.hd _ d))
theorem wn_at (i : Fin 256) (d : Fin 1024) : (ins m c (pt j k)).wdn (ix3 0 i d) = (a.Wd (unit (nxt k) i) d : EReal) :=
  (blk9 m c j k i d).trans ((wts_down m c _ d).trans (h.hd _ d))

/-- What each point reads, when the arguments hold real numbers. -/
theorem holds : Holds (ins m c (pt j k)) a j k := by
  apply Holds.mk
  · exact dh_at h j k
  · exact h_at h j k
  · exact shift_row h j k
  · exact scale_row h j k
  · exact gate_row h j k
  · exact gain_row h j k
  · exact fo_at h j k
  · exact g_at h j k
  · exact u_at h j k
  · exact wg_at h j k
  · exact wu_at h j k
  · exact wd_at h j k
  · exact wn_at h j k
end

end Cert.Kernel4Ideal.Tok
-- ==== Proof.TokArr.lean ====
module

public import proofs.«01_k».proof.Proof.TokHost
public import Idealize.ShloMosaic.Lib.Pipeline.ValueKit

@[expose] public section

set_option maxRecDepth 16384

noncomputable section

open Idealize.ShloMosaic Idealize.ShloMosaic.TcCoe Idealize.SL.Sem

/-! The six arrays the region leaves, when the arguments hold real numbers. -/
namespace Cert.Kernel4Ideal.Tok

open Cert.Kernel4Ideal Cert.Kernel4Ideal.Gen
open TokR

theorem out : ∀ t : Fin cfg0.N, win0_10.index t = ![t.val / 11, 0] ∧ win0_11.index t = ![t.val / 11, t.val % 11] ∧ win0_12.index t = ![t.val / 11, t.val % 11]
    ∧ win0_13.index t = ![t.val / 11, 0] ∧ win0_14.index t = ![t.val / 11, 0] :=
  (by decide +kernel : ∀ t : Fin grid0.N, _)

theorem inj10 : ∀ t t' : Fin cfg0.N, t.val % 11 = 10 → t'.val % 11 = 10 → win0_10.index t = win0_10.index t' → t = t' :=
  (by decide +kernel : ∀ t t' : Fin grid0.N, t.val % 11 = 10 → t'.val % 11 = 10 → win0_10.index t = win0_10.index t' → t = t')
theorem inj11 : ∀ t t' : Fin cfg0.N, win0_11.index t = win0_11.index t' → t = t' :=
  (by decide +kernel : ∀ t t' : Fin grid0.N, win0_11.index t = win0_11.index t' → t = t')
theorem inj12 : ∀ t t' : Fin cfg0.N, win0_12.index t = win0_12.index t' → t = t' :=
  (by decide +kernel : ∀ t t' : Fin grid0.N, win0_12.index t = win0_12.index t' → t = t')
theorem inj13 : ∀ t t' : Fin cfg0.N, t.val % 11 = 10 → t'.val % 11 = 10 → win0_13.index t = win0_13.index t' → t = t' :=
  (by decide +kernel : ∀ t t' : Fin grid0.N, t.val % 11 = 10 → t'.val % 11 = 10 → win0_13.index t = win0_13.index t' → t = t')
theorem inj14 : ∀ t t' : Fin cfg0.N, t.val % 11 = 10 → t'.val % 11 = 10 → win0_14.index t = win0_14.index t' → t = t' :=
  (by decide +kernel : ∀ t t' : Fin grid0.N, t.val % 11 = 10 → t'.val % 11 = 10 → win0_14.index t = win0_14.index t' → t = t')

section
variable (m : (ℓ : Loc nD τ sig) → Buf (Elt Ideal) ℓ) (c : Dev nD) (j : Fin 4)

theorem arr10 (r d : Fin 1024) : (dats m 0 c).arrAt 10 cfg0.N (ix2 (row j r) d) = (st m c ((pt j 10).val + 1)).dhin (ix2 r d) := by
  obtain ⟨e, -⟩ := out (pt j 10)
  rw [pt_div] at e
  have h := (dats m 0 c).read_blk_arrAt_eq_flushed 10 (fun t t' ht ht' hne => (cfg0.win 10).disjoint_blk fun h => hne (inj10 t t' ((flush0_10 t).mp ht) ((flush0_10 t').mp ht') h))
    cfg0.N (pt j 10) (pt j 10).isLt ((flush0_10 _).mpr ((pt_stop j 10).mpr rfl))
  have h' := congrFun h (ix2 r d)
  rw [← after_10]
  refine Eq.trans ?_ (h'.trans ?_)
  · unfold row
    blk_ext [e]
  · rfl
theorem arr13 (r d : Fin 1024) : (dats m 0 c).arrAt 13 cfg0.N (ix2 (row j r) d) = (st m c ((pt j 10).val + 1)).y (ix2 r d) := by
  obtain ⟨-, -, -, e, -⟩ := out (pt j 10)
  rw [pt_div] at e
  have h := (dats m 0 c).read_blk_arrAt_eq_flushed 13 (fun t t' ht ht' hne => (cfg0.win 13).disjoint_blk fun h => hne (inj13 t t' ((flush0_13 t).mp ht) ((flush0_13 t').mp ht') h))
    cfg0.N (pt j 10) (pt j 10).isLt ((flush0_13 _).mpr ((pt_stop j 10).mpr rfl))
  have h' := congrFun h (ix2 r d)
  rw [← after_13]
  refine Eq.trans ?_ (h'.trans ?_)
  · unfold row
    blk_ext [e]
  · rfl
theorem arr14 (r d : Fin 1024) : (dats m 0 c).arrAt 14 cfg0.N (ix2 (row j r) d) = (st m c ((pt j 10).val + 1)).dfb (ix2 r d) := by
  obtain ⟨-, -, -, -, e⟩ := out (pt j 10)
  rw [pt_div] at e
  have h := (dats m 0 c).read_blk_arrAt_eq_flushed 14 (fun t t' ht ht' hne => (cfg0.win 14).disjoint_blk fun h => hne (inj14 t t' ((flush0_14 t).mp ht) ((flush0_14 t').mp ht') h))
    cfg0.N (pt j 10) (pt j 10).isLt ((flush0_14 _).mpr ((pt_stop j 10).mpr rfl))
  have h' := congrFun h (ix2 r d)
  rw [← after_14]
  refine Eq.trans ?_ (h'.trans ?_)
  · unfold row
    blk_ext [e]
  · rfl
theorem arr11 (k : Fin 11) (r : Fin 1024) (i : Fin 256) : (dats m 0 c).arrAt 11 cfg0.N (ix2 (row j r) (unit k i)) = (st m c ((pt j k).val + 1)).dg (ix2 r i) := by
  obtain ⟨-, e, -⟩ := out (pt j k)
  rw [pt_div, pt_mod] at e
  have h := (dats m 0 c).read_blk_arrAt_eq_flushed 11 (fun t t' _ _ hne => (cfg0.win 11).disjoint_blk fun h => hne (inj11 t t' h))
    cfg0.N (pt j k) (pt j k).isLt (flush0_11 _)
  have h' := congrFun h (ix2 r i)
  rw [← after_11]
  refine Eq.trans ?_ (h'.trans ?_)
  · unfold row unit
    blk_ext [e]
  · rfl
theorem arr12 (k : Fin 11) (r : Fin 1024) (i : Fin 256) : (dats m 0 c).arrAt 12 cfg0.N (ix2 (row j r) (unit k i)) = (st m c ((pt j k).val + 1)).du (ix2 r i) := by
  obtain ⟨-, -, e, -⟩ := out (pt j k)
  rw [pt_div, pt_mod] at e
  have h := (dats m 0 c).read_blk_arrAt_eq_flushed 12 (fun t t' _ _ hne => (cfg0.win 12).disjoint_blk fun h => hne (inj12 t t' h))
    cfg0.N (pt j k) (pt j k).isLt (flush0_12 _)
  have h' := congrFun h (ix2 r i)
  rw [← after_12]
  refine Eq.trans ?_ (h'.trans ?_)
  · unfold row unit
    blk_ext [e]
  · rfl
omit j in
theorem arr15 (b : Fin 8) (d : Fin 1024) : (dats m 0 c).arrAt 15 cfg0.N (ix2 b d) = (st m c ((pt 3 10).val + 1)).dpar (ix2 b d) := by
  refine congrFun ((dats m 0 c).arrAt_eq_of_after_last 15 (pt 3 10) (by decide +kernel) (st m c ((pt 3 10).val + 1)).dpar fun q => ?_) (ix2 b d)
  blk_simp
  rw [after_15]
end

section
variable {m : (ℓ : Loc nD τ sig) → Buf (Elt Ideal) ℓ} {c : Dev nD} {a : Data} (h : Args m c a)
include h

theorem out_dhin (j : Fin 4) (r d : Fin 1024) : (dats m 0 c).arrAt 10 cfg0.N (ix2 (row j r) d) = (dhin a (row j r) d : EReal) :=
  (arr10 m c j r d).trans (st_dhin m c (holds h) j r d)
theorem out_dg (j : Fin 4) (k : Fin 11) (r : Fin 1024) (i : Fin 256) : (dats m 0 c).arrAt 11 cfg0.N (ix2 (row j r) (unit k i)) = (dg a (row j r) (unit k i) : EReal) :=
  (arr11 m c j k r i).trans (st_dg m c (holds h) j k r i)
theorem out_du (j : Fin 4) (k : Fin 11) (r : Fin 1024) (i : Fin 256) : (dats m 0 c).arrAt 12 cfg0.N (ix2 (row j r) (unit k i)) = (du a (row j r) (unit k i) : EReal) :=
  (arr12 m c j k r i).trans (st_du m c (holds h) j k r i)
theorem out_y (j : Fin 4) (r d : Fin 1024) : (dats m 0 c).arrAt 13 cfg0.N (ix2 (row j r) d) = (y a (row j r) d : EReal) :=
  (arr13 m c j r d).trans ((row_after m c (holds h) j 10 (by decide)).y r d)
theorem out_dfb (j : Fin 4) (r d : Fin 1024) : (dats m 0 c).arrAt 14 cfg0.N (ix2 (row j r) d) = (df a (row j r) d : EReal) :=
  (arr14 m c j r d).trans ((row_after m c (holds h) j 10 (by decide)).dfb r d)

theorem par_done : Par a 4 4 (st m c ((pt 3 10).val + 1)).dpar := par_after m c (holds h) 3 (by decide) 10 (by decide)

theorem rest_done (b : Fin 8) (hb : 4 ≤ b.val) (d : Fin 1024) : (st m c ((pt 3 10).val + 1)).dpar (ix2 b d) = (0 : EReal) := (par_done h).rest b hb d

theorem out_shift (d : Fin 1024) : (dats m 0 c).arrAt 15 cfg0.N (ix2 0 d) = (pS a d : EReal) :=
  (arr15 m c 0 d).trans (((par_done h).shift d).trans (congrArg _ (upto_all _)))
theorem out_scale (d : Fin 1024) : (dats m 0 c).arrAt 15 cfg0.N (ix2 1 d) = (pC a d : EReal) :=
  (arr15 m c 1 d).trans (((par_done h).scale d).trans (congrArg _ (upto_all _)))
theorem out_gate (d : Fin 1024) : (dats m 0 c).arrAt 15 cfg0.N (ix2 2 d) = (pA a d : EReal) :=
  (arr15 m c 2 d).trans (((par_done h).gate d).trans (congrArg _ (upto_all _)))
theorem out_gain (d : Fin 1024) : (dats m 0 c).arrAt 15 cfg0.N (ix2 3 d) = (pN a d : EReal) :=
  (arr15 m c 3 d).trans (((par_done h).gain d).trans (congrArg _ (upto_all _)))
theorem out_rest (b : Fin 8) (hb : 4 ≤ b.val) (d : Fin 1024) : (dats m 0 c).arrAt 15 cfg0.N (ix2 b d) = (0 : EReal) :=
  (arr15 m c b d).trans (rest_done h b hb d)
end

/-! ### The runs -/

section
variable {F : FTy → Type} [FloatOps F] (m : (ℓ : Loc nD τ sig) → Buf (Elt F) ℓ) (ρ : Dev nD → PrngReg)

/-- A run leaves the arguments as they were. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  frame_of m ρ (dats m) (A_eq m) (run_main m ρ)

/-- A run leaves the arguments as they were and every semaphore at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) ∧ r.2.sem = fun _ => 0) :=
  θ_run_and (unchanged m ρ) ((θ_run defs _ _).mono (fun _ h => h.2) (run_main_quiescent m ρ))
end

end Cert.Kernel4Ideal.Tok
-- ==== Proof.TokBits.lean ====
module

public import proofs.«01_k».proof.Defs
public import proofs.«01_k».proof.Proof.Gen.Kernel4
public import proofs.«01_k».proof.Proof.TokArr

@[expose] public section

set_option maxRecDepth 16384

noncomputable section

open Idealize.ShloMosaic Idealize.ShloMosaic.TcCoe Idealize.SL.Sem

/-! The run over the device's own floats: the two programs have one text, so the run written over any float values
serves for both. -/
namespace Cert.Tok

set_option maxHeartbeats 8000000 in
/-- The bodies of the two programs are the same. -/
theorem body_eq : Cert.Kernel4.defs₀ (F := Bits) = Cert.Kernel4Ideal.defs₀ (F := Bits) := by
  delta Cert.Kernel4.defs₀ Cert.Kernel4Ideal.defs₀
  congr 1
  funext l x
  match l, x with
  | 0, (t, s) => rfl
  | ⟨_ + 1, h⟩, _ => exact absurd h (Nat.not_lt.2 (Nat.le_add_left _ _))

set_option maxHeartbeats 8000000 in
/-- So are the bodies with the pipeline around them. -/
theorem defs_eq : Cert.Kernel4.defs (F := Bits) = Cert.Kernel4Ideal.defs (F := Bits) :=
  congrArg (Pipeline.defs (Cert.Kernel4Ideal.pcfgs (F := Bits))) body_eq

set_option maxHeartbeats 8000000 in
/-- The kernel runs, leaves its arguments unchanged, and every counter at zero. -/
theorem frame_kernel : quiescent_Kernel4 := fun m g _ => by
  rw [defs_eq]
  exact Cert.Kernel4Ideal.Tok.frame (F := Bits) m g

end Cert.Tok
-- ==== Proof.TokClaim.lean ====
module

public import proofs.«01_k».proof.Defs
public import proofs.«01_k».proof.Proof.Gen.Kernel4
public import proofs.«01_k».proof.Proof.Gen.Pre_finite_ffn
public import proofs.«01_k».proof.Proof.Gen.Reference4Ideal.Run
public import proofs.«01_k».proof.Proof.TokBits
public import proofs.«01_k».proof.Proof.SguClaim
public import proofs.«01_k».proof.Proof.FwdClaim
public import Idealize.ShloMosaic.Lib.Quiescent

@[expose] public section

set_option maxRecDepth 16384

noncomputable section

open Idealize.ShloMosaic Idealize.ShloMosaic.TcCoe Idealize.SL.Sem

/-! The claims about the backward pass of the feed-forward sublayer over the rows. -/
namespace Cert.Tok

open Cert.Sgu (real_of ext2)
open Cert.Kernel4Ideal.Tok (row unit)

theorem frame_reference : ∀ (m : (ℓ : Loc Cert.Reference4Ideal.nD Cert.Reference4Ideal.τ Cert.Reference4Ideal.sig) → Buf (Elt Ideal) ℓ) (g : Dev Cert.Reference4Ideal.nD → PrngReg),
    θ_run (Cert.Reference4Ideal.defs (F := Ideal)) (onTc (τ := Cert.Reference4Ideal.τ) (Cert.Reference4Ideal.main (F := Ideal))) ⟨m, fun _ => 0, g⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
        ∧ r.2.sem = fun _ => 0) := fun m g =>
  (θ_run Cert.Reference4Ideal.defs _ _).mono (fun r h => ⟨fun c => (h c).2.2.2.2.2.2, sem_eq_zero_of_no_sems rfl r.2⟩) (Cert.Reference4Ideal.Value.run m g)

section
variable (m : (ℓ : Loc Cert.Kernel4Ideal.nD Cert.Kernel4Ideal.τ Cert.Kernel4Ideal.sig) → Buf (Elt Ideal) ℓ) (c : Dev Cert.Kernel4Ideal.nD)

/-- The real arrays behind finite arguments. -/
def reals : TokR.Data where
  H t d := EReal.toReal (Cert.Kernel4Ideal.Tok.rows m c (ix2 t d))
  D t d := EReal.toReal (Cert.Kernel4Ideal.Tok.dho m c (ix2 t d))
  S d := EReal.toReal (Cert.Kernel4Ideal.Tok.modl m c (ix2 0 d))
  C d := EReal.toReal (Cert.Kernel4Ideal.Tok.modl m c (ix2 1 d))
  A d := EReal.toReal (Cert.Kernel4Ideal.Tok.modl m c (ix2 2 d))
  N d := EReal.toReal (Cert.Kernel4Ideal.Tok.gain m c (ix1 d))
  Wg f d := EReal.toReal (Cert.Kernel4Ideal.Tok.wgate m c (ix2 d f))
  Wu f d := EReal.toReal (Cert.Kernel4Ideal.Tok.wup m c (ix2 d f))
  Wd f d := EReal.toReal (Cert.Kernel4Ideal.Tok.wdown m c (ix2 f d))

theorem args (h : Pre_Kernel4Ideal_finite_ffn m) : Cert.Kernel4Ideal.Tok.Args m c (reals m c) where
  hH t d := real_of _ _ (h c).1 _
  hS d := real_of _ _ (h c).2.1 _
  hC d := real_of _ _ (h c).2.1 _
  hA d := real_of _ _ (h c).2.1 _
  hN d := real_of _ _ (h c).2.2.1 _
  hg d f := real_of _ _ (h c).2.2.2.1 _
  hu d f := real_of _ _ (h c).2.2.2.2.1 _
  hd f d := real_of _ _ (h c).2.2.2.2.2.1 _
  hD t d := real_of _ _ (h c).2.2.2.2.2.2 _
end

set_option maxHeartbeats 8000000 in
/-- On finite arguments the kernel's six results are the reference's. -/
theorem algebraic : algebraic_Kernel4Ideal_Reference4Ideal_pre_finite_ffn := by
  intro m g m' g' hpre hargs
  refine ⟨fun c => (Cert.Kernel4Ideal.Tok.dats m 0 c).arrAt 10 Cert.Kernel4Ideal.cfg0.N, fun c => (Cert.Kernel4Ideal.Tok.dats m 0 c).arrAt 11 Cert.Kernel4Ideal.cfg0.N,
    fun c => (Cert.Kernel4Ideal.Tok.dats m 0 c).arrAt 12 Cert.Kernel4Ideal.cfg0.N, fun c => (Cert.Kernel4Ideal.Tok.dats m 0 c).arrAt 13 Cert.Kernel4Ideal.cfg0.N,
    fun c => (Cert.Kernel4Ideal.Tok.dats m 0 c).arrAt 14 Cert.Kernel4Ideal.cfg0.N, fun c => (Cert.Kernel4Ideal.Tok.dats m 0 c).arrAt 15 Cert.Kernel4Ideal.cfg0.N,
    (θ_run Cert.Kernel4Ideal.defs _ _).mono (fun r h c => ⟨(h.1 c).1 10, (h.1 c).1 11, (h.1 c).1 12, (h.1 c).1 13, (h.1 c).1 14, (h.1 c).1 15, h.2 c⟩) (θ_run_and (Cert.Kernel4Ideal.Tok.run_main m g) (Cert.Kernel4Ideal.Tok.unchanged m g)), ?_⟩
  refine (θ_run Cert.Reference4Ideal.defs _ _).mono (fun r h c => ?_) (Cert.Reference4Ideal.Value.run m' g')
  obtain ⟨e0, e1, e2, e3, e4, e5, k⟩ := h c
  have a := args m c hpre
  obtain ⟨h0, h1, h2, h3, h4, h5, h6⟩ := hargs c
  have b : Cert.Reference4Ideal.Tok.Holds (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6)) (reals m c) := by
    rw [h0, h1, h2, h3, h4, h5, h6]; exact a
  refine ⟨e0.trans ((Cert.Reference4Ideal.Read.val_main_v93_eq _).trans ?_), e1.trans ((Cert.Reference4Ideal.Read.val_main_v144_eq _).trans ?_),
    e2.trans ((Cert.Reference4Ideal.Read.val_main_v145_eq _).trans ?_), e3.trans ((Cert.Reference4Ideal.Read.val_main_v146_eq _).trans ?_),
    e4.trans ((Cert.Reference4Ideal.Read.val_main_v147_eq _).trans ?_), e5.trans ((Cert.Reference4Ideal.Read.val_main_v143_eq _).trans ?_), k⟩
  · exact Cert.Fwd.ext_rows _ _ fun j r d => (Cert.Reference4Ideal.Tok.v93_at b _ d).trans (Cert.Kernel4Ideal.Tok.out_dhin a j r d).symm
  · exact Cert.Fwd.ext_units _ _ fun j k r i => (Cert.Reference4Ideal.Tok.v140_at b _ _).trans (Cert.Kernel4Ideal.Tok.out_dg a j k r i).symm
  · exact Cert.Fwd.ext_units _ _ fun j k r i => (Cert.Reference4Ideal.Tok.v138_at b _ _).trans (Cert.Kernel4Ideal.Tok.out_du a j k r i).symm
  · exact Cert.Fwd.ext_rows _ _ fun j r d => (Cert.Reference4Ideal.Tok.v118_at b _ d).trans (Cert.Kernel4Ideal.Tok.out_y a j r d).symm
  · exact Cert.Fwd.ext_rows _ _ fun j r d => (Cert.Reference4Ideal.Tok.v131_at b _ d).trans (Cert.Kernel4Ideal.Tok.out_dfb a j r d).symm
  · refine ext2 _ _ fun p d => ?_
    by_cases hp : 4 ≤ p.val
    · exact (Cert.Reference4Ideal.Tok.v143_4 p hp d).trans (Cert.Kernel4Ideal.Tok.out_rest a p hp d).symm
    · match p, hp with
      | ⟨0, _⟩, _ => exact (Cert.Reference4Ideal.Tok.v143_0 b d).trans (Cert.Kernel4Ideal.Tok.out_shift a d).symm
      | ⟨1, _⟩, _ => exact (Cert.Reference4Ideal.Tok.v143_1 b d).trans (Cert.Kernel4Ideal.Tok.out_scale a d).symm
      | ⟨2, _⟩, _ => exact (Cert.Reference4Ideal.Tok.v143_2 b d).trans (Cert.Kernel4Ideal.Tok.out_gate a d).symm
      | ⟨3, _⟩, _ => exact (Cert.Reference4Ideal.Tok.v143_3 b d).trans (Cert.Kernel4Ideal.Tok.out_gain a d).symm
      | ⟨n + 4, _⟩, hp => exact absurd (Nat.le_add_left 4 n) hp

end Cert.Tok
-- ==== Proof.BlockSum.lean ====
module

public import proofs.«01_k».proof.Proof.FfnArr

@[expose] public section

noncomputable section

/-! A sum taken block by block, for a kernel whose accumulator is told point by point. -/
namespace Cert.Blocked

/-- A value that starts at the first block's sum and grows by the next block's at each point holds the whole sum at the last point. -/
theorem sum_points {M : Type} [AddCommMonoid M] {B n N : Nat} (hN : B * (n + 1) = N) (pos : Fin (n + 1) → Fin B → Fin N)
    (hpos : ∀ k q, (pos k q).val = B * k.val + q.val) (g : Fin N → M) (x : Fin (n + 1) → M)
    (h0 : x 0 = ∑ q, g (pos 0 q))
    (hs : ∀ (k : Nat) (hk : k + 1 < n + 1), x ⟨k + 1, hk⟩ = x ⟨k, Nat.lt_of_succ_lt hk⟩ + ∑ q, g (pos ⟨k + 1, hk⟩ q)) :
    x (Fin.last n) = ∑ i, g i := by
  have e : ∀ k q, ext g (B * k.val + q.val) = g (pos k q) := fun k q =>
    (dif_pos ((hpos k q) ▸ (pos k q).isLt)).trans (congrArg g (Fin.ext (hpos k q).symm))
  refine sum_blocks B n N hN g (fun k hk => x ⟨k, Nat.lt_succ_of_le hk⟩) ?_ ?_
  · refine h0.trans (Finset.sum_congr rfl fun q _ => ?_)
    rw [← e]
    simp
  · intro k hk
    refine (hs k (Nat.lt_succ_of_le hk)).trans (congrArg _ (Finset.sum_congr rfl fun q _ => ?_))
    rw [← e]

end Cert.Blocked
-- ==== Proof.ProjOut.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.BlockSum
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel5Ideal.ProjOut

open Cert.Kernel5Ideal Cert.Kernel5Ideal.Gen

/-! The gradient of the output projection that the region leaves, as a sum over all the rows. -/

variable (m : (ℓ : Loc nD τ sig) → Buf (Elt Ideal) ℓ)

theorem zero_at (i : Fin 512) (d : Fin 1024) : k0_pay1 (F := Idealize.ShloMosaic.Ideal) (ix2 i d) = 0 := by
  unfold_payloads; pointwise

theorem step_at (l : Vec Ideal S1024x512 .bf16) (r : Vec Ideal S1024x1024 .bf16) (p : Vec Ideal S512x1024 .f32) (i : Fin 512) (d : Fin 1024) :
    k0_pay2 p l r (ix2 i d) = p (ix2 i d) + ∑ k : Fin 1024, l (ix2 k i) * r (ix2 k d) := by
  unfold_payloads; pointwise

theorem narrow_at (X : Vec Ideal S512x1024 .f32) (i : Fin 512) (d : Fin 1024) : k0_pay3 X (ix2 i d) = X (ix2 i d) := by
  unfold_payloads; pointwise

theorem acc_A (c : Dev nD) (t : Fin cfg0.N) (h : t.val % 4 = 0) :
    (outsAt0 m c t.val t.isLt).2 = k0_pay2 (F := Idealize.ShloMosaic.Ideal) (k0_pay1 (F := Idealize.ShloMosaic.Ideal)) (iblk m c 0 t) (iblk m c 1 t) := by
  rw [outsAt0_A m c t h (by omega)]; frame_open
  simp (disch := decide) only [↓ View.readCov_skip, ↓ View.readCov_cons_toLoadRect, ↓ View.readCov_fill]
  frame_out

/-- One step of the accumulator: the block product of two input blocks is added. -/
def step (l : Vec Ideal S1024x512 .bf16) (r : Vec Ideal S1024x1024 .bf16) (p : Vec Ideal S512x1024 .f32) : Vec Ideal S512x1024 .f32 := k0_pay2 p l r

theorem acc_B (c : Dev nD) (t : Fin cfg0.N) (h : ¬ t.val % 4 = 0) :
    (outsAt0 m c t.val t.isLt).2
      = step (iblk m c 0 t) (iblk m c 1 t) (outsAt0 m c (t.val - 1) (Nat.lt_of_le_of_lt (Nat.sub_le _ _) t.isLt)).2 := by
  by_cases h1 : t.val % 4 = 3
  · rw [outsAt0_C m c t h h1]; frame_open
    simp (disch := decide) only [↓ View.readCov_skip, ↓ View.readCov_cons_toLoadRect, ↓ View.readCov_fill]
    frame_out
    exact congrArg (step _ _) (Memref.IsWhole.read_unread _ _)
  · rw [outsAt0_B m c t h h1]; frame_open
    simp (disch := decide) only [↓ View.readCov_skip, ↓ View.readCov_cons_toLoadRect, ↓ View.readCov_fill]
    frame_out
    exact congrArg (step _ _) (Memref.IsWhole.read_unread _ _)

theorem out_C (c : Dev nD) (t : Fin cfg0.N) (h : t.val % 4 = 3) (i : Fin 512) (d : Fin 1024) :
    (outsAt0 m c t.val t.isLt).1 (ix2 i d) = (outsAt0 m c t.val t.isLt).2 (ix2 i d) := by
  rw [outsAt0_C m c t (by omega) h]; frame_open
  simp (disch := decide) only [↓ View.readCov_skip, ↓ View.readCov_cons_toLoadRect, ↓ View.readCov_fill]
  frame_out
  exact narrow_at _ i d

theorem idx : ∀ t : Fin cfg0.N, win0_0.index t = ![t.val % 4, t.val / 4] ∧ win0_1.index t = ![t.val % 4, 0] :=
  (by decide +kernel : ∀ t : Fin grid0.N, _)

/-- The point of column half `j` and row block `k`. -/
def pt (j : Fin 2) (k : Fin 4) : Fin cfg0.N := ⟨4 * j.val + k.val, lt_of_lt_of_eq (b := 8) (by omega) (by decide)⟩
theorem pt_mod (j : Fin 2) (k : Fin 4) : (pt j k).val % 4 = k.val := by simp only [pt]; omega
theorem pt_div (j : Fin 2) (k : Fin 4) : (pt j k).val / 4 = j.val := by simp only [pt]; omega

def row (k : Fin 4) (r : Fin 1024) : Fin 4096 := ⟨1024 * k.val + r.val, by omega⟩
def col (j : Fin 2) (i : Fin 512) : Fin 1024 := ⟨512 * j.val + i.val, by omega⟩

/-- The left array when the region is entered, and its block at a point. -/
abbrev in0 (c : Dev nD) : Vec Ideal S4096x1024 .bf16 := V m c main_v0
theorem blk0 (c : Dev nD) (j : Fin 2) (k : Fin 4) (r : Fin 1024) (i : Fin 512) :
    (iblk m c 0 (pt j k) : Vec Ideal S1024x512 .bf16) (ix2 r i) = in0 m c (ix2 (row k r) (col j i)) := by
  obtain ⟨e0, e1⟩ := idx (pt j k)
  rw [pt_mod, pt_div] at e0
  unfold row col
  blk_ext [iblk, e0]

/-- The right array when the region is entered, and its block at a point. -/
abbrev in1 (c : Dev nD) : Vec Ideal S4096x1024 .bf16 := V m c main_v1
theorem blk1 (c : Dev nD) (j : Fin 2) (k : Fin 4) (r : Fin 1024) (d : Fin 1024) :
    (iblk m c 1 (pt j k) : Vec Ideal S1024x1024 .bf16) (ix2 r d) = in1 m c (ix2 (row k r) d) := by
  obtain ⟨e0, e1⟩ := idx (pt j k)
  rw [pt_mod] at e1
  unfold row
  blk_ext [iblk, e1]

theorem blocks (c : Dev nD) (j : Fin 2) (k : Fin 4) (i : Fin 512) (d : Fin 1024) (p : Vec Ideal S512x1024 .f32) :
    step (iblk m c 0 (pt j k)) (iblk m c 1 (pt j k)) p (ix2 i d)
      = p (ix2 i d) + ∑ q : Fin 1024, in0 m c (ix2 (row k q) (col j i)) * in1 m c (ix2 (row k q) d) := by
  refine (step_at _ _ _ i d).trans (congrArg _ (Finset.sum_congr rfl fun q _ => ?_))
  rw [blk0, blk1]

theorem acc_sum (c : Dev nD) (j : Fin 2) (i : Fin 512) (d : Fin 1024) :
    (outsAt0 m c (pt j 3).val (pt j 3).isLt).2 (ix2 i d) = ∑ t : Fin 4096, in0 m c (ix2 t (col j i)) * in1 m c (ix2 t d) := by
  refine Blocked.sum_points (B := 1024) (n := 3) rfl row (fun _ _ => rfl) (fun t => in0 m c (ix2 t (col j i)) * in1 m c (ix2 t d))
    (fun k => (outsAt0 m c (pt j k).val (pt j k).isLt).2 (ix2 i d)) ?_ ?_
  · refine (congrFun (acc_A m c (pt j 0) (by rw [pt_mod]; rfl)) _).trans ((blocks m c j 0 i d _).trans ?_)
    rw [zero_at, zero_add]
  · intro k hk
    exact (congrFun (acc_B m c (pt j ⟨k + 1, hk⟩) (by rw [pt_mod]; exact Nat.succ_ne_zero k)) _).trans (blocks m c j ⟨k + 1, hk⟩ i d _)

theorem arr_at (c : Dev nD) (j : Fin 2) (i : Fin 512) (d : Fin 1024) :
    Value.G2 m c (ix2 (col j i) d) = ∑ t : Fin 4096, in0 m c (ix2 t (col j i)) * in1 m c (ix2 t d) := by
  have hp : Value.pt2Of (ix2 (col j i) d) = (pt j 3).val := by
    show 4 * (1 * ((512 * j.val + i.val) / 512 - 0) + 1 * (d.val / 1024 - 0)) + 3 = 4 * j.val + 3
    omega
  have hl : Value.loc2Of (ix2 (col j i) d) = ix2 i d := by
    funext a; apply Fin.ext
    match a with
    | ⟨0, _⟩ => show (512 * j.val + i.val) % 512 = i.val; omega
    | ⟨1, _⟩ => show d.val % 1024 = d.val; omega
  refine Eq.trans ?_ ((out_C m c (pt j 3) (pt_mod j 3) i d).trans (acc_sum m c j i d))
  unfold Value.G2
  rw [dif_pos (by rw [hp]; exact (pt j 3).isLt), hl, Value.outsAt0_sweep, Value.fold0_congr m c _ _ _ _ hp]

theorem V_v0 (c : Dev nD) : V m c main_v0 = (m ((c : Thread nD τ).loc main_arg0) : S4096x1024.Idx → EReal) := by
  unfold V hostOps0
  after_results
  rfl
theorem V_v1 (c : Dev nD) : V m c main_v1 = (m ((c : Thread nD τ).loc main_arg2) : S4096x1024.Idx → EReal) := by
  unfold V hostOps0
  after_results
  rfl

end Cert.Kernel5Ideal.ProjOut

/-! The claims about the gradient of the output projection. -/
namespace Cert.ProjOut

theorem frame_reference : ∀ (m : (ℓ : Loc Cert.Reference5Ideal.nD Cert.Reference5Ideal.τ Cert.Reference5Ideal.sig) → Buf (Elt Ideal) ℓ) (g : Dev Cert.Reference5Ideal.nD → PrngReg),
    θ_run (Cert.Reference5Ideal.defs (F := Ideal)) (onTc (τ := Cert.Reference5Ideal.τ) (Cert.Reference5Ideal.main (F := Ideal))) ⟨m, fun _ => 0, g⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
        ∧ r.2.sem = fun _ => 0) := fun m g =>
  (θ_run Cert.Reference5Ideal.defs _ _).mono (fun r h => ⟨fun c => (h c).2, sem_eq_zero_of_no_sems rfl r.2⟩) (Cert.Reference5Ideal.Value.run m g)

open Cert.Reference5Ideal Cert.Reference5Ideal.Read in
theorem reference_at (x : Vec Ideal S4096x1024 .f32) (ct : Vec Ideal S4096x1024 .f32) (i : Fin 1024) (d : Fin 1024) :
    val_main_v3 (F := Ideal) x ct (ix2 i d) = ∑ t : Fin 4096, x (ix2 t i) * ct (ix2 t d) := by
  unfold val_main_v3 val_main_v2 val_main_v1
  pointwise
  exact Finset.sum_congr rfl fun t _ => mul_comm _ _

open Cert.Kernel5Ideal.ProjOut in
theorem agree (m : (ℓ : Loc Cert.Kernel5Ideal.nD Cert.Kernel5Ideal.τ Cert.Kernel5Ideal.sig) → Buf (Elt Ideal) ℓ) (c : Dev Cert.Kernel5Ideal.nD)
    (x : Vec Ideal Cert.Kernel5Ideal.S4096x1024 .f32) (ct : Vec Ideal Cert.Kernel5Ideal.S4096x1024 .f32)
    (hx : x = m ((c.tc : Thread Cert.Kernel5Ideal.nD Cert.Kernel5Ideal.τ).loc Cert.Kernel5Ideal.main_arg0))
    (hc : ct = m ((c.tc : Thread Cert.Kernel5Ideal.nD Cert.Kernel5Ideal.τ).loc Cert.Kernel5Ideal.main_arg2)) :
    (Cert.Reference5Ideal.Read.val_main_v3 (F := Ideal) x ct : Cert.Kernel5Ideal.S1024x1024.Idx → EReal) = Cert.Kernel5Ideal.Value.G2 m c := by
  subst hx hc
  funext q
  obtain ⟨f, d, rfl⟩ : ∃ (f : Fin 1024) (d : Fin 1024), q = ix2 f d := ⟨q 0, q 1, by funext a; fin_cases a <;> rfl⟩
  have hf : f = col ⟨f.val / 512, by omega⟩ ⟨f.val % 512, by omega⟩ := Fin.ext (by simp only [col]; omega)
  rw [hf]
  refine (reference_at _ _ _ _).trans (Eq.trans ?_ (arr_at m c _ _ d).symm)
  exact Finset.sum_congr rfl fun t _ => congrArg₂ (· * · : EReal → EReal → EReal) (congrFun (V_v0 m c) _).symm (congrFun (V_v1 m c) _).symm

theorem algebraic : algebraic_Kernel5Ideal_Reference5Ideal := by
  intro m g m' g' hpre hargs
  refine ⟨fun c => Cert.Kernel5Ideal.Value.G2 m c, Cert.Kernel5Ideal.Value.run m g, ?_⟩
  refine (θ_run Cert.Reference5Ideal.defs _ _).mono (fun r h c => ?_) (Cert.Reference5Ideal.Value.run m' g')
  obtain ⟨e, k⟩ := h c
  obtain ⟨h0, h1, h2⟩ := hargs c
  exact ⟨e.trans ((Cert.Reference5Ideal.Read.val_main_v3_eq _ _).trans (agree m c _ _ h0 h2)), k⟩

end Cert.ProjOut
-- ==== Proof.ProjIn.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.BlockSum
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel6Ideal.ProjIn

open Cert.Kernel6Ideal Cert.Kernel6Ideal.Gen

/-! The gradient of the input projection that the region leaves, as a sum over all the rows. -/

variable (m : (ℓ : Loc nD τ sig) → Buf (Elt Ideal) ℓ)

theorem zero_at (i : Fin 1280) (d : Fin 1024) : k0_pay1 (F := Idealize.ShloMosaic.Ideal) (ix2 i d) = 0 := by
  unfold_payloads; pointwise

theorem step_at (l : Vec Ideal S1024x1280 .bf16) (r : Vec Ideal S1024x1024 .bf16) (p : Vec Ideal S1280x1024 .f32) (i : Fin 1280) (d : Fin 1024) :
    k0_pay2 p l r (ix2 i d) = p (ix2 i d) + ∑ k : Fin 1024, l (ix2 k i) * r (ix2 k d) := by
  unfold_payloads; pointwise

theorem narrow_at (X : Vec Ideal S1280x1024 .f32) (i : Fin 1280) (d : Fin 1024) : k0_pay3 X (ix2 i d) = X (ix2 i d) := by
  unfold_payloads; pointwise

theorem acc_A (c : Dev nD) (t : Fin cfg0.N) (h : t.val % 4 = 0) :
    (outsAt0 m c t.val t.isLt).2 = k0_pay2 (F := Idealize.ShloMosaic.Ideal) (k0_pay1 (F := Idealize.ShloMosaic.Ideal)) (iblk m c 0 t) (iblk m c 1 t) := by
  rw [outsAt0_A m c t h (by omega)]; frame_open
  simp (disch := decide) only [↓ View.readCov_skip, ↓ View.readCov_cons_toLoadRect, ↓ View.readCov_fill]
  frame_out

/-- One step of the accumulator: the block product of two input blocks is added. -/
def step (l : Vec Ideal S1024x1280 .bf16) (r : Vec Ideal S1024x1024 .bf16) (p : Vec Ideal S1280x1024 .f32) : Vec Ideal S1280x1024 .f32 := k0_pay2 p l r

theorem acc_B (c : Dev nD) (t : Fin cfg0.N) (h : ¬ t.val % 4 = 0) :
    (outsAt0 m c t.val t.isLt).2
      = step (iblk m c 0 t) (iblk m c 1 t) (outsAt0 m c (t.val - 1) (Nat.lt_of_le_of_lt (Nat.sub_le _ _) t.isLt)).2 := by
  by_cases h1 : t.val % 4 = 3
  · rw [outsAt0_C m c t h h1]; frame_open
    simp (disch := decide) only [↓ View.readCov_skip, ↓ View.readCov_cons_toLoadRect, ↓ View.readCov_fill]
    frame_out
    exact congrArg (step _ _) (Memref.IsWhole.read_unread _ _)
  · rw [outsAt0_B m c t h h1]; frame_open
    simp (disch := decide) only [↓ View.readCov_skip, ↓ View.readCov_cons_toLoadRect, ↓ View.readCov_fill]
    frame_out
    exact congrArg (step _ _) (Memref.IsWhole.read_unread _ _)

theorem out_C (c : Dev nD) (t : Fin cfg0.N) (h : t.val % 4 = 3) (i : Fin 1280) (d : Fin 1024) :
    (outsAt0 m c t.val t.isLt).1 (ix2 i d) = (outsAt0 m c t.val t.isLt).2 (ix2 i d) := by
  rw [outsAt0_C m c t (by omega) h]; frame_open
  simp (disch := decide) only [↓ View.readCov_skip, ↓ View.readCov_cons_toLoadRect, ↓ View.readCov_fill]
  frame_out
  exact narrow_at _ i d

theorem idx : ∀ t : Fin cfg0.N, win0_0.index t = ![t.val % 4, t.val / 4] ∧ win0_1.index t = ![t.val % 4, 0] :=
  (by decide +kernel : ∀ t : Fin grid0.N, _)

/-- The point of column half `j` and row block `k`. -/
def pt (j : Fin 2) (k : Fin 4) : Fin cfg0.N := ⟨4 * j.val + k.val, lt_of_lt_of_eq (b := 8) (by omega) (by decide)⟩
theorem pt_mod (j : Fin 2) (k : Fin 4) : (pt j k).val % 4 = k.val := by simp only [pt]; omega
theorem pt_div (j : Fin 2) (k : Fin 4) : (pt j k).val / 4 = j.val := by simp only [pt]; omega

def row (k : Fin 4) (r : Fin 1024) : Fin 4096 := ⟨1024 * k.val + r.val, by omega⟩
def col (j : Fin 2) (i : Fin 1280) : Fin 2560 := ⟨1280 * j.val + i.val, by omega⟩

/-- The left array when the region is entered, and its block at a point. -/
abbrev in0 (c : Dev nD) : Vec Ideal S4096x2560 .bf16 := V m c main_v0
theorem blk0 (c : Dev nD) (j : Fin 2) (k : Fin 4) (r : Fin 1024) (i : Fin 1280) :
    (iblk m c 0 (pt j k) : Vec Ideal S1024x1280 .bf16) (ix2 r i) = in0 m c (ix2 (row k r) (col j i)) := by
  obtain ⟨e0, e1⟩ := idx (pt j k)
  rw [pt_mod, pt_div] at e0
  unfold row col
  blk_ext [iblk, e0]

/-- The right array when the region is entered, and its block at a point. -/
abbrev in1 (c : Dev nD) : Vec Ideal S4096x1024 .bf16 := V m c main_v1
theorem blk1 (c : Dev nD) (j : Fin 2) (k : Fin 4) (r : Fin 1024) (d : Fin 1024) :
    (iblk m c 1 (pt j k) : Vec Ideal S1024x1024 .bf16) (ix2 r d) = in1 m c (ix2 (row k r) d) := by
  obtain ⟨e0, e1⟩ := idx (pt j k)
  rw [pt_mod] at e1
  unfold row
  blk_ext [iblk, e1]

theorem blocks (c : Dev nD) (j : Fin 2) (k : Fin 4) (i : Fin 1280) (d : Fin 1024) (p : Vec Ideal S1280x1024 .f32) :
    step (iblk m c 0 (pt j k)) (iblk m c 1 (pt j k)) p (ix2 i d)
      = p (ix2 i d) + ∑ q : Fin 1024, in0 m c (ix2 (row k q) (col j i)) * in1 m c (ix2 (row k q) d) := by
  refine (step_at _ _ _ i d).trans (congrArg _ (Finset.sum_congr rfl fun q _ => ?_))
  rw [blk0, blk1]

theorem acc_sum (c : Dev nD) (j : Fin 2) (i : Fin 1280) (d : Fin 1024) :
    (outsAt0 m c (pt j 3).val (pt j 3).isLt).2 (ix2 i d) = ∑ t : Fin 4096, in0 m c (ix2 t (col j i)) * in1 m c (ix2 t d) := by
  refine Blocked.sum_points (B := 1024) (n := 3) rfl row (fun _ _ => rfl) (fun t => in0 m c (ix2 t (col j i)) * in1 m c (ix2 t d))
    (fun k => (outsAt0 m c (pt j k).val (pt j k).isLt).2 (ix2 i d)) ?_ ?_
  · refine (congrFun (acc_A m c (pt j 0) (by rw [pt_mod]; rfl)) _).trans ((blocks m c j 0 i d _).trans ?_)
    rw [zero_at, zero_add]
  · intro k hk
    exact (congrFun (acc_B m c (pt j ⟨k + 1, hk⟩) (by rw [pt_mod]; exact Nat.succ_ne_zero k)) _).trans (blocks m c j ⟨k + 1, hk⟩ i d _)

theorem arr_at (c : Dev nD) (j : Fin 2) (i : Fin 1280) (d : Fin 1024) :
    Value.G2 m c (ix2 (col j i) d) = ∑ t : Fin 4096, in0 m c (ix2 t (col j i)) * in1 m c (ix2 t d) := by
  have hp : Value.pt2Of (ix2 (col j i) d) = (pt j 3).val := by
    show 4 * (1 * ((1280 * j.val + i.val) / 1280 - 0) + 1 * (d.val / 1024 - 0)) + 3 = 4 * j.val + 3
    omega
  have hl : Value.loc2Of (ix2 (col j i) d) = ix2 i d := by
    funext a; apply Fin.ext
    match a with
    | ⟨0, _⟩ => show (1280 * j.val + i.val) % 1280 = i.val; omega
    | ⟨1, _⟩ => show d.val % 1024 = d.val; omega
  refine Eq.trans ?_ ((out_C m c (pt j 3) (pt_mod j 3) i d).trans (acc_sum m c j i d))
  unfold Value.G2
  rw [dif_pos (by rw [hp]; exact (pt j 3).isLt), hl, Value.outsAt0_sweep, Value.fold0_congr m c _ _ _ _ hp]

theorem V_v0 (c : Dev nD) : V m c main_v0 = (m ((c : Thread nD τ).loc main_arg2) : S4096x2560.Idx → EReal) := by
  unfold V hostOps0
  after_results
  rfl
theorem V_v1 (c : Dev nD) : V m c main_v1 = (m ((c : Thread nD τ).loc main_arg0) : S4096x1024.Idx → EReal) := by
  unfold V hostOps0
  after_results
  rfl

end Cert.Kernel6Ideal.ProjIn

/-! The claims about the gradient of the input projection. -/
namespace Cert.ProjIn

theorem frame_reference : ∀ (m : (ℓ : Loc Cert.Reference6Ideal.nD Cert.Reference6Ideal.τ Cert.Reference6Ideal.sig) → Buf (Elt Ideal) ℓ) (g : Dev Cert.Reference6Ideal.nD → PrngReg),
    θ_run (Cert.Reference6Ideal.defs (F := Ideal)) (onTc (τ := Cert.Reference6Ideal.τ) (Cert.Reference6Ideal.main (F := Ideal))) ⟨m, fun _ => 0, g⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
        ∧ r.2.sem = fun _ => 0) := fun m g =>
  (θ_run Cert.Reference6Ideal.defs _ _).mono (fun r h => ⟨fun c => (h c).2, sem_eq_zero_of_no_sems rfl r.2⟩) (Cert.Reference6Ideal.Value.run m g)

open Cert.Reference6Ideal Cert.Reference6Ideal.Read in
theorem reference_at (x : Vec Ideal S4096x1024 .f32) (ct : Vec Ideal S4096x2560 .f32) (i : Fin 2560) (d : Fin 1024) :
    val_main_v4 (F := Ideal) x ct (ix2 i d) = ∑ t : Fin 4096, ct (ix2 t i) * x (ix2 t d) := by
  unfold val_main_v4 val_main_v3 val_main_v2 val_main_v1
  pointwise

open Cert.Kernel6Ideal.ProjIn in
theorem agree (m : (ℓ : Loc Cert.Kernel6Ideal.nD Cert.Kernel6Ideal.τ Cert.Kernel6Ideal.sig) → Buf (Elt Ideal) ℓ) (c : Dev Cert.Kernel6Ideal.nD)
    (x : Vec Ideal Cert.Kernel6Ideal.S4096x1024 .f32) (ct : Vec Ideal Cert.Kernel6Ideal.S4096x2560 .f32)
    (hx : x = m ((c.tc : Thread Cert.Kernel6Ideal.nD Cert.Kernel6Ideal.τ).loc Cert.Kernel6Ideal.main_arg0))
    (hc : ct = m ((c.tc : Thread Cert.Kernel6Ideal.nD Cert.Kernel6Ideal.τ).loc Cert.Kernel6Ideal.main_arg2)) :
    (Cert.Reference6Ideal.Read.val_main_v4 (F := Ideal) x ct : Cert.Kernel6Ideal.S2560x1024.Idx → EReal) = Cert.Kernel6Ideal.Value.G2 m c := by
  subst hx hc
  funext q
  obtain ⟨f, d, rfl⟩ : ∃ (f : Fin 2560) (d : Fin 1024), q = ix2 f d := ⟨q 0, q 1, by funext a; fin_cases a <;> rfl⟩
  have hf : f = col ⟨f.val / 1280, by omega⟩ ⟨f.val % 1280, by omega⟩ := Fin.ext (by simp only [col]; omega)
  rw [hf]
  refine (reference_at _ _ _ _).trans (Eq.trans ?_ (arr_at m c _ _ d).symm)
  exact Finset.sum_congr rfl fun t _ => congrArg₂ (· * · : EReal → EReal → EReal) (congrFun (V_v0 m c) _).symm (congrFun (V_v1 m c) _).symm

theorem algebraic : algebraic_Kernel6Ideal_Reference6Ideal := by
  intro m g m' g' hpre hargs
  refine ⟨fun c => Cert.Kernel6Ideal.Value.G2 m c, Cert.Kernel6Ideal.Value.run m g, ?_⟩
  refine (θ_run Cert.Reference6Ideal.defs _ _).mono (fun r h c => ?_) (Cert.Reference6Ideal.Value.run m' g')
  obtain ⟨e, k⟩ := h c
  obtain ⟨h0, h1, h2⟩ := hargs c
  exact ⟨e.trans ((Cert.Reference6Ideal.Read.val_main_v4_eq _ _).trans (agree m c _ _ h0 h2)), k⟩

end Cert.ProjIn
-- ==== Proof.FfnDown.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.BlockSum
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel7Ideal.FfnDown

open Cert.Kernel7Ideal Cert.Kernel7Ideal.Gen
open Cert.KernelIdeal.Sgu (canon_hit canon_miss)

/-! The gradient of the down matrix that the region leaves, as a sum over all the rows. -/

variable (m : (ℓ : Loc nD τ sig) → Buf (Elt Ideal) ℓ)

/-- One step of an accumulator: the block product of two input blocks is added. -/
def step (l : Vec Ideal S512x1408 .bf16) (r : Vec Ideal S512x1024 .bf16) (p : Vec Ideal S1408x1024 .f32) : Vec Ideal S1408x1024 .f32 :=
  k0_pay2 p l r

theorem step_at (l : Vec Ideal S512x1408 .bf16) (r : Vec Ideal S512x1024 .bf16) (p : Vec Ideal S1408x1024 .f32) (i : Fin 1408) (d : Fin 1024) :
    step l r p (ix2 i d) = p (ix2 i d) + ∑ k : Fin 512, l (ix2 k i) * r (ix2 k d) := by
  unfold step; unfold_payloads; pointwise

theorem zero_at (i : Fin 1408) (d : Fin 1024) : k0_pay1 (F := Idealize.ShloMosaic.Ideal) (ix2 i d) = 0 := by
  unfold_payloads; pointwise

theorem acc0_A (c : Dev nD) (t : Fin cfg0.N) (h : t.val % 8 = 0) :
    (outsAt0 m c t.val t.isLt).2 = step (iblk m c 0 t) (iblk m c 1 t) (k0_pay1 (F := Idealize.ShloMosaic.Ideal)) := by
  rw [outsAt0_A m c t h (by omega)]; frame_open
  simp (disch := decide) only [↓ View.readCov_skip, ↓ View.readCov_cons_toLoadRect, ↓ View.readCov_fill]
  frame_out
  rfl

theorem acc0_B (c : Dev nD) (t : Fin cfg0.N) (h : ¬ t.val % 8 = 0) :
    (outsAt0 m c t.val t.isLt).2
      = step (iblk m c 0 t) (iblk m c 1 t) (outsAt0 m c (t.val - 1) (Nat.lt_of_le_of_lt (Nat.sub_le _ _) t.isLt)).2 := by
  by_cases h1 : t.val % 8 = 7
  · rw [outsAt0_C m c t h h1]; frame_open
    simp (disch := decide) only [↓ View.readCov_skip, ↓ View.readCov_cons_toLoadRect, ↓ View.readCov_fill]
    frame_out
    exact congrArg (step _ _) (Memref.IsWhole.read_unread _ _)
  · rw [outsAt0_B m c t h h1]; frame_open
    simp (disch := decide) only [↓ View.readCov_skip, ↓ View.readCov_cons_toLoadRect, ↓ View.readCov_fill]
    frame_out
    exact congrArg (step _ _) (Memref.IsWhole.read_unread _ _)

theorem narrow0_at (X : Vec Ideal S1408x1024 .f32) (i : Fin 1408) (d : Fin 1024) : k0_pay3 X (ix3 0 i d) = X (ix2 i d) := by
  unfold_payloads; pointwise

theorem out0_C (c : Dev nD) (t : Fin cfg0.N) (h : t.val % 8 = 7) (i : Fin 1408) (d : Fin 1024) :
    (outsAt0 m c t.val t.isLt).1 (ix3 0 i d) = (outsAt0 m c t.val t.isLt).2 (ix2 i d) := by
  rw [outsAt0_C m c t (by omega) h]; frame_open
  simp (disch := decide) only [↓ View.readCov_skip, ↓ View.readCov_cons_toLoadRect, ↓ View.readCov_fill]
  frame_out
  exact narrow0_at _ i d

theorem idx : ∀ t : Fin cfg0.N, win0_0.index t = ![t.val % 8, t.val / 8] ∧ win0_1.index t = ![t.val % 8, 0] :=
  (by decide +kernel : ∀ t : Fin grid0.N, _)

/-- The point of column half `j` and row block `k`. -/
def pt (j : Fin 2) (k : Fin 8) : Fin cfg0.N := ⟨8 * j.val + k.val, lt_of_lt_of_eq (b := 16) (by omega) (by decide)⟩
theorem pt_mod (j : Fin 2) (k : Fin 8) : (pt j k).val % 8 = k.val := by simp only [pt]; omega
theorem pt_div (j : Fin 2) (k : Fin 8) : (pt j k).val / 8 = j.val := by simp only [pt]; omega

def row (k : Fin 8) (r : Fin 512) : Fin 4096 := ⟨512 * k.val + r.val, by omega⟩
def col (j : Fin 2) (i : Fin 1408) : Fin 2816 := ⟨1408 * j.val + i.val, by omega⟩

/-- The gated activations when the region is entered, and its block at a point. -/
abbrev in0 (c : Dev nD) : Vec Ideal S4096x2816 .bf16 := V m c main_v5
theorem blk0 (c : Dev nD) (j : Fin 2) (k : Fin 8) (r : Fin 512) (i : Fin 1408) :
    (iblk m c 0 (pt j k) : Vec Ideal S512x1408 .bf16) (ix2 r i) = in0 m c (ix2 (row k r) (col j i)) := by
  have e := (idx (pt j k)).1
  rw [pt_mod, pt_div] at e
  unfold row col
  blk_ext [iblk, e]

/-- The cotangent when the region is entered, and its block at a point. -/
abbrev in1 (c : Dev nD) : Vec Ideal S4096x1024 .bf16 := V m c main_v7
theorem blk1 (c : Dev nD) (j : Fin 2) (k : Fin 8) (r : Fin 512) (d : Fin 1024) :
    (iblk m c 1 (pt j k) : Vec Ideal S512x1024 .bf16) (ix2 r d) = in1 m c (ix2 (row k r) d) := by
  have e := (idx (pt j k)).2
  rw [pt_mod] at e
  unfold row
  blk_ext [iblk, e]

theorem acc0_sum (c : Dev nD) (j : Fin 2) (i : Fin 1408) (d : Fin 1024) :
    (outsAt0 m c (pt j 7).val (pt j 7).isLt).2 (ix2 i d) = ∑ t : Fin 4096, in0 m c (ix2 t (col j i)) * in1 m c (ix2 t d) := by
  have e : ∀ (k : Fin 8) (p : Vec Ideal S1408x1024 .f32), step (iblk m c 0 (pt j k)) (iblk m c 1 (pt j k)) p (ix2 i d)
      = p (ix2 i d) + ∑ q : Fin 512, in0 m c (ix2 (row k q) (col j i)) * in1 m c (ix2 (row k q) d) := fun k p => by
    refine (step_at _ _ _ i d).trans (congrArg _ (Finset.sum_congr rfl fun q _ => ?_))
    rw [blk0, blk1]
  refine Blocked.sum_points (B := 512) (n := 7) rfl row (fun _ _ => rfl) (fun t => in0 m c (ix2 t (col j i)) * in1 m c (ix2 t d))
    (fun k => (outsAt0 m c (pt j k).val (pt j k).isLt).2 (ix2 i d)) ?_ ?_
  · refine (congrFun (acc0_A m c (pt j 0) (by rw [pt_mod]; rfl)) _).trans ((e 0 _).trans ?_)
    rw [zero_at, zero_add]
  · intro k hk
    exact (congrFun (acc0_B m c (pt j ⟨k + 1, hk⟩) (by rw [pt_mod]; exact Nat.succ_ne_zero k)) _).trans (e ⟨k + 1, hk⟩ _)

theorem left_at (c : Dev nD) (b : Fin 1) (j : Fin 2) (i : Fin 1408) (d : Fin 1024) :
    Value.G3 m c (ix3 b (col j i) d) = (outsAt0 m c (pt j 7).val (pt j 7).isLt).1 (ix3 b i d) := by
  have hp : Value.pt3Of (ix3 b (col j i) d) = (pt j 7).val := by
    show 8 * (2 * (b.val / 1 - 0) + 1 * ((1408 * j.val + i.val) / 1408 - 0) + 1 * (d.val / 1024 - 0)) + 7 = 8 * j.val + 7
    omega
  have hl : Value.loc3Of (ix3 b (col j i) d) = ix3 b i d := by
    funext a; apply Fin.ext
    match a with
    | ⟨0, _⟩ => show b.val % 1 = b.val; omega
    | ⟨1, _⟩ => show (1408 * j.val + i.val) % 1408 = i.val; omega
    | ⟨2, _⟩ => show d.val % 1024 = d.val; omega
  unfold Value.G3
  rw [dif_pos (by rw [hp]; exact (pt j 7).isLt), hl, Value.outsAt0_sweep, Value.fold0_congr m c _ _ _ _ hp]

theorem arr_0 (c : Dev nD) (j : Fin 2) (i : Fin 1408) (d : Fin 1024) :
    Value.G3 m c (ix3 0 (col j i) d) = ∑ t : Fin 4096, in0 m c (ix2 t (col j i)) * in1 m c (ix2 t d) :=
  (left_at m c 0 j i d).trans ((out0_C m c (pt j 7) (pt_mod j 7) i d).trans (acc0_sum m c j i d))

open Cert.Reference7Ideal.Read in
theorem V_v5 (c : Dev nD) : V m c main_v5 = (val_main_v3 (F := Ideal) (m ((c : Thread nD τ).loc main_arg0)) (m ((c : Thread nD τ).loc main_arg1)) (m ((c : Thread nD τ).loc main_arg2)) : S4096x2816.Idx → EReal) := by
  unfold V hostOps0 hostOps0_1 hostOps0_2
  simp only [List.flatten_cons, List.flatten_nil, List.append_nil, List.cons_append, List.nil_append]
  after_results
  rfl

theorem V_v7 (c : Dev nD) : V m c main_v7 = (m ((c : Thread nD τ).loc main_arg4) : S4096x1024.Idx → EReal) := by
  unfold V hostOps0 hostOps0_1 hostOps0_2
  simp only [List.flatten_cons, List.flatten_nil, List.append_nil, List.cons_append, List.nil_append]
  after_results
  rfl

end Cert.Kernel7Ideal.FfnDown

/-! The claims about the gradient of the down matrix. -/
namespace Cert.FfnDown

theorem frame_reference : ∀ (m : (ℓ : Loc Cert.Reference7Ideal.nD Cert.Reference7Ideal.τ Cert.Reference7Ideal.sig) → Buf (Elt Ideal) ℓ) (g : Dev Cert.Reference7Ideal.nD → PrngReg),
    θ_run (Cert.Reference7Ideal.defs (F := Ideal)) (onTc (τ := Cert.Reference7Ideal.τ) (Cert.Reference7Ideal.main (F := Ideal))) ⟨m, fun _ => 0, g⟩
      (fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
        ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
        ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
        ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
        ∧ r.2.sem = fun _ => 0) := fun m g =>
  (θ_run Cert.Reference7Ideal.defs _ _).mono (fun r h => ⟨fun c => (h c).2, sem_eq_zero_of_no_sems rfl r.2⟩) (Cert.Reference7Ideal.Value.run m g)

open Cert.Reference7Ideal Cert.Reference7Ideal.Read in
theorem down_at (y : Vec Ideal S4096x1024 .f32) (wg wu : Vec Ideal S1024x2816 .f32) (df : Vec Ideal S4096x1024 .f32) (f : Fin 2816) (d : Fin 1024) :
    val_main_v8 (F := Ideal) y wg wu df (ix3 0 f d) = ∑ t : Fin 4096, val_main_v3 (F := Ideal) y wg wu (ix2 t f) * df (ix2 t d) := by
  unfold val_main_v8 val_main_v7 val_main_v6 val_main_v5
  pointwise
  exact Finset.sum_congr rfl fun t _ => mul_comm _ _

open Cert.Kernel7Ideal.FfnDown in
theorem agree (m : (ℓ : Loc Cert.Kernel7Ideal.nD Cert.Kernel7Ideal.τ Cert.Kernel7Ideal.sig) → Buf (Elt Ideal) ℓ) (c : Dev Cert.Kernel7Ideal.nD)
    (y : Vec Ideal Cert.Kernel7Ideal.S4096x1024 .f32) (wg : Vec Ideal Cert.Kernel7Ideal.S1024x2816 .f32) (wu : Vec Ideal Cert.Kernel7Ideal.S1024x2816 .f32) (df : Vec Ideal Cert.Kernel7Ideal.S4096x1024 .f32)
    (hy : y = m ((c.tc : Thread Cert.Kernel7Ideal.nD Cert.Kernel7Ideal.τ).loc Cert.Kernel7Ideal.main_arg0))
    (hwg : wg = m ((c.tc : Thread Cert.Kernel7Ideal.nD Cert.Kernel7Ideal.τ).loc Cert.Kernel7Ideal.main_arg1))
    (hwu : wu = m ((c.tc : Thread Cert.Kernel7Ideal.nD Cert.Kernel7Ideal.τ).loc Cert.Kernel7Ideal.main_arg2))
    (hdf : df = m ((c.tc : Thread Cert.Kernel7Ideal.nD Cert.Kernel7Ideal.τ).loc Cert.Kernel7Ideal.main_arg4)) :
    (Cert.Reference7Ideal.Read.val_main_v8 (F := Ideal) y wg wu df : Cert.Kernel7Ideal.S1x2816x1024.Idx → EReal) = Cert.Kernel7Ideal.Value.G3 m c := by
  subst hy hwg hwu hdf
  funext q
  obtain ⟨b, f, d, rfl⟩ : ∃ (b : Fin 1) (f : Fin 2816) (d : Fin 1024), q = ix3 b f d := ⟨q 0, q 1, q 2, by funext a; fin_cases a <;> rfl⟩
  have hf : f = col ⟨f.val / 1408, by omega⟩ ⟨f.val % 1408, by omega⟩ := Fin.ext (by simp only [col]; omega)
  rw [hf]
  match b with
  | 0 =>
    refine (down_at _ _ _ _ _ _).trans (Eq.trans ?_ (arr_0 m c _ _ d).symm)
    exact Finset.sum_congr rfl fun t _ => congrArg₂ (· * · : EReal → EReal → EReal) (congrFun (V_v5 m c) _).symm (congrFun (V_v7 m c) _).symm

theorem algebraic : algebraic_Kernel7Ideal_Reference7Ideal := by
  intro m g m' g' hpre hargs
  refine ⟨fun c => Cert.Kernel7Ideal.Value.G3 m c, Cert.Kernel7Ideal.Value.run m g, ?_⟩
  refine (θ_run Cert.Reference7Ideal.defs _ _).mono (fun r h c => ?_) (Cert.Reference7Ideal.Value.run m' g')
  obtain ⟨e, k⟩ := h c
  obtain ⟨h0, h1, h2, h3, h4, h5⟩ := hargs c
  exact ⟨e.trans ((Cert.Reference7Ideal.Read.val_main_v8_eq _ _ _ _).trans (agree m c _ _ _ _ h0 h1 h2 h4)), k⟩

end Cert.FfnDown
-- ==== Proof.FfnUp.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.BlockSum
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel8Ideal.FfnUp

open Cert.Kernel8Ideal Cert.Kernel8Ideal.Gen
open Cert.KernelIdeal.Sgu (canon_hit canon_miss)

/-! The gradient of the gate and up matrices that the region leaves, as a sum over all the rows. -/

variable (m : (ℓ : Loc nD τ sig) → Buf (Elt Ideal) ℓ)

/-- One step of an accumulator: the block product of two input blocks is added. -/
def step (l : Vec Ideal S512x1408 .bf16) (r : Vec Ideal S512x1024 .bf16) (p : Vec Ideal S1408x1024 .f32) : Vec Ideal S1408x1024 .f32 :=
  k0_pay3 p l r

theorem step_at (l : Vec Ideal S512x1408 .bf16) (r : Vec Ideal S512x1024 .bf16) (p : Vec Ideal S1408x1024 .f32) (i : Fin 1408) (d : Fin 1024) :
    step l r p (ix2 i d) = p (ix2 i d) + ∑ k : Fin 512, l (ix2 k i) * r (ix2 k d) := by
  unfold step; unfold_payloads; pointwise

theorem zero_at (i : Fin 1408) (d : Fin 1024) : k0_pay1 (F := Idealize.ShloMosaic.Ideal) (ix2 i d) = 0 := by
  unfold_payloads; pointwise

theorem zero1_at (i : Fin 1408) (d : Fin 1024) : k0_pay2 (F := Idealize.ShloMosaic.Ideal) (ix2 i d) = 0 := by
  unfold_payloads; pointwise

theorem acc0_A (c : Dev nD) (t : Fin cfg0.N) (h : t.val % 8 = 0) :
    (outsAt0 m c t.val t.isLt).2.1 = step (iblk m c 0 t) (iblk m c 2 t) (k0_pay1 (F := Idealize.ShloMosaic.Ideal)) := by
  rw [outsAt0_A m c t h (by omega)]; frame_open
  simp (disch := decide) only [↓ View.readCov_skip, ↓ View.readCov_cons_toLoadRect, ↓ View.readCov_fill]
  frame_out
  rfl

theorem acc0_B (c : Dev nD) (t : Fin cfg0.N) (h : ¬ t.val % 8 = 0) :
    (outsAt0 m c t.val t.isLt).2.1
      = step (iblk m c 0 t) (iblk m c 2 t) (outsAt0 m c (t.val - 1) (Nat.lt_of_le_of_lt (Nat.sub_le _ _) t.isLt)).2.1 := by
  by_cases h1 : t.val % 8 = 7
  · rw [outsAt0_C m c t h h1]; frame_open
    simp (disch := decide) only [↓ View.readCov_skip, ↓ View.readCov_cons_toLoadRect, ↓ View.readCov_fill]
    frame_out
    exact congrArg (step _ _) (Memref.IsWhole.read_unread _ _)
  · rw [outsAt0_B m c t h h1]; frame_open
    simp (disch := decide) only [↓ View.readCov_skip, ↓ View.readCov_cons_toLoadRect, ↓ View.readCov_fill]
    frame_out
    exact congrArg (step _ _) (Memref.IsWhole.read_unread _ _)

theorem acc1_A (c : Dev nD) (t : Fin cfg0.N) (h : t.val % 8 = 0) :
    (outsAt0 m c t.val t.isLt).2.2 = step (iblk m c 1 t) (iblk m c 2 t) (k0_pay2 (F := Idealize.ShloMosaic.Ideal)) := by
  rw [outsAt0_A m c t h (by omega)]; frame_open
  simp (disch := decide) only [↓ View.readCov_skip, ↓ View.readCov_cons_toLoadRect, ↓ View.readCov_fill]
  frame_out
  rfl

theorem acc1_B (c : Dev nD) (t : Fin cfg0.N) (h : ¬ t.val % 8 = 0) :
    (outsAt0 m c t.val t.isLt).2.2
      = step (iblk m c 1 t) (iblk m c 2 t) (outsAt0 m c (t.val - 1) (Nat.lt_of_le_of_lt (Nat.sub_le _ _) t.isLt)).2.2 := by
  by_cases h1 : t.val % 8 = 7
  · rw [outsAt0_C m c t h h1]; frame_open
    simp (disch := decide) only [↓ View.readCov_skip, ↓ View.readCov_cons_toLoadRect, ↓ View.readCov_fill]
    frame_out
    exact congrArg (step _ _) (Memref.IsWhole.read_unread _ _)
  · rw [outsAt0_B m c t h h1]; frame_open
    simp (disch := decide) only [↓ View.readCov_skip, ↓ View.readCov_cons_toLoadRect, ↓ View.readCov_fill]
    frame_out
    exact congrArg (step _ _) (Memref.IsWhole.read_unread _ _)

theorem narrow0_at (X : Vec Ideal S1408x1024 .f32) (i : Fin 1408) (d : Fin 1024) : k0_pay5 X (ix3 0 i d) = X (ix2 i d) := by
  unfold_payloads; pointwise

theorem narrow1_at (X : Vec Ideal S1408x1024 .f32) (i : Fin 1408) (d : Fin 1024) : k0_pay6 X (ix3 0 i d) = X (ix2 i d) := by
  unfold_payloads; pointwise

theorem out0_C (c : Dev nD) (t : Fin cfg0.N) (h : t.val % 8 = 7) (i : Fin 1408) (d : Fin 1024) :
    (outsAt0 m c t.val t.isLt).1 (ix3 0 i d) = (outsAt0 m c t.val t.isLt).2.1 (ix2 i d) := by
  rw [outsAt0_C m c t (by omega) h]; frame_open
  simp (disch := decide) only [↓ View.readCov_skip, ↓ View.readCov_cons_toLoadRect, ↓ View.readCov_fill]
  frame_out
  refine (canon_miss _ _ _ 0 1 1 rfl rfl rfl (Or.inl (by simp [ix3]))).trans ?_
  refine (canon_hit _ _ _ _ (ix3 0 i d) ?_).trans ?_
  · intro a; fin_cases a <;> simp [ix3]
  · exact narrow0_at _ i d

theorem out1_C (c : Dev nD) (t : Fin cfg0.N) (h : t.val % 8 = 7) (i : Fin 1408) (d : Fin 1024) :
    (outsAt0 m c t.val t.isLt).1 (ix3 1 i d) = (outsAt0 m c t.val t.isLt).2.2 (ix2 i d) := by
  rw [outsAt0_C m c t (by omega) h]; frame_open
  simp (disch := decide) only [↓ View.readCov_skip, ↓ View.readCov_cons_toLoadRect, ↓ View.readCov_fill]
  frame_out
  refine (canon_hit _ _ _ _ (ix3 0 i d) ?_).trans ?_
  · intro a; fin_cases a <;> simp [ix3]
  · exact narrow1_at _ i d

theorem idx : ∀ t : Fin cfg0.N, win0_0.index t = ![t.val % 8, t.val / 8] ∧ win0_1.index t = ![t.val % 8, t.val / 8] ∧ win0_2.index t = ![t.val % 8, 0] :=
  (by decide +kernel : ∀ t : Fin grid0.N, _)

/-- The point of column half `j` and row block `k`. -/
def pt (j : Fin 2) (k : Fin 8) : Fin cfg0.N := ⟨8 * j.val + k.val, lt_of_lt_of_eq (b := 16) (by omega) (by decide)⟩
theorem pt_mod (j : Fin 2) (k : Fin 8) : (pt j k).val % 8 = k.val := by simp only [pt]; omega
theorem pt_div (j : Fin 2) (k : Fin 8) : (pt j k).val / 8 = j.val := by simp only [pt]; omega

def row (k : Fin 8) (r : Fin 512) : Fin 4096 := ⟨512 * k.val + r.val, by omega⟩
def col (j : Fin 2) (i : Fin 1408) : Fin 2816 := ⟨1408 * j.val + i.val, by omega⟩

/-- The gate's cotangent when the region is entered, and its block at a point. -/
abbrev in0 (c : Dev nD) : Vec Ideal S4096x2816 .bf16 := V m c main_v10
theorem blk0 (c : Dev nD) (j : Fin 2) (k : Fin 8) (r : Fin 512) (i : Fin 1408) :
    (iblk m c 0 (pt j k) : Vec Ideal S512x1408 .bf16) (ix2 r i) = in0 m c (ix2 (row k r) (col j i)) := by
  have e := (idx (pt j k)).1
  rw [pt_mod, pt_div] at e
  unfold row col
  blk_ext [iblk, e]

/-- The cotangent of the other factor when the region is entered, and its block at a point. -/
abbrev in1 (c : Dev nD) : Vec Ideal S4096x2816 .bf16 := V m c main_v11
theorem blk1 (c : Dev nD) (j : Fin 2) (k : Fin 8) (r : Fin 512) (i : Fin 1408) :
    (iblk m c 1 (pt j k) : Vec Ideal S512x1408 .bf16) (ix2 r i) = in1 m c (ix2 (row k r) (col j i)) := by
  have e := (idx (pt j k)).2.1
  rw [pt_mod, pt_div] at e
  unfold row col
  blk_ext [iblk, e]

/-- The input when the region is entered, and its block at a point. -/
abbrev in2 (c : Dev nD) : Vec Ideal S4096x1024 .bf16 := V m c main_v12
theorem blk2 (c : Dev nD) (j : Fin 2) (k : Fin 8) (r : Fin 512) (d : Fin 1024) :
    (iblk m c 2 (pt j k) : Vec Ideal S512x1024 .bf16) (ix2 r d) = in2 m c (ix2 (row k r) d) := by
  have e := (idx (pt j k)).2.2
  rw [pt_mod] at e
  unfold row
  blk_ext [iblk, e]

theorem acc0_sum (c : Dev nD) (j : Fin 2) (i : Fin 1408) (d : Fin 1024) :
    (outsAt0 m c (pt j 7).val (pt j 7).isLt).2.1 (ix2 i d) = ∑ t : Fin 4096, in0 m c (ix2 t (col j i)) * in2 m c (ix2 t d) := by
  have e : ∀ (k : Fin 8) (p : Vec Ideal S1408x1024 .f32), step (iblk m c 0 (pt j k)) (iblk m c 2 (pt j k)) p (ix2 i d)
      = p (ix2 i d) + ∑ q : Fin 512, in0 m c (ix2 (row k q) (col j i)) * in2 m c (ix2 (row k q) d) := fun k p => by
    refine (step_at _ _ _ i d).trans (congrArg _ (Finset.sum_congr rfl fun q _ => ?_))
    rw [blk0, blk2]
  refine Blocked.sum_points (B := 512) (n := 7) rfl row (fun _ _ => rfl) (fun t => in0 m c (ix2 t (col j i)) * in2 m c (ix2 t d))
    (fun k => (outsAt0 m c (pt j k).val (pt j k).isLt).2.1 (ix2 i d)) ?_ ?_
  · refine (congrFun (acc0_A m c (pt j 0) (by rw [pt_mod]; rfl)) _).trans ((e 0 _).trans ?_)
    rw [zero_at, zero_add]
  · intro k hk
    exact (congrFun (acc0_B m c (pt j ⟨k + 1, hk⟩) (by rw [pt_mod]; exact Nat.succ_ne_zero k)) _).trans (e ⟨k + 1, hk⟩ _)

theorem acc1_sum (c : Dev nD) (j : Fin 2) (i : Fin 1408) (d : Fin 1024) :
    (outsAt0 m c (pt j 7).val (pt j 7).isLt).2.2 (ix2 i d) = ∑ t : Fin 4096, in1 m c (ix2 t (col j i)) * in2 m c (ix2 t d) := by
  have e : ∀ (k : Fin 8) (p : Vec Ideal S1408x1024 .f32), step (iblk m c 1 (pt j k)) (iblk m c 2 (pt j k)) p (ix2 i d)
      = p (ix2 i d) + ∑ q : Fin 512, in1 m c (ix2 (row k q) (col j i)) * in2 m c (ix2 (row k q) d) := fun k p => by
    refine (step_at _ _ _ i d).trans (congrArg _ (Finset.sum_congr rfl fun q _ => ?_))
    rw [blk1, blk2]
  refine Blocked.sum_points (B := 512) (n := 7) rfl row (fun _ _ => rfl) (fun t => in1 m c (ix2 t (col j i)) * in2 m c (ix2 t d))
    (fun k => (outsAt0 m c (pt j k).val (pt j k).isLt).2.2 (ix2 i d)) ?_ ?_
  · refine (congrFun (acc1_A m c (pt j 0) (by rw [pt_mod]; rfl)) _).trans ((e 0 _).trans ?_)
    rw [zero1_at, zero_add]
  · intro k hk
    exact (congrFun (acc1_B m c (pt j ⟨k + 1, hk⟩) (by rw [pt_mod]; exact Nat.succ_ne_zero k)) _).trans (e ⟨k + 1, hk⟩ _)

theorem left_at (c : Dev nD) (b : Fin 2) (j : Fin 2) (i : Fin 1408) (d : Fin 1024) :
    Value.G4 m c (ix3 b (col j i) d) = (outsAt0 m c (pt j 7).val (pt j 7).isLt).1 (ix3 b i d) := by
  have hp : Value.pt4Of (ix3 b (col j i) d) = (pt j 7).val := by
    show 8 * (2 * (b.val / 2 - 0) + 1 * ((1408 * j.val + i.val) / 1408 - 0) + 1 * (d.val / 1024 - 0)) + 7 = 8 * j.val + 7
    omega
  have hl : Value.loc4Of (ix3 b (col j i) d) = ix3 b i d := by
    funext a; apply Fin.ext
    match a with
    | ⟨0, _⟩ => show b.val % 2 = b.val; omega
    | ⟨1, _⟩ => show (1408 * j.val + i.val) % 1408 = i.val; omega
    | ⟨2, _⟩ => show d.val % 1024 = d.val; omega
  unfold Value.G4
  rw [dif_pos (by rw [hp]; exact (pt j 7).isLt), hl, Value.outsAt0_sweep, Value.fold0_congr m c _ _ _ _ hp]

theorem arr_0 (c : Dev nD) (j : Fin 2) (i : Fin 1408) (d : Fin 1024) :
    Value.G4 m c (ix3 0 (col j i) d) = ∑ t : Fin 4096, in0 m c (ix2 t (col j i)) * in2 m c (ix2 t d) :=
  (left_at m c 0 j i d).trans ((out0_C m c (pt j 7) (pt_mod j 7) i d).trans (acc0_sum m c j i d))

theorem arr_1 (c : Dev nD) (j : Fin 2) (i : Fin 1408) (d : Fin 1024) :
    Value.G4 m c (ix3 1 (col j i) d) = ∑ t : Fin 4096, in1 m c (ix2 t (col j i)) * in2 m c (ix2 t d) :=
  (left_at m c 1 j i d).trans ((out1_C m c (pt j 7) (pt_mod j 7) i d).trans (acc1_sum m c j i d))

open Cert.Reference8Ideal.Read

/-- The host lines multiply by a transposed matrix where the reference contracts the other axis. -/
theorem pulled (df : FVec Ideal S4096x1024 .f32) (wd : FVec Ideal S2816x1024 .f32) :
    (Host.dotGeneral dot_S4096x1024_S1024x2816_S4096x2816_1_0_0_1_n_n none df (transpose S1024x2816 [1, 0] wd transposes_S2816x1024_S1024x2816_1_0 : FVec Ideal S1024x2816 .f32) : FVec Ideal S4096x2816 .f32)
      = val_main_v5 (F := Ideal) wd df := by
  funext q
  obtain ⟨t, f, rfl⟩ : ∃ (t : Fin 4096) (f : Fin 2816), q = ix2 t f := ⟨q 0, q 1, by funext a; fin_cases a <;> rfl⟩
  unfold val_main_v5
  pointwise

theorem V_v10 (c : Dev nD) : V m c main_v10 = (val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S4096x2816.Idx → EReal) := by
  unfold V hostOps0 hostOps0_1 hostOps0_2 hostOps0_3 hostOps0_4
  simp only [List.flatten_cons, List.flatten_nil, List.append_nil, List.cons_append, List.nil_append]
  after_results
  rw [pulled]
  rfl

theorem V_v11 (c : Dev nD) : V m c main_v11 = (val_main_v6 (F := Ideal) (m ((c : Thread nD τ).loc main_arg0)) (m ((c : Thread nD τ).loc main_arg1)) (m ((c : Thread nD τ).loc main_arg3)) (m ((c : Thread nD τ).loc main_arg4)) : S4096x2816.Idx → EReal) := by
  unfold V hostOps0 hostOps0_1 hostOps0_2 hostOps0_3 hostOps0_4
  simp only [List.flatten_cons, List.flatten_nil, List.append_nil, List.cons_append, List.nil_append]
  after_results
  rw [pulled]
  rfl

theorem V_v12 (c : Dev nD) : V m c main_v12 = (m ((c : Thread nD τ).loc main_arg0) : S4096x1024.Idx → EReal) := by
  unfold V hostOps0 hostOps0_1 hostOps0_2 hostOps0_3 hostOps0_4
  simp only [List.flatten_cons, List.flatten_nil, List.append_nil, List.cons_append, List.nil_append]
  after_results
  rfl

end Cert.Kernel8Ideal.FfnUp

/-! The claims about the gradient of the gate and up matrices. -/
namespace Cert.FfnUp

theorem frame_reference : ∀ (m : (ℓ : Loc Cert.Reference8Ideal.nD Cert.Reference8Ideal.τ Cert.Reference8Ideal.sig) → Buf (Elt Ideal) ℓ) (g : Dev Cert.Reference8Ideal.nD → PrngReg),
    θ_run (Cert.Reference8Ideal.defs (F := Ideal)) (onTc (τ := Cert.Reference8Ideal.τ) (Cert.Reference8Ideal.main (F := Ideal))) ⟨m, fun _ => 0, g⟩
      (fun r => (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
        ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
        ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
        ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
        ∧ r.2.sem = fun _ => 0) := fun m g =>
  (θ_run Cert.Reference8Ideal.defs _ _).mono (fun r h => ⟨fun c => (h c).2, sem_eq_zero_of_no_sems rfl r.2⟩) (Cert.Reference8Ideal.Value.run m g)

open Cert.Reference8Ideal Cert.Reference8Ideal.Read in
theorem gate_at (y : Vec Ideal S4096x1024 .f32) (wg wu : Vec Ideal S1024x2816 .f32) (wd : Vec Ideal S2816x1024 .f32) (df : Vec Ideal S4096x1024 .f32) (f : Fin 2816) (d : Fin 1024) :
    val_main_v18 (F := Ideal) y wg wu wd df (ix3 0 f d) = ∑ t : Fin 4096, val_main_v10 (F := Ideal) y wg wu wd df (ix2 t f) * y (ix2 t d) := by
  unfold val_main_v18 val_main_v17 val_main_v15 val_main_v13 val_main_v12 val_main_v11
  pointwise

open Cert.Reference8Ideal Cert.Reference8Ideal.Read in
theorem up_at (y : Vec Ideal S4096x1024 .f32) (wg wu : Vec Ideal S1024x2816 .f32) (wd : Vec Ideal S2816x1024 .f32) (df : Vec Ideal S4096x1024 .f32) (f : Fin 2816) (d : Fin 1024) :
    val_main_v18 (F := Ideal) y wg wu wd df (ix3 1 f d) = ∑ t : Fin 4096, val_main_v6 (F := Ideal) y wg wd df (ix2 t f) * y (ix2 t d) := by
  unfold val_main_v18 val_main_v17 val_main_v16 val_main_v14 val_main_v9 val_main_v8
  pointwise

open Cert.Kernel8Ideal.FfnUp in
theorem agree (m : (ℓ : Loc Cert.Kernel8Ideal.nD Cert.Kernel8Ideal.τ Cert.Kernel8Ideal.sig) → Buf (Elt Ideal) ℓ) (c : Dev Cert.Kernel8Ideal.nD)
    (y : Vec Ideal Cert.Kernel8Ideal.S4096x1024 .f32) (wg : Vec Ideal Cert.Kernel8Ideal.S1024x2816 .f32) (wu : Vec Ideal Cert.Kernel8Ideal.S1024x2816 .f32) (wd : Vec Ideal Cert.Kernel8Ideal.S2816x1024 .f32) (df : Vec Ideal Cert.Kernel8Ideal.S4096x1024 .f32)
    (hy : y = m ((c.tc : Thread Cert.Kernel8Ideal.nD Cert.Kernel8Ideal.τ).loc Cert.Kernel8Ideal.main_arg0))
    (hwg : wg = m ((c.tc : Thread Cert.Kernel8Ideal.nD Cert.Kernel8Ideal.τ).loc Cert.Kernel8Ideal.main_arg1))
    (hwu : wu = m ((c.tc : Thread Cert.Kernel8Ideal.nD Cert.Kernel8Ideal.τ).loc Cert.Kernel8Ideal.main_arg2))
    (hwd : wd = m ((c.tc : Thread Cert.Kernel8Ideal.nD Cert.Kernel8Ideal.τ).loc Cert.Kernel8Ideal.main_arg3))
    (hdf : df = m ((c.tc : Thread Cert.Kernel8Ideal.nD Cert.Kernel8Ideal.τ).loc Cert.Kernel8Ideal.main_arg4)) :
    (Cert.Reference8Ideal.Read.val_main_v18 (F := Ideal) y wg wu wd df : Cert.Kernel8Ideal.S2x2816x1024.Idx → EReal) = Cert.Kernel8Ideal.Value.G4 m c := by
  subst hy hwg hwu hwd hdf
  funext q
  obtain ⟨b, f, d, rfl⟩ : ∃ (b : Fin 2) (f : Fin 2816) (d : Fin 1024), q = ix3 b f d := ⟨q 0, q 1, q 2, by funext a; fin_cases a <;> rfl⟩
  have hf : f = col ⟨f.val / 1408, by omega⟩ ⟨f.val % 1408, by omega⟩ := Fin.ext (by simp only [col]; omega)
  rw [hf]
  match b with
  | 0 =>
    refine (gate_at _ _ _ _ _ _ _).trans (Eq.trans ?_ (arr_0 m c _ _ d).symm)
    exact Finset.sum_congr rfl fun t _ => congrArg₂ (· * · : EReal → EReal → EReal) (congrFun (V_v10 m c) _).symm (congrFun (V_v12 m c) _).symm
  | 1 =>
    refine (up_at _ _ _ _ _ _ _).trans (Eq.trans ?_ (arr_1 m c _ _ d).symm)
    exact Finset.sum_congr rfl fun t _ => congrArg₂ (· * · : EReal → EReal → EReal) (congrFun (V_v11 m c) _).symm (congrFun (V_v12 m c) _).symm

theorem algebraic : algebraic_Kernel8Ideal_Reference8Ideal := by
  intro m g m' g' hpre hargs
  refine ⟨fun c => Cert.Kernel8Ideal.Value.G4 m c, Cert.Kernel8Ideal.Value.run m g, ?_⟩
  refine (θ_run Cert.Reference8Ideal.defs _ _).mono (fun r h c => ?_) (Cert.Reference8Ideal.Value.run m' g')
  obtain ⟨e, k⟩ := h c
  obtain ⟨h0, h1, h2, h3, h4, h5⟩ := hargs c
  exact ⟨e.trans ((Cert.Reference8Ideal.Read.val_main_v18_eq _ _ _ _ _).trans (agree m c _ _ _ _ _ h0 h1 h2 h3 h4)), k⟩

end Cert.FfnUp
-- ==== Proof.Out.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel9Ideal.Out

open Cert.Kernel9Ideal Cert.Kernel9Ideal.Gen

/-! The rows the forward output projection leaves, as functions of its arguments. -/

variable (m : (ℓ : Loc nD τ sig) → Buf (Elt Ideal) ℓ)

/-- One entry of a block's product. -/
def prod (x w : Vec Ideal S1024x1024 .bf16) (r d : Fin 1024) : EReal := ∑ k : Fin 1024, x (ix2 r k) * w (ix2 k d)

theorem prod_at (x w : Vec Ideal S1024x1024 .bf16) (r d : Fin 1024) : k0_pay2 x w (ix2 r d) = prod x w r d := by
  unfold prod; unfold_payloads; pointwise

theorem added_at (x w : Vec Ideal S1024x1024 .bf16) (h : Vec Ideal S1024x1024 .f32) (p : Vec Ideal S1x1024 .f32) (r d : Fin 1024) :
    k0_pay3 x w h p (ix2 r d) = h (ix2 r d) + p (ix2 0 d) * prod x w r d := by
  unfold prod; unfold_payloads; pointwise

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The gate's row of a block of eight. -/
def gateRow (X : Vec Ideal S8x1024 .f32) : Vec Ideal S1x1024 .f32 :=
  View.ld X (Rect.unit ![2, 0] ![1, 1024] inb_S8x1024_S1x1024_2_0)
theorem gateRow_at (X : Vec Ideal S8x1024 .f32) (d : Fin 1024) : gateRow X (ix2 0 d) = X (ix2 2 d) :=
  View.ld_unit_apply_of _ _ _ _ _ _ (by intro a; fin_cases a <;> simp [ix2])

/-- The grid point of row block `j`. -/
def pt (j : Fin 4) : Fin cfg0.N := ⟨j.val, lt_of_lt_of_eq (b := 4) j.isLt (by decide)⟩
def row (j : Fin 4) (r : Fin 1024) : Fin 4096 := ⟨1024 * j.val + r.val, by omega⟩

theorem row_all (t : Fin 4096) : ∃ (j : Fin 4) (r : Fin 1024), t = row j r :=
  ⟨⟨t.val / 1024, by omega⟩, ⟨t.val % 1024, by omega⟩, Fin.ext (by simp only [row]; omega)⟩

/-- Arrays of rows agree when they agree row block by row block. -/
theorem ext_rows {n : Nat} {α : Type} (X Y : (⟨2, ![4096, n]⟩ : Shape).Idx → α)
    (h : ∀ (j : Fin 4) (r : Fin 1024) (d : Fin n), X (ix2 (row j r) d) = Y (ix2 (row j r) d)) : X = Y := by
  funext q
  obtain ⟨t, d, rfl⟩ : ∃ (t : Fin 4096) (d : Fin n), q = ix2 t d := ⟨q 0, q 1, by funext a; fin_cases a <;> rfl⟩
  obtain ⟨j, r, rfl⟩ := row_all t
  exact h j r d

/-- The call's arguments. -/
abbrev arg0 (c : Dev nD) : Vec Ideal S4096x1024 .f32 := m ((c : Thread nD τ).loc main_arg0)
abbrev arg1 (c : Dev nD) : Vec Ideal S1024x1024 .f32 := m ((c : Thread nD τ).loc main_arg1)
abbrev arg2 (c : Dev nD) : Vec Ideal S4096x1024 .f32 := m ((c : Thread nD τ).loc main_arg2)
abbrev arg3 (c : Dev nD) : Vec Ideal S3x1024 .f32 := m ((c : Thread nD τ).loc main_arg3)

/-- The arrays of the windows when the region is entered. -/
abbrev mixed (c : Dev nD) : Vec Ideal S4096x1024 .bf16 := V m c main_v0
abbrev wout (c : Dev nD) : Vec Ideal S1024x1024 .bf16 := V m c main_v1
abbrev rows (c : Dev nD) : Vec Ideal S4096x1024 .f32 := V m c main_arg2
abbrev par (c : Dev nD) : Vec Ideal S8x1024 .f32 := V m c main_v2

theorem blk0 (c : Dev nD) (j : Fin 4) (r d : Fin 1024) :
    (iblk m c 0 (pt j) : Vec Ideal S1024x1024 .bf16) (ix2 r d) = mixed m c (ix2 (row j r) d) := by
  obtain ⟨e0, e1, e2, e3, -⟩ := idx (pt j)
  have hj : (pt j).val = j.val := rfl
  rw [hj] at e0
  unfold row
  blk_ext [iblk, e0]

theorem blk1 (c : Dev nD) (j : Fin 4) (a : Fin 1024) (d : Fin 1024) :
    (iblk m c 1 (pt j) : Vec Ideal S1024x1024 .bf16) (ix2 a d) = wout m c (ix2 a d) := by
  obtain ⟨e0, e1, e2, e3, -⟩ := idx (pt j)
  blk_ext [iblk, e1]

theorem blk2 (c : Dev nD) (j : Fin 4) (r d : Fin 1024) :
    (iblk m c 2 (pt j) : Vec Ideal S1024x1024 .f32) (ix2 r d) = rows m c (ix2 (row j r) d) := by
  obtain ⟨e0, e1, e2, e3, -⟩ := idx (pt j)
  have hj : (pt j).val = j.val := rfl
  rw [hj] at e2
  unfold row
  blk_ext [iblk, e2]

theorem blk3 (c : Dev nD) (j : Fin 4) (a : Fin 8) (d : Fin 1024) :
    (iblk m c 3 (pt j) : Vec Ideal S8x1024 .f32) (ix2 a d) = par m c (ix2 a d) := by
  obtain ⟨e0, e1, e2, e3, -⟩ := idx (pt j)
  blk_ext [iblk, e3]

/-- The product of row `t` of the mixed rows with the projection. -/
def P (c : Dev nD) (t : Fin 4096) (d : Fin 1024) : EReal := ∑ k : Fin 1024, mixed m c (ix2 t k) * wout m c (ix2 k d)

theorem prod_pt (c : Dev nD) (j : Fin 4) (r d : Fin 1024) :
    prod (iblk m c 0 (pt j)) (iblk m c 1 (pt j)) r d = P m c (row j r) d := by
  unfold P prod
  exact Finset.sum_congr rfl fun k _ => by rw [blk0, blk1]

theorem out5 (c : Dev nD) (j : Fin 4) (r d : Fin 1024) :
    out0_5 (iblk m c 0 (pt j)) (iblk m c 1 (pt j)) (iblk m c 2 (pt j)) (iblk m c 3 (pt j)) (ix2 r d) = P m c (row j r) d := by
  refine Eq.trans ?_ (prod_pt m c j r d)
  unfold out0_5
  frame_out
  exact prod_at _ _ r d

theorem out4 (c : Dev nD) (j : Fin 4) (r d : Fin 1024) :
    out0_4 (iblk m c 0 (pt j)) (iblk m c 1 (pt j)) (iblk m c 2 (pt j)) (iblk m c 3 (pt j)) (ix2 r d)
      = rows m c (ix2 (row j r) d) + par m c (ix2 2 d) * P m c (row j r) d := by
  rw [← prod_pt, ← blk2, ← blk3 m c j]
  unfold out0_4
  frame_out
  rw [← gateRow_at (iblk m c 3 (pt j))]
  exact added_at (iblk m c 0 (pt j)) (iblk m c 1 (pt j)) (iblk m c 2 (pt j)) (gateRow (iblk m c 3 (pt j))) r d

theorem arr4 (c : Dev nD) (j : Fin 4) (r : Fin 1024) (d : Fin 1024) :
    (dats m 0 c).arrAt 4 cfg0.N (ix2 (row j r) d) = rows m c (ix2 (row j r) d) + par m c (ix2 2 d) * P m c (row j r) d := by
  have e := (idx (pt j)).2.2.2.2.1
  have hj : (pt j).val = j.val := rfl
  rw [hj] at e
  have h' := congrFun (Value.blocks4 m c (pt j) (flush0_4 _)) (ix2 r d)
  rw [Value.flushed4] at h'
  refine Eq.trans ?_ (h'.trans ?_)
  · unfold row
    blk_ext [e]
  · exact out4 m c j r d

theorem arr5 (c : Dev nD) (j : Fin 4) (r : Fin 1024) (d : Fin 1024) :
    (dats m 0 c).arrAt 5 cfg0.N (ix2 (row j r) d) = P m c (row j r) d := by
  have e := (idx (pt j)).2.2.2.2.2
  have hj : (pt j).val = j.val := rfl
  rw [hj] at e
  have h' := congrFun (Value.blocks5 m c (pt j) (flush0_5 _)) (ix2 r d)
  rw [Value.flushed5] at h'
  refine Eq.trans ?_ (h'.trans ?_)
  · unfold row
    blk_ext [e]
  · exact out5 m c j r d

theorem mixed_eq (c : Dev nD) : (mixed m c : S4096x1024.Idx → EReal) = arg0 m c := by
  unfold mixed V hostOps0 hostOps0_1
  simp only [List.flatten_cons, List.flatten_nil, List.append_nil, List.cons_append, List.nil_append]
  after_results
  rfl

theorem wout_eq (c : Dev nD) : (wout m c : S1024x1024.Idx → EReal) = arg1 m c := by
  unfold wout V hostOps0 hostOps0_1
  simp only [List.flatten_cons, List.flatten_nil, List.append_nil, List.cons_append, List.nil_append]
  after_results
  rfl

theorem rows_eq (c : Dev nD) : rows m c = arg2 m c := V_main_arg2 m c

theorem par_gate (c : Dev nD) (d : Fin 1024) : par m c (ix2 2 d) = arg3 m c (ix2 2 d) := by
  have e : par m c = (pad S8x1024 ![0, 0] ![5, 0] ![0, 0] (arg3 m c) (sitofp .f32 (constantI S_ 32 0#32)) pads_S3x1024_S8x1024_050_000 h_S_ : FVec Ideal S8x1024 .f32) := by
    unfold par V hostOps0 hostOps0_1
    simp only [List.flatten_cons, List.flatten_nil, List.append_nil, List.cons_append, List.nil_append]
    after_results
    rfl
  rw [e]; pointwise

end Cert.Kernel9Ideal.Out

/-! The claims about the forward output projection. -/
namespace Cert.Out

theorem frame_reference : ∀ (m : (ℓ : Loc Cert.Reference9Ideal.nD Cert.Reference9Ideal.τ Cert.Reference9Ideal.sig) → Buf (Elt Ideal) ℓ) (g : Dev Cert.Reference9Ideal.nD → PrngReg),
    θ_run (Cert.Reference9Ideal.defs (F := Ideal)) (onTc (τ := Cert.Reference9Ideal.τ) (Cert.Reference9Ideal.main (F := Ideal))) ⟨m, fun _ => 0, g⟩
      (fun r => (∀ c : Dev Cert.Reference9Ideal.nD,
        r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
        ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
        ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
        ∧ r.2.sem = fun _ => 0) := fun m g =>
  (θ_run Cert.Reference9Ideal.defs _ _).mono (fun r h => ⟨fun c => (h c).2.2, sem_eq_zero_of_no_sems rfl r.2⟩) (Cert.Reference9Ideal.Value.run m g)

section
open Cert.Reference9Ideal Cert.Reference9Ideal.Read

theorem po_at (x : Vec Ideal S4096x1024 .f32) (w : Vec Ideal S1024x1024 .f32) (t : Fin 4096) (d : Fin 1024) :
    val_main_v6 (F := Ideal) x w (ix2 t d) = ∑ k : Fin 1024, x (ix2 t k) * w (ix2 k d) := by
  unfold val_main_v6 val_main_v5
  pointwise

theorem ho_at (x : Vec Ideal S4096x1024 .f32) (w : Vec Ideal S1024x1024 .f32) (h : Vec Ideal S4096x1024 .f32) (p : Vec Ideal S3x1024 .f32) (t : Fin 4096) (d : Fin 1024) :
    val_main_v4 (F := Ideal) x w h p (ix2 t d) = h (ix2 t d) + p (ix2 2 d) * ∑ k : Fin 1024, x (ix2 t k) * w (ix2 k d) := by
  unfold val_main_v4 val_main_v3 val_main_v2 val_main_v1 val_main_v0
  pointwise
end

section
open Cert.Kernel9Ideal Cert.Kernel9Ideal.Gen Cert.Kernel9Ideal.Out

variable (m : (ℓ : Loc Cert.Kernel9Ideal.nD Cert.Kernel9Ideal.τ Cert.Kernel9Ideal.sig) → Buf (Elt Ideal) ℓ) (c : Dev Cert.Kernel9Ideal.nD)

theorem p_eq (t : Fin 4096) (d : Fin 1024) : P m c t d
    = (∑ k : Fin 1024, arg0 m c (ix2 t k) * arg1 m c (ix2 k d) : EReal) := by
  unfold P; rw [mixed_eq, wout_eq]

theorem agree_po : (Cert.Reference9Ideal.Read.val_main_v6 (F := Ideal) (arg0 m c) (arg1 m c) : S4096x1024.Idx → EReal)
    = (dats m 0 c).arrAt 5 cfg0.N :=
  ext_rows _ _ fun j r d => (po_at _ _ _ _).trans ((p_eq m c _ _).symm.trans (arr5 m c j r d).symm)

theorem agree_ho : (Cert.Reference9Ideal.Read.val_main_v4 (F := Ideal) (arg0 m c) (arg1 m c)
      (arg2 m c) (arg3 m c) : S4096x1024.Idx → EReal)
    = (dats m 0 c).arrAt 4 cfg0.N :=
  ext_rows _ _ fun j r d => by
    refine (ho_at _ _ _ _ _ _).trans (Eq.trans ?_ (arr4 m c j r d).symm)
    rw [p_eq, par_gate, rows_eq]
end

theorem algebraic : algebraic_Kernel9Ideal_Reference9Ideal := by
  intro m g m' g' hpre hargs
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N,
    Cert.Kernel9Ideal.Value.run_blocks m g, ?_⟩
  refine (θ_run Cert.Reference9Ideal.defs _ _).mono (fun r h c => ?_) (Cert.Reference9Ideal.Value.run m' g')
  obtain ⟨e0, e1, k⟩ := h c
  obtain ⟨h0, h1, h2, h3⟩ := hargs c
  refine ⟨?_, ?_, k⟩
  · rw [e0, Cert.Reference9Ideal.Read.val_main_v4_eq, h0, h1, h2, h3]; exact agree_ho m c
  · refine (e1.trans (Cert.Reference9Ideal.Read.val_main_v6_eq _ _)).trans ?_; rw [h0, h1]; exact agree_po m c

end Cert.Out
-- ==== Proof.OutBwd.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.BlockSum
public import proofs.«01_k».proof.Proof.SguRun
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel10Ideal.Out

open Cert.Kernel10Ideal Cert.Kernel10Ideal.Gen
open Cert.KernelIdeal.Sgu (canon_hit canon_miss)

/-! The arrays the backward output projection leaves, as functions of its arguments. -/

variable (m : (ℓ : Loc nD τ sig) → Buf (Elt Ideal) ℓ)

theorem zero_at (a : Fin 8) (d : Fin 1024) : k0_pay2 (F := Idealize.ShloMosaic.Ideal) (ix2 a d) = 0 := by
  unfold_payloads; pointwise

theorem dp_at (g : Vec Ideal S1024x1024 .f32) (p : Vec Ideal S1x1024 .f32) (r d : Fin 1024) : k0_pay4 g p (ix2 r d) = p (ix2 0 d) * g (ix2 r d) := by
  unfold_payloads; pointwise

theorem gate_at (g : Vec Ideal S1024x1024 .f32) (s : Vec Ideal S1x1024 .f32) (x : Vec Ideal S1024x1024 .bf16) (d : Fin 1024) :
    k0_pay5 g s x (ix2 0 d) = s (ix2 0 d) + ∑ k : Fin 1024, g (ix2 k d) * x (ix2 k d) := by
  unfold_payloads; pointwise

theorem left_at (g : Vec Ideal S1024x1024 .f32) (p : Vec Ideal S1x1024 .f32) (w : Vec Ideal S1024x1024 .bf16) (r : Fin 1024) (i : Fin 512) :
    k0_pay7 g p w (ix2 r i) = ∑ k : Fin 1024, p (ix2 0 k) * g (ix2 r k) * w (ix2 ⟨i.val, by omega⟩ k) := by
  unfold_payloads; pointwise

theorem right_at (g : Vec Ideal S1024x1024 .f32) (p : Vec Ideal S1x1024 .f32) (w : Vec Ideal S1024x1024 .bf16) (r : Fin 1024) (i : Fin 512) :
    k0_pay1 (k0_pay8 g p w) (ix2 r i) = ∑ k : Fin 1024, p (ix2 0 k) * g (ix2 r k) * w (ix2 ⟨512 + i.val, by omega⟩ k) := by
  unfold_payloads; pointwise

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

/-- The gate's row of a block of eight. -/
def gateRow (X : Vec Ideal S8x1024 .f32) : Vec Ideal S1x1024 .f32 :=
  View.ld X (Rect.unit ![2, 0] ![1, 1024] inb_S8x1024_S1x1024_2_0)
theorem gateRow_at (X : Vec Ideal S8x1024 .f32) (d : Fin 1024) : gateRow X (ix2 0 d) = X (ix2 2 d) :=
  View.ld_unit_apply_of _ _ _ _ _ _ (by intro a; fin_cases a <;> simp [ix2])

/-- The grid point of row block `j`. -/
def pt (j : Fin 4) : Fin cfg0.N := ⟨j.val, lt_of_lt_of_eq (b := 4) j.isLt (by decide)⟩
def row (j : Fin 4) (r : Fin 1024) : Fin 4096 := ⟨1024 * j.val + r.val, by omega⟩

theorem row_all (t : Fin 4096) : ∃ (j : Fin 4) (r : Fin 1024), t = row j r :=
  ⟨⟨t.val / 1024, by omega⟩, ⟨t.val % 1024, by omega⟩, Fin.ext (by simp only [row]; omega)⟩

/-- Arrays of rows agree when they agree row block by row block. -/
theorem ext_rows {n : Nat} {α : Type} (X Y : (⟨2, ![4096, n]⟩ : Shape).Idx → α)
    (h : ∀ (j : Fin 4) (r : Fin 1024) (d : Fin n), X (ix2 (row j r) d) = Y (ix2 (row j r) d)) : X = Y := by
  funext q
  obtain ⟨t, d, rfl⟩ : ∃ (t : Fin 4096) (d : Fin n), q = ix2 t d := ⟨q 0, q 1, by funext a; fin_cases a <;> rfl⟩
  obtain ⟨j, r, rfl⟩ := row_all t
  exact h j r d

/-- The call's arguments. -/
abbrev arg0 (c : Dev nD) : Vec Ideal S4096x1024 .f32 := m ((c : Thread nD τ).loc main_arg0)
abbrev arg1 (c : Dev nD) : Vec Ideal S1024x1024 .f32 := m ((c : Thread nD τ).loc main_arg1)
abbrev arg2 (c : Dev nD) : Vec Ideal S4096x1024 .f32 := m ((c : Thread nD τ).loc main_arg2)
abbrev arg3 (c : Dev nD) : Vec Ideal S3x1024 .f32 := m ((c : Thread nD τ).loc main_arg3)
abbrev arg4 (c : Dev nD) : Vec Ideal S4096x1024 .f32 := m ((c : Thread nD τ).loc main_arg4)

/-- The arrays of the windows when the region is entered. -/
abbrev grad (c : Dev nD) : Vec Ideal S4096x1024 .f32 := V m c main_arg4
abbrev proj (c : Dev nD) : Vec Ideal S4096x1024 .bf16 := V m c main_v1
abbrev wout (c : Dev nD) : Vec Ideal S1024x1024 .bf16 := V m c main_v2
abbrev par (c : Dev nD) : Vec Ideal S8x1024 .f32 := V m c main_v3

theorem blk0 (c : Dev nD) (j : Fin 4) (r d : Fin 1024) :
    (iblk m c 0 (pt j) : Vec Ideal S1024x1024 .f32) (ix2 r d) = grad m c (ix2 (row j r) d) := by
  obtain ⟨e0, e1, e2, e3, -⟩ := idx (pt j)
  have hj : (pt j).val = j.val := rfl
  rw [hj] at e0
  unfold row
  blk_ext [iblk, e0]

theorem blk1 (c : Dev nD) (j : Fin 4) (r d : Fin 1024) :
    (iblk m c 1 (pt j) : Vec Ideal S1024x1024 .bf16) (ix2 r d) = proj m c (ix2 (row j r) d) := by
  obtain ⟨e0, e1, e2, e3, -⟩ := idx (pt j)
  have hj : (pt j).val = j.val := rfl
  rw [hj] at e1
  unfold row
  blk_ext [iblk, e1]

theorem blk2 (c : Dev nD) (j : Fin 4) (a : Fin 1024) (d : Fin 1024) :
    (iblk m c 2 (pt j) : Vec Ideal S1024x1024 .bf16) (ix2 a d) = wout m c (ix2 a d) := by
  obtain ⟨e0, e1, e2, e3, -⟩ := idx (pt j)
  blk_ext [iblk, e2]

theorem blk3 (c : Dev nD) (j : Fin 4) (a : Fin 8) (d : Fin 1024) :
    (iblk m c 3 (pt j) : Vec Ideal S8x1024 .f32) (ix2 a d) = par m c (ix2 a d) := by
  obtain ⟨e0, e1, e2, e3, -⟩ := idx (pt j)
  blk_ext [iblk, e3]

theorem run4 (c : Dev nD) (t : Fin cfg0.N) :
    (outsAt0 m c t.val t.isLt).1 = k0_pay4 (iblk m c 0 t) (gateRow (iblk m c 3 t)) := by
  by_cases h : t.val % 4 = 0
  · rw [outsAt0_A m c t h]; frame_open
    simp (disch := decide) only [↓ View.readCov_skip, ↓ View.readCov_cons_toLoadRect, ↓ View.readCov_fill]
    frame_out
    rfl
  · rw [outsAt0_B m c t h]; frame_open
    simp (disch := decide) only [↓ View.readCov_skip, ↓ View.readCov_cons_toLoadRect, ↓ View.readCov_fill]
    frame_out
    rfl

theorem run5 (c : Dev nD) (t : Fin cfg0.N) :
    (outsAt0 m c t.val t.isLt).2.1 = k0_pay7 (iblk m c 0 t) (gateRow (iblk m c 3 t)) (iblk m c 2 t) := by
  by_cases h : t.val % 4 = 0
  · rw [outsAt0_A m c t h]; frame_open
    simp (disch := decide) only [↓ View.readCov_skip, ↓ View.readCov_cons_toLoadRect, ↓ View.readCov_fill]
    frame_out
    rfl
  · rw [outsAt0_B m c t h]; frame_open
    simp (disch := decide) only [↓ View.readCov_skip, ↓ View.readCov_cons_toLoadRect, ↓ View.readCov_fill]
    frame_out
    rfl

theorem run6 (c : Dev nD) (t : Fin cfg0.N) :
    (outsAt0 m c t.val t.isLt).2.2.1 = k0_pay1 (k0_pay8 (iblk m c 0 t) (gateRow (iblk m c 3 t)) (iblk m c 2 t)) := by
  by_cases h : t.val % 4 = 0
  · rw [outsAt0_A m c t h]; frame_open
    simp (disch := decide) only [↓ View.readCov_skip, ↓ View.readCov_cons_toLoadRect, ↓ View.readCov_fill]
    frame_out
    rfl
  · rw [outsAt0_B m c t h]; frame_open
    simp (disch := decide) only [↓ View.readCov_skip, ↓ View.readCov_cons_toLoadRect, ↓ View.readCov_fill]
    frame_out
    rfl

theorem out4 (c : Dev nD) (j : Fin 4) (r d : Fin 1024) :
    (outsAt0 m c (pt j).val (pt j).isLt).1 (ix2 r d) = par m c (ix2 2 d) * grad m c (ix2 (row j r) d) := by
  rw [run4]
  refine (dp_at _ _ r d).trans ?_
  rw [gateRow_at, blk0, blk3]

theorem out5 (c : Dev nD) (j : Fin 4) (r : Fin 1024) (d : Fin 512) :
    (outsAt0 m c (pt j).val (pt j).isLt).2.1 (ix2 r d) = ∑ k : Fin 1024, par m c (ix2 2 k) * grad m c (ix2 (row j r) k) * wout m c (ix2 ⟨d.val, by omega⟩ k) := by
  rw [run5]
  refine (left_at _ _ _ r d).trans (Finset.sum_congr rfl fun k _ => ?_)
  rw [gateRow_at, blk0, blk2, blk3]

theorem out6 (c : Dev nD) (j : Fin 4) (r : Fin 1024) (d : Fin 512) :
    (outsAt0 m c (pt j).val (pt j).isLt).2.2.1 (ix2 r d) = ∑ k : Fin 1024, par m c (ix2 2 k) * grad m c (ix2 (row j r) k) * wout m c (ix2 ⟨512 + d.val, by omega⟩ k) := by
  rw [run6]
  refine (right_at _ _ _ r d).trans (Finset.sum_congr rfl fun k _ => ?_)
  rw [gateRow_at, blk0, blk2, blk3]

theorem arr4 (c : Dev nD) (j : Fin 4) (r : Fin 1024) (d : Fin 1024) :
    (dats m 0 c).arrAt 4 cfg0.N (ix2 (row j r) d) = par m c (ix2 2 d) * grad m c (ix2 (row j r) d) := by
  have e := (idx (pt j)).2.2.2.2.1
  have hj : (pt j).val = j.val := rfl
  rw [hj] at e
  have h' := congrFun (Value.blocks4 m c (pt j) (flush0_4 _)) (ix2 r d)
  rw [Value.flushed4] at h'
  refine Eq.trans ?_ (h'.trans ?_)
  · unfold row
    blk_ext [e]
  · exact out4 m c j r d

theorem arr5 (c : Dev nD) (j : Fin 4) (r : Fin 1024) (d : Fin 512) :
    (dats m 0 c).arrAt 5 cfg0.N (ix2 (row j r) d) = ∑ k : Fin 1024, par m c (ix2 2 k) * grad m c (ix2 (row j r) k) * wout m c (ix2 ⟨d.val, by omega⟩ k) := by
  have e := (idx (pt j)).2.2.2.2.2.1
  have hj : (pt j).val = j.val := rfl
  rw [hj] at e
  have h' := congrFun (Value.blocks5 m c (pt j) (flush0_5 _)) (ix2 r d)
  rw [Value.flushed5] at h'
  refine Eq.trans ?_ (h'.trans ?_)
  · unfold row
    blk_ext [e]
  · exact out5 m c j r d

theorem arr6 (c : Dev nD) (j : Fin 4) (r : Fin 1024) (d : Fin 512) :
    (dats m 0 c).arrAt 6 cfg0.N (ix2 (row j r) d) = ∑ k : Fin 1024, par m c (ix2 2 k) * grad m c (ix2 (row j r) k) * wout m c (ix2 ⟨512 + d.val, by omega⟩ k) := by
  have e := (idx (pt j)).2.2.2.2.2.2
  have hj : (pt j).val = j.val := rfl
  rw [hj] at e
  have h' := congrFun (Value.blocks6 m c (pt j) (flush0_6 _)) (ix2 r d)
  rw [Value.flushed6] at h'
  refine Eq.trans ?_ (h'.trans ?_)
  · unfold row
    blk_ext [e]
  · exact out6 m c j r d

/-- The gate's row is the only one the points add to; the first point fills the others. -/
theorem run7_A (c : Dev nD) (t : Fin cfg0.N) (h : t.val % 4 = 0) (d : Fin 1024) : (outsAt0 m c t.val t.isLt).2.2.2 (ix2 2 d)
    = k0_pay5 (iblk m c 0 t) (gateRow (k0_pay2 (F := Idealize.ShloMosaic.Ideal))) (iblk m c 1 t) (ix2 0 d) := by
  rw [outsAt0_A m c t h]; frame_open
  simp (disch := decide) only [↓ View.readCov_skip, ↓ View.readCov_cons_toLoadRect, ↓ View.readCov_fill]
  frame_out
  refine (canon_hit _ _ _ _ (ix2 0 d) ?_).trans ?_
  · intro b; fin_cases b <;> simp [ix2]
  · rfl

theorem run7_B (c : Dev nD) (t : Fin cfg0.N) (h : ¬ t.val % 4 = 0) (d : Fin 1024) : (outsAt0 m c t.val t.isLt).2.2.2 (ix2 2 d)
    = k0_pay5 (iblk m c 0 t) (gateRow (outsAt0 m c (t.val - 1) (Nat.lt_of_le_of_lt (Nat.sub_le _ _) t.isLt)).2.2.2) (iblk m c 1 t) (ix2 0 d) := by
  rw [outsAt0_B m c t h]; frame_open
  simp (disch := decide) only [↓ View.readCov_skip, ↓ View.readCov_cons_toLoadRect, ↓ View.readCov_fill]
  frame_out
  refine (View.read_writes_cons_hit_of_coords _ _ _ _ _ (ix2 0 d) _ ?_).trans ?_
  · intro b; fin_cases b <;> simp [ix2]
  · rfl

theorem off_gate (a : Fin 8) (ha : a ≠ 2) : a.val < 2 ∨ 2 + 1 ≤ a.val := by
  have : a.val ≠ 2 := fun e => ha (Fin.ext e)
  omega

theorem rest_A (c : Dev nD) (t : Fin cfg0.N) (h : t.val % 4 = 0) (a : Fin 8) (ha : a ≠ 2) (d : Fin 1024) :
    (outsAt0 m c t.val t.isLt).2.2.2 (ix2 a d) = 0 := by
  rw [outsAt0_A m c t h]; frame_open
  simp (disch := decide) only [↓ View.readCov_skip, ↓ View.readCov_cons_toLoadRect, ↓ View.readCov_fill]
  frame_out
  refine Eq.trans (canon_miss _ _ (ix2 a d) 0 2 1 rfl rfl rfl (off_gate a ha)) ?_
  refine Eq.trans (canon_hit _ _ _ _ (ix2 a d) ?_) ?_; rotate_left
  · exact zero_at a d
  intro b; fin_cases b <;> simp [ix2]

theorem rest_B (c : Dev nD) (t : Fin cfg0.N) (h : ¬ t.val % 4 = 0) (a : Fin 8) (ha : a ≠ 2) (d : Fin 1024) :
    (outsAt0 m c t.val t.isLt).2.2.2 (ix2 a d) = (outsAt0 m c (t.val - 1) (Nat.lt_of_le_of_lt (Nat.sub_le _ _) t.isLt)).2.2.2 (ix2 a d) := by
  rw [outsAt0_B m c t h]; frame_open
  simp (disch := decide) only [↓ View.readCov_skip, ↓ View.readCov_cons_toLoadRect, ↓ View.readCov_fill]
  frame_out
  refine (View.read_writes_cons_miss_of_axis _ _ _ _ _ 0 2 1 rfl rfl rfl (off_gate a ha)).trans ?_
  exact congrFun (Memref.IsWhole.read_unread _ _) _

/-- The rows other than the gate's stay at the fill. -/
theorem rest_zero (c : Dev nD) (a : Fin 8) (ha : a ≠ 2) (d : Fin 1024) : ∀ (k : Nat) (hk : k < 4),
    (outsAt0 m c (pt ⟨k, hk⟩).val (pt ⟨k, hk⟩).isLt).2.2.2 (ix2 a d) = 0
  | 0, hk => rest_A m c (pt ⟨0, hk⟩) rfl a ha d
  | k + 1, hk => (rest_B m c (pt ⟨k + 1, hk⟩) (by show ¬ (k + 1) % 4 = 0; omega) a ha d).trans (rest_zero c a ha d k (Nat.lt_of_succ_lt hk))

theorem added (c : Dev nD) (j : Fin 4) (s : Vec Ideal S1x1024 .f32) (d : Fin 1024) : k0_pay5 (iblk m c 0 (pt j)) s (iblk m c 1 (pt j)) (ix2 0 d)
    = s (ix2 0 d) + ∑ q : Fin 1024, grad m c (ix2 (row j q) d) * proj m c (ix2 (row j q) d) := by
  refine (gate_at _ _ _ d).trans (congrArg _ (Finset.sum_congr rfl fun q _ => ?_))
  rw [blk0, blk1]

theorem gate_A (c : Dev nD) (d : Fin 1024) : (outsAt0 m c (pt 0).val (pt 0).isLt).2.2.2 (ix2 2 d)
    = ∑ q : Fin 1024, grad m c (ix2 (row 0 q) d) * proj m c (ix2 (row 0 q) d) := by
  refine (run7_A m c (pt 0) rfl d).trans ((added m c 0 _ d).trans ?_)
  rw [gateRow_at, zero_at, zero_add]

theorem gate_B (c : Dev nD) (k : Nat) (hk : k + 1 < 4) (d : Fin 1024) : (outsAt0 m c (pt ⟨k + 1, hk⟩).val (pt ⟨k + 1, hk⟩).isLt).2.2.2 (ix2 2 d)
    = (outsAt0 m c (pt ⟨k, Nat.lt_of_succ_lt hk⟩).val (pt ⟨k, Nat.lt_of_succ_lt hk⟩).isLt).2.2.2 (ix2 2 d)
      + ∑ q : Fin 1024, grad m c (ix2 (row ⟨k + 1, hk⟩ q) d) * proj m c (ix2 (row ⟨k + 1, hk⟩ q) d) := by
  refine (run7_B m c (pt ⟨k + 1, hk⟩) (by show ¬ (k + 1) % 4 = 0; omega) d).trans ((added m c ⟨k + 1, hk⟩ _ d).trans ?_)
  rw [gateRow_at]
  rfl

theorem gate_sum (c : Dev nD) (d : Fin 1024) : (outsAt0 m c (pt 3).val (pt 3).isLt).2.2.2 (ix2 2 d)
    = ∑ t : Fin 4096, grad m c (ix2 t d) * proj m c (ix2 t d) :=
  Blocked.sum_points (B := 1024) (n := 3) rfl row (fun _ _ => rfl) (fun t => grad m c (ix2 t d) * proj m c (ix2 t d))
    (fun k => (outsAt0 m c (pt k).val (pt k).isLt).2.2.2 (ix2 2 d)) (gate_A m c d) fun k hk => gate_B m c k hk d

theorem arr7 (c : Dev nD) (a : Fin 8) (d : Fin 1024) : (dats m 0 c).arrAt 7 cfg0.N (ix2 a d) = (outsAt0 m c (pt 3).val (pt 3).isLt).2.2.2 (ix2 a d) := by
  refine congrFun ((dats m 0 c).arrAt_eq_of_after_last 7 (pt 3) (by decide +kernel) (outsAt0 m c (pt 3).val (pt 3).isLt).2.2.2 fun q => ?_) (ix2 a d)
  blk_simp
  rw [after0_7]

theorem grad_eq (c : Dev nD) : grad m c = arg4 m c := V_main_arg4 m c

theorem wout_eq (c : Dev nD) : (wout m c : S1024x1024.Idx → EReal) = arg1 m c := by
  unfold wout V hostOps0 hostOps0_1
  simp only [List.flatten_cons, List.flatten_nil, List.append_nil, List.cons_append, List.nil_append]
  after_results
  rfl

theorem par_gate (c : Dev nD) (d : Fin 1024) : par m c (ix2 2 d) = arg3 m c (ix2 2 d) := by
  have e : par m c = (pad S8x1024 ![0, 0] ![5, 0] ![0, 0] (arg3 m c) (sitofp .f32 (constantI S_ 32 0#32)) pads_S3x1024_S8x1024_050_000 h_S_ : FVec Ideal S8x1024 .f32) := by
    unfold par V hostOps0 hostOps0_1
    simp only [List.flatten_cons, List.flatten_nil, List.append_nil, List.cons_append, List.nil_append]
    after_results
    rfl
  rw [e]; pointwise

theorem proj_at (c : Dev nD) (t : Fin 4096) (d : Fin 1024) : proj m c (ix2 t d)
    = (∑ k : Fin 1024, arg0 m c (ix2 t k) * arg1 m c (ix2 k d) : EReal) := by
  have e : proj m c = (truncf .bf16 (Host.dotGeneral (φ₁ := .f32) (φ₂ := .f32) dot_S4096x1024_S1024x1024_S4096x1024_1_0_0_1_n_n none (arg0 m c)
      (arg1 m c)) bitsLt_bf16_f32 : FVec Ideal S4096x1024 .bf16) := by
    unfold proj V hostOps0 hostOps0_1
    simp only [List.flatten_cons, List.flatten_nil, List.append_nil, List.cons_append, List.nil_append]
    after_results
  rw [e]; pointwise

end Cert.Kernel10Ideal.Out

/-! The claims about the backward output projection. -/
namespace Cert.OutBwd

theorem frame_reference : ∀ (m : (ℓ : Loc Cert.Reference10Ideal.nD Cert.Reference10Ideal.τ Cert.Reference10Ideal.sig) → Buf (Elt Ideal) ℓ) (g : Dev Cert.Reference10Ideal.nD → PrngReg),
    θ_run (Cert.Reference10Ideal.defs (F := Ideal)) (onTc (τ := Cert.Reference10Ideal.τ) (Cert.Reference10Ideal.main (F := Ideal))) ⟨m, fun _ => 0, g⟩
      (fun r => (∀ c : Dev Cert.Reference10Ideal.nD,
        r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
        ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
        ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
        ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
        ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
        ∧ r.2.sem = fun _ => 0) := fun m g =>
  (θ_run Cert.Reference10Ideal.defs _ _).mono (fun r h => ⟨fun c => (h c).2.2.2.2, sem_eq_zero_of_no_sems rfl r.2⟩) (Cert.Reference10Ideal.Value.run m g)

section
open Cert.Reference10Ideal Cert.Reference10Ideal.Read

theorem dp_at (p : Vec Ideal S3x1024 .f32) (g : Vec Ideal S4096x1024 .f32) (t : Fin 4096) (d : Fin 1024) :
    val_main_v21 (F := Ideal) p g (ix2 t d) = p (ix2 2 d) * g (ix2 t d) := by
  unfold val_main_v21 val_main_v18 val_main_v17 val_main_v13
  pointwise

theorem left_at (w : Vec Ideal S1024x1024 .f32) (p : Vec Ideal S3x1024 .f32) (g : Vec Ideal S4096x1024 .f32) (t : Fin 4096) (i : Fin 512) :
    val_main_v22 (F := Ideal) w p g (ix2 t i) = ∑ k : Fin 1024, p (ix2 2 k) * g (ix2 t k) * w (ix2 ⟨i.val, by omega⟩ k) := by
  unfold val_main_v22 val_main_v10 val_main_v6 val_main_v5 val_main_v0
  pointwise

theorem right_at (w : Vec Ideal S1024x1024 .f32) (p : Vec Ideal S3x1024 .f32) (g : Vec Ideal S4096x1024 .f32) (t : Fin 4096) (i : Fin 512) :
    val_main_v23 (F := Ideal) w p g (ix2 t i) = ∑ k : Fin 1024, p (ix2 2 k) * g (ix2 t k) * w (ix2 ⟨512 + i.val, by omega⟩ k) := by
  unfold val_main_v23 val_main_v10 val_main_v6 val_main_v5 val_main_v0
  pointwise

theorem sums_at (x : Vec Ideal S4096x1024 .f32) (w : Vec Ideal S1024x1024 .f32) (g : Vec Ideal S4096x1024 .f32) (d : Fin 1024) :
    val_main_v8 (F := Ideal) x w g (ix1 d) = ∑ t : Fin 4096, g (ix2 t d) * ∑ k : Fin 1024, x (ix2 t k) * w (ix2 k d) := by
  unfold val_main_v8 val_main_v7 val_main_v1 val_main_cst
  pointwise

theorem par_at (x : Vec Ideal S4096x1024 .f32) (w : Vec Ideal S1024x1024 .f32) (g : Vec Ideal S4096x1024 .f32) (d : Fin 1024) :
    val_main_v20 (F := Ideal) x w g (ix2 2 d) = val_main_v8 (F := Ideal) x w g (ix1 d) := by
  unfold val_main_v20 val_main_v11 val_main_v9
  pointwise

theorem rest_at (x : Vec Ideal S4096x1024 .f32) (w : Vec Ideal S1024x1024 .f32) (g : Vec Ideal S4096x1024 .f32) (a : Fin 8) (ha : a ≠ 2) (d : Fin 1024) :
    val_main_v20 (F := Ideal) x w g (ix2 a d) = 0 := by
  unfold val_main_v20 val_main_v11 val_main_v19 val_main_cst_0 val_main_cst_1
  fin_cases a
  · pointwise
  · pointwise
  · exact absurd rfl ha
  all_goals pointwise
end

section
open Cert.Kernel10Ideal Cert.Kernel10Ideal.Gen Cert.Kernel10Ideal.Out

variable (m : (ℓ : Loc Cert.Kernel10Ideal.nD Cert.Kernel10Ideal.τ Cert.Kernel10Ideal.sig) → Buf (Elt Ideal) ℓ) (c : Dev Cert.Kernel10Ideal.nD)

theorem agree_dp : (Cert.Reference10Ideal.Read.val_main_v21 (F := Ideal) (arg3 m c) (arg4 m c) : S4096x1024.Idx → EReal)
    = (dats m 0 c).arrAt 4 cfg0.N :=
  ext_rows _ _ fun j r d => by
    refine (dp_at _ _ _ _).trans (Eq.trans ?_ (arr4 m c j r d).symm)
    rw [par_gate, grad_eq]

theorem agree_left : (Cert.Reference10Ideal.Read.val_main_v22 (F := Ideal) (arg1 m c) (arg3 m c) (arg4 m c) : S4096x512.Idx → EReal)
    = (dats m 0 c).arrAt 5 cfg0.N :=
  ext_rows _ _ fun j r d => by
    refine (left_at _ _ _ _ _).trans (Eq.trans ?_ (arr5 m c j r d).symm)
    exact Finset.sum_congr rfl fun k _ => by rw [par_gate, grad_eq, wout_eq]

theorem agree_right : (Cert.Reference10Ideal.Read.val_main_v23 (F := Ideal) (arg1 m c) (arg3 m c) (arg4 m c) : S4096x512.Idx → EReal)
    = (dats m 0 c).arrAt 6 cfg0.N :=
  ext_rows _ _ fun j r d => by
    refine (right_at _ _ _ _ _).trans (Eq.trans ?_ (arr6 m c j r d).symm)
    exact Finset.sum_congr rfl fun k _ => by rw [par_gate, grad_eq, wout_eq]

theorem agree_par : (Cert.Reference10Ideal.Read.val_main_v20 (F := Ideal) (arg0 m c) (arg1 m c) (arg4 m c) : S8x1024.Idx → EReal)
    = (dats m 0 c).arrAt 7 cfg0.N := by
  funext q
  obtain ⟨a, d, rfl⟩ : ∃ (a : Fin 8) (d : Fin 1024), q = ix2 a d := ⟨q 0, q 1, by funext a; fin_cases a <;> rfl⟩
  by_cases ha : a = 2
  · subst ha
    refine (par_at _ _ _ d).trans ((sums_at _ _ _ d).trans (Eq.trans ?_ ((arr7 m c 2 d).trans (gate_sum m c d)).symm))
    exact Finset.sum_congr rfl fun t _ => by rw [proj_at, grad_eq]
  · exact (rest_at _ _ _ a ha d).trans ((arr7 m c a d).trans (rest_zero m c a ha d 3 (by omega))).symm
end

theorem algebraic : algebraic_Kernel10Ideal_Reference10Ideal := by
  intro m g m' g' hpre hargs
  refine ⟨fun c => (Cert.Kernel10Ideal.Gen.dats m 0 c).arrAt 4 Cert.Kernel10Ideal.cfg0.N, fun c => (Cert.Kernel10Ideal.Gen.dats m 0 c).arrAt 5 Cert.Kernel10Ideal.cfg0.N,
    fun c => (Cert.Kernel10Ideal.Gen.dats m 0 c).arrAt 6 Cert.Kernel10Ideal.cfg0.N, fun c => (Cert.Kernel10Ideal.Gen.dats m 0 c).arrAt 7 Cert.Kernel10Ideal.cfg0.N,
    Cert.Kernel10Ideal.Value.run_blocks m g, ?_⟩
  refine (θ_run Cert.Reference10Ideal.defs _ _).mono (fun r h c => ?_) (Cert.Reference10Ideal.Value.run m' g')
  obtain ⟨e0, e1, e2, e3, k⟩ := h c
  obtain ⟨h0, h1, h2, h3, h4⟩ := hargs c
  refine ⟨?_, ?_, ?_, ?_, k⟩
  · refine (e0.trans (Cert.Reference10Ideal.Read.val_main_v21_eq _ _)).trans ?_; rw [h3, h4]; exact agree_dp m c
  · refine (e1.trans (Cert.Reference10Ideal.Read.val_main_v22_eq _ _ _)).trans ?_; rw [h1, h3, h4]; exact agree_left m c
  · refine (e2.trans (Cert.Reference10Ideal.Read.val_main_v23_eq _ _ _)).trans ?_; rw [h1, h3, h4]; exact agree_right m c
  · refine (e3.trans (Cert.Reference10Ideal.Read.val_main_v20_eq _ _ _)).trans ?_; rw [h0, h1, h4]; exact agree_par m c

end Cert.OutBwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite_ffn
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.SguClaim
public import proofs.«01_k».proof.Proof.FfnClaim
public import proofs.«01_k».proof.Proof.FwdClaim
public import proofs.«01_k».proof.Proof.TokClaim
public import proofs.«01_k».proof.Proof.ProjOut
public import proofs.«01_k».proof.Proof.ProjIn
public import proofs.«01_k».proof.Proof.FfnDown
public import proofs.«01_k».proof.Proof.FfnUp
public import proofs.«01_k».proof.Proof.Out
public import proofs.«01_k».proof.Proof.OutBwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, Cert.Pre_finite.Gen.facts, Cert.Pre_finite_ffn.Gen.facts,
  fun m g _ => Cert.Kernel.Gen.frame m g, fun m g _ => Cert.KernelIdeal.Gen.frame m g, fun m g _ => Cert.KernelIdeal.Gen.frame m g,
  fun m g _ => Cert.Sgu.frame_reference m g, fun m g _ => Cert.Sgu.frame_reference m g,
  fun m g _ => Cert.Kernel2.Gen.frame m g, fun m g _ => Cert.Kernel2Ideal.Gen.frame m g, fun m g _ => Cert.Ffn.frame_reference m g,
  fun m g _ => Cert.Kernel3.Gen.frame m g, fun m g _ => Cert.Kernel3Ideal.Gen.frame m g, fun m g _ => Cert.Fwd.frame_reference m g,
  Cert.Tok.frame_kernel, fun m g _ => Cert.Kernel4Ideal.Tok.frame m g, fun m g _ => Cert.Kernel4Ideal.Tok.frame m g,
  fun m g _ => Cert.Tok.frame_reference m g, fun m g _ => Cert.Tok.frame_reference m g,
  fun m g _ => Cert.Kernel5.Gen.frame m g, fun m g _ => Cert.Kernel5Ideal.Gen.frame m g, fun m g _ => Cert.ProjOut.frame_reference m g,
  fun m g _ => Cert.Kernel6.Gen.frame m g, fun m g _ => Cert.Kernel6Ideal.Gen.frame m g, fun m g _ => Cert.ProjIn.frame_reference m g,
  fun m g _ => Cert.Kernel7.Gen.frame m g, fun m g _ => Cert.Kernel7Ideal.Gen.frame m g, fun m g _ => Cert.FfnDown.frame_reference m g,
  fun m g _ => Cert.Kernel8.Gen.frame m g, fun m g _ => Cert.Kernel8Ideal.Gen.frame m g, fun m g _ => Cert.FfnUp.frame_reference m g,
  fun m g _ => Cert.Kernel9.Gen.frame m g, fun m g _ => Cert.Kernel9Ideal.Gen.frame m g, fun m g _ => Cert.Out.frame_reference m g,
  fun m g _ => Cert.Kernel10.Gen.frame m g, fun m g _ => Cert.Kernel10Ideal.Gen.frame m g, fun m g _ => Cert.OutBwd.frame_reference m g,
  ⟨IdealRules.named_const.statement _ _ _ _ _ rfl, IdealRules.named_const.statement _ _ _ _ _ rfl⟩, Cert.Sgu.algebraic, trivial, Cert.Ffn.algebraic, trivial, Cert.Fwd.algebraic,
  trivial, Cert.Tok.algebraic, trivial, Cert.ProjOut.algebraic, trivial, Cert.ProjIn.algebraic, trivial, Cert.FfnDown.algebraic, trivial, Cert.FfnUp.algebraic, trivial, Cert.Out.algebraic, trivial, Cert.OutBwd.algebraic⟩

end Cert.Proof

end
